-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S4096x4096 : Shape := ⟨2, ![4096, 4096]⟩
abbrev S256x8192 : Shape := ⟨2, ![256, 8192]⟩
abbrev S2x1536x2048 : Shape := ⟨3, ![2, 1536, 2048]⟩
abbrev S256x4096 : Shape := ⟨2, ![256, 4096]⟩
abbrev S48 : Shape := ⟨1, ![48]⟩
abbrev S_ : Shape := ⟨0, ![]⟩
abbrev S2 : Shape := ⟨1, ![2]⟩
abbrev S1 : Shape := ⟨1, ![1]⟩
abbrev S1x1408x2048 : Shape := ⟨3, ![1, 1408, 2048]⟩
abbrev S1408x2048 : Shape := ⟨2, ![1408, 2048]⟩
abbrev S256x2048 : Shape := ⟨2, ![256, 2048]⟩
abbrev S256x1408 : Shape := ⟨2, ![256, 1408]⟩
abbrev S1x1536x2048 : Shape := ⟨3, ![1, 1536, 2048]⟩
abbrev S1536x2048 : Shape := ⟨2, ![1536, 2048]⟩
abbrev S256x1536 : Shape := ⟨2, ![256, 1536]⟩
abbrev S1x1152x2048 : Shape := ⟨3, ![1, 1152, 2048]⟩
abbrev S1152x2048 : Shape := ⟨2, ![1152, 2048]⟩
abbrev S256x1152 : Shape := ⟨2, ![256, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x4096, .f32⟩
  | .local _ .vmem, ⟨0, _⟩ => ⟨S256x8192, .f32⟩
  | .local _ .vmem, ⟨1, _⟩ => ⟨S2x1536x2048, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 2 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_35 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_34 : BitVec 32 := 16#32
  let v62 : BitVec 32 := Scalar.muli v16 c16_i32_34
  let v63 : BitVec 32 := Scalar.addi c0_i32_35 v62
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v64 : BitVec 32 := Scalar.muli v5 c4_i32_36
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v66 : BitVec 32 := Scalar.muli v8 c1_i32_37
  let v67 : BitVec 32 := Scalar.addi v65 v66
  v67.toNat
def k0_dev2 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v68 : BitVec 32 := Scalar.muli v2 c16_i32_39
  let v69 : BitVec 32 := Scalar.addi c0_i32_40 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v70 : BitVec 32 := Scalar.muli v5 c4_i32_41
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_42 : BitVec 32 := 1#32
  let v72 : BitVec 32 := Scalar.muli v27 c1_i32_42
  let v73 : BitVec 32 := Scalar.addi v71 v72
  v73.toNat
def k0_dev3 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v74 : BitVec 32 := Scalar.muli v2 c16_i32_44
  let v75 : BitVec 32 := Scalar.addi c0_i32_45 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v76 : BitVec 32 := Scalar.muli v5 c4_i32_46
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v39 : BitVec 32 := Scalar.subi v8 c1_i32_19
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c1_i32_47 : BitVec 32 := 1#32
  let v78 : BitVec 32 := Scalar.muli v49 c1_i32_47
  let v79 : BitVec 32 := Scalar.addi v77 v78
  v79.toNat
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v80 : BitVec 32 := Scalar.muli v2 c16_i32_49
  let v81 : BitVec 32 := Scalar.addi c0_i32_50 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_51 : BitVec 32 := 4#32
  let v82 : BitVec 32 := Scalar.muli v38 c4_i32_51
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v84 : BitVec 32 := Scalar.muli v8 c1_i32_52
  let v85 : BitVec 32 := Scalar.addi v83 v84
  v85.toNat
def k0_dev5 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v86 : BitVec 32 := Scalar.muli v2 c16_i32_54
  let v87 : BitVec 32 := Scalar.addi c0_i32_55 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_26 : BitVec 32 := 1#32
  let v50 : BitVec 32 := Scalar.subi v5 c1_i32_26
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c4_i32_56 : BitVec 32 := 4#32
  let v88 : BitVec 32 := Scalar.muli v60 c4_i32_56
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v90 : BitVec 32 := Scalar.muli v8 c1_i32_57
  let v91 : BitVec 32 := Scalar.addi v89 v90
  v91.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32 : BitVec 32 := 256#32
  let v93 : BitVec 32 := Scalar.muli v10 c256_i32
  let c0_i32_59 : BitVec 32 := 0#32
  ![v93.toNat, 0]
def k0_off2 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c0_i32_64 : BitVec 32 := 0#32
  ![v15.toNat, 0]
def k0_off3 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c2048_i32 : BitVec 32 := 2048#32
  ![v15.toNat, 2048]
def k0_off4 (d0 : Dev nD) : Fin 2 → Nat :=
  let c0_79 : Index := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let v115 : Index := Scalar.indexCast v15
  ![0, v115.toNat]
def k0_off5 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c4096_i32 : BitVec 32 := 4096#32
  ![v15.toNat, 4096]
def k0_off6 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c6144_i32 : BitVec 32 := 6144#32
  ![v15.toNat, 6144]
def k0_off7 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  let c0_i32_120 : BitVec 32 := 0#32
  ![v92.toNat, 0]
def k0_off8 (d0 : Dev nD) : Fin 2 → Nat :=
  let c0_i32_134 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  ![0, v15.toNat]
def k0_dev6 (d0 : Dev nD) : Nat :=
  let c0_i32_131 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_130 : BitVec 32 := 16#32
  let v182 : BitVec 32 := Scalar.muli v16 c16_i32_130
  let v183 : BitVec 32 := Scalar.addi c0_i32_131 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v184 : BitVec 32 := Scalar.muli v5 c4_i32_132
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v186 : BitVec 32 := Scalar.muli v8 c1_i32_133
  let v187 : BitVec 32 := Scalar.addi v185 v186
  v187.toNat
def k0_off9 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  let c2048_i32_145 : BitVec 32 := 2048#32
  ![v92.toNat, 2048]
def k0_off10 (d0 : Dev nD) : Fin 2 → Nat :=
  let c0_152 : Index := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  let v208 : Index := Scalar.indexCast v92
  ![0, v208.toNat]
def k0_off11 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  let c4096_i32_162 : BitVec 32 := 4096#32
  ![v92.toNat, 4096]
def k0_off12 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  let c6144_i32_180 : BitVec 32 := 6144#32
  ![v92.toNat, 6144]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  let c0_i32_198 : BitVec 32 := 0#32
  ![v13.toNat, 0]
def k0_off14 (d0 : Dev nD) : Fin 2 → Nat :=
  let c0_i32_213 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_3 v2
  let c1152_i32_4 : BitVec 32 := 1152#32
  let v15 : BitVec 32 := Scalar.muli v14 c1152_i32_4
  let c1408_i32_58 : BitVec 32 := 1408#32
  let v92 : BitVec 32 := Scalar.addi v15 c1408_i32_58
  ![0, v92.toNat]
def k0_dev7 (d0 : Dev nD) : Nat :=
  let c0_i32_210 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_209 : BitVec 32 := 16#32
  let v275 : BitVec 32 := Scalar.muli v16 c16_i32_209
  let v276 : BitVec 32 := Scalar.addi c0_i32_210 v275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_211 : BitVec 32 := 4#32
  let v277 : BitVec 32 := Scalar.muli v5 c4_i32_211
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v279 : BitVec 32 := Scalar.muli v8 c1_i32_212
  let v280 : BitVec 32 := Scalar.addi v278 v279
  v280.toNat
def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  let c2048_i32_224 : BitVec 32 := 2048#32
  ![v13.toNat, 2048]
def k0_off16 (d0 : Dev nD) : Fin 2 → Nat :=
  let c0_231 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  let v301 : Index := Scalar.indexCast v13
  ![0, v301.toNat]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  let c4096_i32_241 : BitVec 32 := 4096#32
  ![v13.toNat, 4096]
def k0_off18 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  let c6144_i32_259 : BitVec 32 := 6144#32
  ![v13.toNat, 6144]
def k0_off19 (d0 : Dev nD) : Fin 2 → Nat :=
  let c0_1028 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  let v1527 : Index := Scalar.indexCast v11
  ![0, v1527.toNat]
def k0_off20 (d0 : Dev nD) (c0_i32_281 : BitVec 32) (c0_i32_288 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v363 : BitVec 32 := Scalar.subi v5 c0_i32_281
  let c4_i32_282 : BitVec 32 := 4#32
  let c0_i32_283 : BitVec 32 := 0#32
  let v364 : BitVec 1 := Scalar.cmpi .eq c4_i32_282 c0_i32_283
  let c1_i32_284 : BitVec 32 := 1#32
  let v365 : BitVec 32 := Scalar.select v364 c1_i32_284 c4_i32_282
  let v366 : BitVec 32 := Scalar.remsi v363 v365
  let c0_i32_286 : BitVec 32 := 0#32
  let v368 : BitVec 1 := Scalar.cmpi .slt v366 c0_i32_286
  let c0_i32_287 : BitVec 32 := 0#32
  let v369 : BitVec 1 := Scalar.cmpi .slt v365 c0_i32_287
  let v370 : BitVec 1 := Scalar.xori v368 v369
  let c0_i32_285 : BitVec 32 := 0#32
  let v367 : BitVec 1 := Scalar.cmpi .ne v366 c0_i32_285
  let v371 : BitVec 1 := Scalar.andi v370 v367
  let v372 : BitVec 32 := Scalar.addi v366 v365
  let v373 : BitVec 32 := Scalar.select v371 v372 v366
  let c1024_i32 : BitVec 32 := 1024#32
  let v374 : BitVec 32 := Scalar.muli v373 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v375 : BitVec 32 := Scalar.subi v8 c0_i32_288
  let c4_i32_289 : BitVec 32 := 4#32
  let c0_i32_290 : BitVec 32 := 0#32
  let v376 : BitVec 1 := Scalar.cmpi .eq c4_i32_289 c0_i32_290
  let c1_i32_291 : BitVec 32 := 1#32
  let v377 : BitVec 32 := Scalar.select v376 c1_i32_291 c4_i32_289
  let v378 : BitVec 32 := Scalar.remsi v375 v377
  let c0_i32_293 : BitVec 32 := 0#32
  let v380 : BitVec 1 := Scalar.cmpi .slt v378 c0_i32_293
  let c0_i32_294 : BitVec 32 := 0#32
  let v381 : BitVec 1 := Scalar.cmpi .slt v377 c0_i32_294
  let v382 : BitVec 1 := Scalar.xori v380 v381
  let c0_i32_292 : BitVec 32 := 0#32
  let v379 : BitVec 1 := Scalar.cmpi .ne v378 c0_i32_292
  let v383 : BitVec 1 := Scalar.andi v382 v379
  let v384 : BitVec 32 := Scalar.addi v378 v377
  let v385 : BitVec 32 := Scalar.select v383 v384 v378
  let c256_i32_295 : BitVec 32 := 256#32
  let v386 : BitVec 32 := Scalar.muli v385 c256_i32_295
  let v387 : BitVec 32 := Scalar.addi v374 v386
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  ![v387.toNat, v11.toNat]
def k0_off21 (d0 : Dev nD) : Fin 2 → Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  ![0, v11.toNat]
def k0_dev8 (d0 : Dev nD) : Nat :=
  let c0_i32_1034 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1033 : BitVec 32 := 16#32
  let v1536 : BitVec 32 := Scalar.muli v2 c16_i32_1033
  let v1537 : BitVec 32 := Scalar.addi c0_i32_1034 v1536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1035 : BitVec 32 := 4#32
  let v1538 : BitVec 32 := Scalar.muli v5 c4_i32_1035
  let v1539 : BitVec 32 := Scalar.addi v1537 v1538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1036 : BitVec 32 := 1#32
  let v1540 : BitVec 32 := Scalar.muli v27 c1_i32_1036
  let v1541 : BitVec 32 := Scalar.addi v1539 v1540
  v1541.toNat
def k0_dev9 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1548 : BitVec 32 := Scalar.muli v2 c16_i32_1039
  let v1549 : BitVec 32 := Scalar.addi c0_i32_1040 v1548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1041 : BitVec 32 := 4#32
  let v1550 : BitVec 32 := Scalar.muli v38 c4_i32_1041
  let v1551 : BitVec 32 := Scalar.addi v1549 v1550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1042 : BitVec 32 := 1#32
  let v1552 : BitVec 32 := Scalar.muli v8 c1_i32_1042
  let v1553 : BitVec 32 := Scalar.addi v1551 v1552
  v1553.toNat
def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32_1044 : BitVec 32 := 256#32
  let v1560 : BitVec 32 := Scalar.muli v10 c256_i32_1044
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  ![v1560.toNat, v11.toNat]
def k0_off23 (d0 : Dev nD) : Fin 2 → Nat :=
  let c0_1059 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  let c1408_i32 : BitVec 32 := 1408#32
  let v12 : BitVec 32 := Scalar.addi v11 c1408_i32
  let v1577 : Index := Scalar.indexCast v12
  ![0, v1577.toNat]
def k0_off24 (d0 : Dev nD) (c0_i32_328 : BitVec 32) (c0_i32_336 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v438 : BitVec 32 := Scalar.subi v5 c0_i32_328
  let c4_i32_329 : BitVec 32 := 4#32
  let c0_i32_330 : BitVec 32 := 0#32
  let v439 : BitVec 1 := Scalar.cmpi .eq c4_i32_329 c0_i32_330
  let c1_i32_331 : BitVec 32 := 1#32
  let v440 : BitVec 32 := Scalar.select v439 c1_i32_331 c4_i32_329
  let v441 : BitVec 32 := Scalar.remsi v438 v440
  let c0_i32_333 : BitVec 32 := 0#32
  let v443 : BitVec 1 := Scalar.cmpi .slt v441 c0_i32_333
  let c0_i32_334 : BitVec 32 := 0#32
  let v444 : BitVec 1 := Scalar.cmpi .slt v440 c0_i32_334
  let v445 : BitVec 1 := Scalar.xori v443 v444
  let c0_i32_332 : BitVec 32 := 0#32
  let v442 : BitVec 1 := Scalar.cmpi .ne v441 c0_i32_332
  let v446 : BitVec 1 := Scalar.andi v445 v442
  let v447 : BitVec 32 := Scalar.addi v441 v440
  let v448 : BitVec 32 := Scalar.select v446 v447 v441
  let c1024_i32_335 : BitVec 32 := 1024#32
  let v449 : BitVec 32 := Scalar.muli v448 c1024_i32_335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v450 : BitVec 32 := Scalar.subi v8 c0_i32_336
  let c4_i32_337 : BitVec 32 := 4#32
  let c0_i32_338 : BitVec 32 := 0#32
  let v451 : BitVec 1 := Scalar.cmpi .eq c4_i32_337 c0_i32_338
  let c1_i32_339 : BitVec 32 := 1#32
  let v452 : BitVec 32 := Scalar.select v451 c1_i32_339 c4_i32_337
  let v453 : BitVec 32 := Scalar.remsi v450 v452
  let c0_i32_341 : BitVec 32 := 0#32
  let v455 : BitVec 1 := Scalar.cmpi .slt v453 c0_i32_341
  let c0_i32_342 : BitVec 32 := 0#32
  let v456 : BitVec 1 := Scalar.cmpi .slt v452 c0_i32_342
  let v457 : BitVec 1 := Scalar.xori v455 v456
  let c0_i32_340 : BitVec 32 := 0#32
  let v454 : BitVec 1 := Scalar.cmpi .ne v453 c0_i32_340
  let v458 : BitVec 1 := Scalar.andi v457 v454
  let v459 : BitVec 32 := Scalar.addi v453 v452
  let v460 : BitVec 32 := Scalar.select v458 v459 v453
  let c256_i32_343 : BitVec 32 := 256#32
  let v461 : BitVec 32 := Scalar.muli v460 c256_i32_343
  let v462 : BitVec 32 := Scalar.addi v449 v461
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  let c1408_i32 : BitVec 32 := 1408#32
  let v12 : BitVec 32 := Scalar.addi v11 c1408_i32
  ![v462.toNat, v12.toNat]
def k0_off25 (d0 : Dev nD) : Fin 2 → Nat :=
  let c0_i32_1068 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  let c1408_i32 : BitVec 32 := 1408#32
  let v12 : BitVec 32 := Scalar.addi v11 c1408_i32
  ![0, v12.toNat]
def k0_dev10 (d0 : Dev nD) : Nat :=
  let c0_i32_1065 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1064 : BitVec 32 := 16#32
  let v1586 : BitVec 32 := Scalar.muli v2 c16_i32_1064
  let v1587 : BitVec 32 := Scalar.addi c0_i32_1065 v1586
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1066 : BitVec 32 := 4#32
  let v1588 : BitVec 32 := Scalar.muli v38 c4_i32_1066
  let v1589 : BitVec 32 := Scalar.addi v1587 v1588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1067 : BitVec 32 := 1#32
  let v1590 : BitVec 32 := Scalar.muli v8 c1_i32_1067
  let v1591 : BitVec 32 := Scalar.addi v1589 v1590
  v1591.toNat
def k0_dev11 (d0 : Dev nD) : Nat :=
  let c0_i32_1071 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1070 : BitVec 32 := 16#32
  let v1598 : BitVec 32 := Scalar.muli v2 c16_i32_1070
  let v1599 : BitVec 32 := Scalar.addi c0_i32_1071 v1598
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1072 : BitVec 32 := 4#32
  let v1600 : BitVec 32 := Scalar.muli v5 c4_i32_1072
  let v1601 : BitVec 32 := Scalar.addi v1599 v1600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1073 : BitVec 32 := 1#32
  let v1602 : BitVec 32 := Scalar.muli v27 c1_i32_1073
  let v1603 : BitVec 32 := Scalar.addi v1601 v1602
  v1603.toNat
def k0_off26 (d0 : Dev nD) (c0_i32_759 : BitVec 32) (c0_i32_767 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1113 : BitVec 32 := Scalar.subi v5 c0_i32_759
  let c4_i32_760 : BitVec 32 := 4#32
  let c0_i32_761 : BitVec 32 := 0#32
  let v1114 : BitVec 1 := Scalar.cmpi .eq c4_i32_760 c0_i32_761
  let c1_i32_762 : BitVec 32 := 1#32
  let v1115 : BitVec 32 := Scalar.select v1114 c1_i32_762 c4_i32_760
  let v1116 : BitVec 32 := Scalar.remsi v1113 v1115
  let c0_i32_764 : BitVec 32 := 0#32
  let v1118 : BitVec 1 := Scalar.cmpi .slt v1116 c0_i32_764
  let c0_i32_765 : BitVec 32 := 0#32
  let v1119 : BitVec 1 := Scalar.cmpi .slt v1115 c0_i32_765
  let v1120 : BitVec 1 := Scalar.xori v1118 v1119
  let c0_i32_763 : BitVec 32 := 0#32
  let v1117 : BitVec 1 := Scalar.cmpi .ne v1116 c0_i32_763
  let v1121 : BitVec 1 := Scalar.andi v1120 v1117
  let v1122 : BitVec 32 := Scalar.addi v1116 v1115
  let v1123 : BitVec 32 := Scalar.select v1121 v1122 v1116
  let c1024_i32_766 : BitVec 32 := 1024#32
  let v1124 : BitVec 32 := Scalar.muli v1123 c1024_i32_766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1125 : BitVec 32 := Scalar.subi v8 c0_i32_767
  let c4_i32_768 : BitVec 32 := 4#32
  let c0_i32_769 : BitVec 32 := 0#32
  let v1126 : BitVec 1 := Scalar.cmpi .eq c4_i32_768 c0_i32_769
  let c1_i32_770 : BitVec 32 := 1#32
  let v1127 : BitVec 32 := Scalar.select v1126 c1_i32_770 c4_i32_768
  let v1128 : BitVec 32 := Scalar.remsi v1125 v1127
  let c0_i32_772 : BitVec 32 := 0#32
  let v1130 : BitVec 1 := Scalar.cmpi .slt v1128 c0_i32_772
  let c0_i32_773 : BitVec 32 := 0#32
  let v1131 : BitVec 1 := Scalar.cmpi .slt v1127 c0_i32_773
  let v1132 : BitVec 1 := Scalar.xori v1130 v1131
  let c0_i32_771 : BitVec 32 := 0#32
  let v1129 : BitVec 1 := Scalar.cmpi .ne v1128 c0_i32_771
  let v1133 : BitVec 1 := Scalar.andi v1132 v1129
  let v1134 : BitVec 32 := Scalar.addi v1128 v1127
  let v1135 : BitVec 32 := Scalar.select v1133 v1134 v1128
  let c256_i32_774 : BitVec 32 := 256#32
  let v1136 : BitVec 32 := Scalar.muli v1135 c256_i32_774
  let v1137 : BitVec 32 := Scalar.addi v1124 v1136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  ![v1137.toNat, v13.toNat]
def k0_off27 (d0 : Dev nD) : Fin 2 → Nat :=
  let c0_i32_1080 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2944_i32 : BitVec 32 := 2944#32
  let v13 : BitVec 32 := Scalar.muli v2 c2944_i32
  ![0, v13.toNat]
def k0_dev12 (d0 : Dev nD) : Nat :=
  let c0_i32_1077 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1076 : BitVec 32 := 16#32
  let v1610 : BitVec 32 := Scalar.muli v16 c16_i32_1076
  let v1611 : BitVec 32 := Scalar.addi c0_i32_1077 v1610
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1078 : BitVec 32 := 4#32
  let v1612 : BitVec 32 := Scalar.muli v5 c4_i32_1078
  let v1613 : BitVec 32 := Scalar.addi v1611 v1612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1079 : BitVec 32 := 1#32
  let v1614 : BitVec 32 := Scalar.muli v8 c1_i32_1079
  let v1615 : BitVec 32 := Scalar.addi v1613 v1614
  v1615.toNat
def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32_1082 : BitVec 32 := 256#32
  let v1624 : BitVec 32 := Scalar.muli v10 c256_i32_1082
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1152_i32 : BitVec 32 := 1152#32
  let v11 : BitVec 32 := Scalar.muli v2 c1152_i32
  let c1408_i32 : BitVec 32 := 1408#32
  let v12 : BitVec 32 := Scalar.addi v11 c1408_i32
  ![v1624.toNat, v12.toNat]
def k0_dev13 (d0 : Dev nD) : Nat :=
  let c0_i32_1094 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1093 : BitVec 32 := 16#32
  let v1637 : BitVec 32 := Scalar.muli v2 c16_i32_1093
  let v1638 : BitVec 32 := Scalar.addi c0_i32_1094 v1637
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1095 : BitVec 32 := 4#32
  let v1639 : BitVec 32 := Scalar.muli v5 c4_i32_1095
  let v1640 : BitVec 32 := Scalar.addi v1638 v1639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1096 : BitVec 32 := 1#32
  let v1641 : BitVec 32 := Scalar.muli v27 c1_i32_1096
  let v1642 : BitVec 32 := Scalar.addi v1640 v1641
  v1642.toNat
def k0_dev14 (d0 : Dev nD) : Nat :=
  let c0_i32_1099 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1098 : BitVec 32 := 16#32
  let v1649 : BitVec 32 := Scalar.muli v2 c16_i32_1098
  let v1650 : BitVec 32 := Scalar.addi c0_i32_1099 v1649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1100 : BitVec 32 := 4#32
  let v1651 : BitVec 32 := Scalar.muli v38 c4_i32_1100
  let v1652 : BitVec 32 := Scalar.addi v1650 v1651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1101 : BitVec 32 := 1#32
  let v1653 : BitVec 32 := Scalar.muli v8 c1_i32_1101
  let v1654 : BitVec 32 := Scalar.addi v1652 v1653
  v1654.toNat
def k0_dev15 (d0 : Dev nD) : Nat :=
  let c0_i32_1111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1110 : BitVec 32 := 16#32
  let v1671 : BitVec 32 := Scalar.muli v2 c16_i32_1110
  let v1672 : BitVec 32 := Scalar.addi c0_i32_1111 v1671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1112 : BitVec 32 := 4#32
  let v1673 : BitVec 32 := Scalar.muli v38 c4_i32_1112
  let v1674 : BitVec 32 := Scalar.addi v1672 v1673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1113 : BitVec 32 := 1#32
  let v1675 : BitVec 32 := Scalar.muli v8 c1_i32_1113
  let v1676 : BitVec 32 := Scalar.addi v1674 v1675
  v1676.toNat
def k0_dev16 (d0 : Dev nD) : Nat :=
  let c0_i32_1116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1115 : BitVec 32 := 16#32
  let v1683 : BitVec 32 := Scalar.muli v2 c16_i32_1115
  let v1684 : BitVec 32 := Scalar.addi c0_i32_1116 v1683
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1117 : BitVec 32 := 4#32
  let v1685 : BitVec 32 := Scalar.muli v5 c4_i32_1117
  let v1686 : BitVec 32 := Scalar.addi v1684 v1685
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1118 : BitVec 32 := 1#32
  let v1687 : BitVec 32 := Scalar.muli v27 c1_i32_1118
  let v1688 : BitVec 32 := Scalar.addi v1686 v1687
  v1688.toNat
def k0_dev17 (d0 : Dev nD) : Nat :=
  let c0_i32_1128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1127 : BitVec 32 := 16#32
  let v1705 : BitVec 32 := Scalar.muli v2 c16_i32_1127
  let v1706 : BitVec 32 := Scalar.addi c0_i32_1128 v1705
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1129 : BitVec 32 := 4#32
  let v1707 : BitVec 32 := Scalar.muli v5 c4_i32_1129
  let v1708 : BitVec 32 := Scalar.addi v1706 v1707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1130 : BitVec 32 := 1#32
  let v1709 : BitVec 32 := Scalar.muli v27 c1_i32_1130
  let v1710 : BitVec 32 := Scalar.addi v1708 v1709
  v1710.toNat
def k0_dev18 (d0 : Dev nD) : Nat :=
  let c0_i32_1133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1132 : BitVec 32 := 16#32
  let v1717 : BitVec 32 := Scalar.muli v2 c16_i32_1132
  let v1718 : BitVec 32 := Scalar.addi c0_i32_1133 v1717
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1134 : BitVec 32 := 4#32
  let v1719 : BitVec 32 := Scalar.muli v38 c4_i32_1134
  let v1720 : BitVec 32 := Scalar.addi v1718 v1719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v1721 : BitVec 32 := Scalar.muli v8 c1_i32_1135
  let v1722 : BitVec 32 := Scalar.addi v1720 v1721
  v1722.toNat
def k0_dev19 (d0 : Dev nD) : Nat :=
  let c0_i32_1144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1143 : BitVec 32 := 16#32
  let v1739 : BitVec 32 := Scalar.muli v2 c16_i32_1143
  let v1740 : BitVec 32 := Scalar.addi c0_i32_1144 v1739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1145 : BitVec 32 := 4#32
  let v1741 : BitVec 32 := Scalar.muli v38 c4_i32_1145
  let v1742 : BitVec 32 := Scalar.addi v1740 v1741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1146 : BitVec 32 := 1#32
  let v1743 : BitVec 32 := Scalar.muli v8 c1_i32_1146
  let v1744 : BitVec 32 := Scalar.addi v1742 v1743
  v1744.toNat
def k0_dev20 (d0 : Dev nD) : Nat :=
  let c0_i32_1149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1148 : BitVec 32 := 16#32
  let v1751 : BitVec 32 := Scalar.muli v2 c16_i32_1148
  let v1752 : BitVec 32 := Scalar.addi c0_i32_1149 v1751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1150 : BitVec 32 := 4#32
  let v1753 : BitVec 32 := Scalar.muli v5 c4_i32_1150
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1151 : BitVec 32 := 1#32
  let v1755 : BitVec 32 := Scalar.muli v27 c1_i32_1151
  let v1756 : BitVec 32 := Scalar.addi v1754 v1755
  v1756.toNat
def k0_dev21 (d0 : Dev nD) : Nat :=
  let c0_i32_1160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1159 : BitVec 32 := 16#32
  let v1773 : BitVec 32 := Scalar.muli v2 c16_i32_1159
  let v1774 : BitVec 32 := Scalar.addi c0_i32_1160 v1773
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1161 : BitVec 32 := 4#32
  let v1775 : BitVec 32 := Scalar.muli v38 c4_i32_1161
  let v1776 : BitVec 32 := Scalar.addi v1774 v1775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1162 : BitVec 32 := 1#32
  let v1777 : BitVec 32 := Scalar.muli v8 c1_i32_1162
  let v1778 : BitVec 32 := Scalar.addi v1776 v1777
  v1778.toNat
def k0_dev22 (d0 : Dev nD) : Nat :=
  let c0_i32_1171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1170 : BitVec 32 := 16#32
  let v1795 : BitVec 32 := Scalar.muli v2 c16_i32_1170
  let v1796 : BitVec 32 := Scalar.addi c0_i32_1171 v1795
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1172 : BitVec 32 := 4#32
  let v1797 : BitVec 32 := Scalar.muli v5 c4_i32_1172
  let v1798 : BitVec 32 := Scalar.addi v1796 v1797
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1173 : BitVec 32 := 1#32
  let v1799 : BitVec 32 := Scalar.muli v27 c1_i32_1173
  let v1800 : BitVec 32 := Scalar.addi v1798 v1799
  v1800.toNat
def k0_dev23 (d0 : Dev nD) : Nat :=
  let c0_i32_1183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1182 : BitVec 32 := 16#32
  let v1817 : BitVec 32 := Scalar.muli v2 c16_i32_1182
  let v1818 : BitVec 32 := Scalar.addi c0_i32_1183 v1817
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1184 : BitVec 32 := 4#32
  let v1819 : BitVec 32 := Scalar.muli v38 c4_i32_1184
  let v1820 : BitVec 32 := Scalar.addi v1818 v1819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1185 : BitVec 32 := 1#32
  let v1821 : BitVec 32 := Scalar.muli v8 c1_i32_1185
  let v1822 : BitVec 32 := Scalar.addi v1820 v1821
  v1822.toNat
def k0_dev24 (d0 : Dev nD) : Nat :=
  let c0_i32_1188 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1187 : BitVec 32 := 16#32
  let v1829 : BitVec 32 := Scalar.muli v16 c16_i32_1187
  let v1830 : BitVec 32 := Scalar.addi c0_i32_1188 v1829
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1189 : BitVec 32 := 4#32
  let v1831 : BitVec 32 := Scalar.muli v5 c4_i32_1189
  let v1832 : BitVec 32 := Scalar.addi v1830 v1831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1190 : BitVec 32 := 1#32
  let v1833 : BitVec 32 := Scalar.muli v8 c1_i32_1190
  let v1834 : BitVec 32 := Scalar.addi v1832 v1833
  v1834.toNat
def k0_dev25 (d0 : Dev nD) : Nat :=
  let c0_i32_1200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1199 : BitVec 32 := 16#32
  let v1851 : BitVec 32 := Scalar.muli v2 c16_i32_1199
  let v1852 : BitVec 32 := Scalar.addi c0_i32_1200 v1851
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1201 : BitVec 32 := 4#32
  let v1853 : BitVec 32 := Scalar.muli v5 c4_i32_1201
  let v1854 : BitVec 32 := Scalar.addi v1852 v1853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1202 : BitVec 32 := 1#32
  let v1855 : BitVec 32 := Scalar.muli v27 c1_i32_1202
  let v1856 : BitVec 32 := Scalar.addi v1854 v1855
  v1856.toNat
def k0_dev26 (d0 : Dev nD) : Nat :=
  let c0_i32_1205 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1204 : BitVec 32 := 16#32
  let v1863 : BitVec 32 := Scalar.muli v16 c16_i32_1204
  let v1864 : BitVec 32 := Scalar.addi c0_i32_1205 v1863
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1206 : BitVec 32 := 4#32
  let v1865 : BitVec 32 := Scalar.muli v5 c4_i32_1206
  let v1866 : BitVec 32 := Scalar.addi v1864 v1865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1867 : BitVec 32 := Scalar.muli v8 c1_i32_1207
  let v1868 : BitVec 32 := Scalar.addi v1866 v1867
  v1868.toNat
def k0_dev27 (d0 : Dev nD) : Nat :=
  let c0_i32_1216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1215 : BitVec 32 := 16#32
  let v1885 : BitVec 32 := Scalar.muli v2 c16_i32_1215
  let v1886 : BitVec 32 := Scalar.addi c0_i32_1216 v1885
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1217 : BitVec 32 := 4#32
  let v1887 : BitVec 32 := Scalar.muli v38 c4_i32_1217
  let v1888 : BitVec 32 := Scalar.addi v1886 v1887
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1218 : BitVec 32 := 1#32
  let v1889 : BitVec 32 := Scalar.muli v8 c1_i32_1218
  let v1890 : BitVec 32 := Scalar.addi v1888 v1889
  v1890.toNat
def k0_dev28 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1907 : BitVec 32 := Scalar.muli v2 c16_i32_1226
  let v1908 : BitVec 32 := Scalar.addi c0_i32_1227 v1907
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1228 : BitVec 32 := 4#32
  let v1909 : BitVec 32 := Scalar.muli v5 c4_i32_1228
  let v1910 : BitVec 32 := Scalar.addi v1908 v1909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1229 : BitVec 32 := 1#32
  let v1911 : BitVec 32 := Scalar.muli v27 c1_i32_1229
  let v1912 : BitVec 32 := Scalar.addi v1910 v1911
  v1912.toNat
def k0_dev29 (d0 : Dev nD) : Nat :=
  let c0_i32_1232 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1231 : BitVec 32 := 16#32
  let v1919 : BitVec 32 := Scalar.muli v16 c16_i32_1231
  let v1920 : BitVec 32 := Scalar.addi c0_i32_1232 v1919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1233 : BitVec 32 := 4#32
  let v1921 : BitVec 32 := Scalar.muli v5 c4_i32_1233
  let v1922 : BitVec 32 := Scalar.addi v1920 v1921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1234 : BitVec 32 := 1#32
  let v1923 : BitVec 32 := Scalar.muli v8 c1_i32_1234
  let v1924 : BitVec 32 := Scalar.addi v1922 v1923
  v1924.toNat
def k0_dev30 (d0 : Dev nD) : Nat :=
  let c0_i32_1243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1242 : BitVec 32 := 16#32
  let v1941 : BitVec 32 := Scalar.muli v2 c16_i32_1242
  let v1942 : BitVec 32 := Scalar.addi c0_i32_1243 v1941
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1244 : BitVec 32 := 4#32
  let v1943 : BitVec 32 := Scalar.muli v38 c4_i32_1244
  let v1944 : BitVec 32 := Scalar.addi v1942 v1943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1245 : BitVec 32 := 1#32
  let v1945 : BitVec 32 := Scalar.muli v8 c1_i32_1245
  let v1946 : BitVec 32 := Scalar.addi v1944 v1945
  v1946.toNat
def k0_dev31 (d0 : Dev nD) : Nat :=
  let c0_i32_1254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1253 : BitVec 32 := 16#32
  let v1963 : BitVec 32 := Scalar.muli v2 c16_i32_1253
  let v1964 : BitVec 32 := Scalar.addi c0_i32_1254 v1963
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1255 : BitVec 32 := 4#32
  let v1965 : BitVec 32 := Scalar.muli v5 c4_i32_1255
  let v1966 : BitVec 32 := Scalar.addi v1964 v1965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1256 : BitVec 32 := 1#32
  let v1967 : BitVec 32 := Scalar.muli v27 c1_i32_1256
  let v1968 : BitVec 32 := Scalar.addi v1966 v1967
  v1968.toNat
def k0_dev32 (d0 : Dev nD) : Nat :=
  let c0_i32_1265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1264 : BitVec 32 := 16#32
  let v1985 : BitVec 32 := Scalar.muli v2 c16_i32_1264
  let v1986 : BitVec 32 := Scalar.addi c0_i32_1265 v1985
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1266 : BitVec 32 := 4#32
  let v1987 : BitVec 32 := Scalar.muli v38 c4_i32_1266
  let v1988 : BitVec 32 := Scalar.addi v1986 v1987
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1267 : BitVec 32 := 1#32
  let v1989 : BitVec 32 := Scalar.muli v8 c1_i32_1267
  let v1990 : BitVec 32 := Scalar.addi v1988 v1989
  v1990.toNat
def k0_dev33 (d0 : Dev nD) : Nat :=
  let c0_i32_1276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1275 : BitVec 32 := 16#32
  let v2007 : BitVec 32 := Scalar.muli v2 c16_i32_1275
  let v2008 : BitVec 32 := Scalar.addi c0_i32_1276 v2007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1277 : BitVec 32 := 4#32
  let v2009 : BitVec 32 := Scalar.muli v5 c4_i32_1277
  let v2010 : BitVec 32 := Scalar.addi v2008 v2009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1278 : BitVec 32 := 1#32
  let v2011 : BitVec 32 := Scalar.muli v27 c1_i32_1278
  let v2012 : BitVec 32 := Scalar.addi v2010 v2011
  v2012.toNat
def k0_dev34 (d0 : Dev nD) : Nat :=
  let c0_i32_1288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1287 : BitVec 32 := 16#32
  let v2029 : BitVec 32 := Scalar.muli v2 c16_i32_1287
  let v2030 : BitVec 32 := Scalar.addi c0_i32_1288 v2029
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1289 : BitVec 32 := 4#32
  let v2031 : BitVec 32 := Scalar.muli v38 c4_i32_1289
  let v2032 : BitVec 32 := Scalar.addi v2030 v2031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1290 : BitVec 32 := 1#32
  let v2033 : BitVec 32 := Scalar.muli v8 c1_i32_1290
  let v2034 : BitVec 32 := Scalar.addi v2032 v2033
  v2034.toNat
def k0_dev35 (d0 : Dev nD) : Nat :=
  let c0_i32_1293 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1292 : BitVec 32 := 16#32
  let v2041 : BitVec 32 := Scalar.muli v16 c16_i32_1292
  let v2042 : BitVec 32 := Scalar.addi c0_i32_1293 v2041
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1294 : BitVec 32 := 4#32
  let v2043 : BitVec 32 := Scalar.muli v5 c4_i32_1294
  let v2044 : BitVec 32 := Scalar.addi v2042 v2043
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1295 : BitVec 32 := 1#32
  let v2045 : BitVec 32 := Scalar.muli v8 c1_i32_1295
  let v2046 : BitVec 32 := Scalar.addi v2044 v2045
  v2046.toNat
def k0_dev36 (d0 : Dev nD) : Nat :=
  let c0_i32_1304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1303 : BitVec 32 := 16#32
  let v2063 : BitVec 32 := Scalar.muli v2 c16_i32_1303
  let v2064 : BitVec 32 := Scalar.addi c0_i32_1304 v2063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1305 : BitVec 32 := 4#32
  let v2065 : BitVec 32 := Scalar.muli v5 c4_i32_1305
  let v2066 : BitVec 32 := Scalar.addi v2064 v2065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1306 : BitVec 32 := 1#32
  let v2067 : BitVec 32 := Scalar.muli v27 c1_i32_1306
  let v2068 : BitVec 32 := Scalar.addi v2066 v2067
  v2068.toNat
def k0_dev37 (d0 : Dev nD) : Nat :=
  let c0_i32_1309 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1308 : BitVec 32 := 16#32
  let v2075 : BitVec 32 := Scalar.muli v16 c16_i32_1308
  let v2076 : BitVec 32 := Scalar.addi c0_i32_1309 v2075
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1310 : BitVec 32 := 4#32
  let v2077 : BitVec 32 := Scalar.muli v5 c4_i32_1310
  let v2078 : BitVec 32 := Scalar.addi v2076 v2077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1311 : BitVec 32 := 1#32
  let v2079 : BitVec 32 := Scalar.muli v8 c1_i32_1311
  let v2080 : BitVec 32 := Scalar.addi v2078 v2079
  v2080.toNat
def k0_dev38 (d0 : Dev nD) : Nat :=
  let c0_i32_1320 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1319 : BitVec 32 := 16#32
  let v2097 : BitVec 32 := Scalar.muli v2 c16_i32_1319
  let v2098 : BitVec 32 := Scalar.addi c0_i32_1320 v2097
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1321 : BitVec 32 := 4#32
  let v2099 : BitVec 32 := Scalar.muli v38 c4_i32_1321
  let v2100 : BitVec 32 := Scalar.addi v2098 v2099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1322 : BitVec 32 := 1#32
  let v2101 : BitVec 32 := Scalar.muli v8 c1_i32_1322
  let v2102 : BitVec 32 := Scalar.addi v2100 v2101
  v2102.toNat
def k0_dev39 (d0 : Dev nD) : Nat :=
  let c0_i32_1325 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1324 : BitVec 32 := 16#32
  let v2109 : BitVec 32 := Scalar.muli v16 c16_i32_1324
  let v2110 : BitVec 32 := Scalar.addi c0_i32_1325 v2109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1326 : BitVec 32 := 4#32
  let v2111 : BitVec 32 := Scalar.muli v5 c4_i32_1326
  let v2112 : BitVec 32 := Scalar.addi v2110 v2111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1327 : BitVec 32 := 1#32
  let v2113 : BitVec 32 := Scalar.muli v8 c1_i32_1327
  let v2114 : BitVec 32 := Scalar.addi v2112 v2113
  v2114.toNat
def k0_dev40 (d0 : Dev nD) : Nat :=
  let c0_i32_1336 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1335 : BitVec 32 := 16#32
  let v2131 : BitVec 32 := Scalar.muli v2 c16_i32_1335
  let v2132 : BitVec 32 := Scalar.addi c0_i32_1336 v2131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1337 : BitVec 32 := 4#32
  let v2133 : BitVec 32 := Scalar.muli v5 c4_i32_1337
  let v2134 : BitVec 32 := Scalar.addi v2132 v2133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1338 : BitVec 32 := 1#32
  let v2135 : BitVec 32 := Scalar.muli v27 c1_i32_1338
  let v2136 : BitVec 32 := Scalar.addi v2134 v2135
  v2136.toNat
def k0_dev41 (d0 : Dev nD) : Nat :=
  let c0_i32_1341 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1340 : BitVec 32 := 16#32
  let v2143 : BitVec 32 := Scalar.muli v16 c16_i32_1340
  let v2144 : BitVec 32 := Scalar.addi c0_i32_1341 v2143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1342 : BitVec 32 := 4#32
  let v2145 : BitVec 32 := Scalar.muli v5 c4_i32_1342
  let v2146 : BitVec 32 := Scalar.addi v2144 v2145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1343 : BitVec 32 := 1#32
  let v2147 : BitVec 32 := Scalar.muli v8 c1_i32_1343
  let v2148 : BitVec 32 := Scalar.addi v2146 v2147
  v2148.toNat
def k0_dev42 (d0 : Dev nD) : Nat :=
  let c0_i32_1352 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1351 : BitVec 32 := 16#32
  let v2165 : BitVec 32 := Scalar.muli v2 c16_i32_1351
  let v2166 : BitVec 32 := Scalar.addi c0_i32_1352 v2165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1353 : BitVec 32 := 4#32
  let v2167 : BitVec 32 := Scalar.muli v38 c4_i32_1353
  let v2168 : BitVec 32 := Scalar.addi v2166 v2167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1354 : BitVec 32 := 1#32
  let v2169 : BitVec 32 := Scalar.muli v8 c1_i32_1354
  let v2170 : BitVec 32 := Scalar.addi v2168 v2169
  v2170.toNat
def k0_dev43 (d0 : Dev nD) : Nat :=
  let c0_i32_1363 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1362 : BitVec 32 := 16#32
  let v2187 : BitVec 32 := Scalar.muli v2 c16_i32_1362
  let v2188 : BitVec 32 := Scalar.addi c0_i32_1363 v2187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1364 : BitVec 32 := 4#32
  let v2189 : BitVec 32 := Scalar.muli v5 c4_i32_1364
  let v2190 : BitVec 32 := Scalar.addi v2188 v2189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1365 : BitVec 32 := 1#32
  let v2191 : BitVec 32 := Scalar.muli v27 c1_i32_1365
  let v2192 : BitVec 32 := Scalar.addi v2190 v2191
  v2192.toNat
def k0_dev44 (d0 : Dev nD) : Nat :=
  let c0_i32_1368 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1367 : BitVec 32 := 16#32
  let v2199 : BitVec 32 := Scalar.muli v16 c16_i32_1367
  let v2200 : BitVec 32 := Scalar.addi c0_i32_1368 v2199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1369 : BitVec 32 := 4#32
  let v2201 : BitVec 32 := Scalar.muli v5 c4_i32_1369
  let v2202 : BitVec 32 := Scalar.addi v2200 v2201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1370 : BitVec 32 := 1#32
  let v2203 : BitVec 32 := Scalar.muli v8 c1_i32_1370
  let v2204 : BitVec 32 := Scalar.addi v2202 v2203
  v2204.toNat
def k0_dev45 (d0 : Dev nD) : Nat :=
  let c0_i32_1379 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1378 : BitVec 32 := 16#32
  let v2221 : BitVec 32 := Scalar.muli v2 c16_i32_1378
  let v2222 : BitVec 32 := Scalar.addi c0_i32_1379 v2221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1380 : BitVec 32 := 4#32
  let v2223 : BitVec 32 := Scalar.muli v38 c4_i32_1380
  let v2224 : BitVec 32 := Scalar.addi v2222 v2223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1381 : BitVec 32 := 1#32
  let v2225 : BitVec 32 := Scalar.muli v8 c1_i32_1381
  let v2226 : BitVec 32 := Scalar.addi v2224 v2225
  v2226.toNat
def k0_dev46 (d0 : Dev nD) : Nat :=
  let c0_i32_1390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1389 : BitVec 32 := 16#32
  let v2243 : BitVec 32 := Scalar.muli v2 c16_i32_1389
  let v2244 : BitVec 32 := Scalar.addi c0_i32_1390 v2243
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1391 : BitVec 32 := 4#32
  let v2245 : BitVec 32 := Scalar.muli v5 c4_i32_1391
  let v2246 : BitVec 32 := Scalar.addi v2244 v2245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1392 : BitVec 32 := 1#32
  let v2247 : BitVec 32 := Scalar.muli v27 c1_i32_1392
  let v2248 : BitVec 32 := Scalar.addi v2246 v2247
  v2248.toNat
def k0_dev47 (d0 : Dev nD) : Nat :=
  let c0_i32_1401 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1400 : BitVec 32 := 16#32
  let v2265 : BitVec 32 := Scalar.muli v16 c16_i32_1400
  let v2266 : BitVec 32 := Scalar.addi c0_i32_1401 v2265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1402 : BitVec 32 := 4#32
  let v2267 : BitVec 32 := Scalar.muli v5 c4_i32_1402
  let v2268 : BitVec 32 := Scalar.addi v2266 v2267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1403 : BitVec 32 := 1#32
  let v2269 : BitVec 32 := Scalar.muli v8 c1_i32_1403
  let v2270 : BitVec 32 := Scalar.addi v2268 v2269
  v2270.toNat
def k0_dev48 (d0 : Dev nD) : Nat :=
  let c0_i32_1412 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1411 : BitVec 32 := 16#32
  let v2287 : BitVec 32 := Scalar.muli v16 c16_i32_1411
  let v2288 : BitVec 32 := Scalar.addi c0_i32_1412 v2287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1413 : BitVec 32 := 4#32
  let v2289 : BitVec 32 := Scalar.muli v5 c4_i32_1413
  let v2290 : BitVec 32 := Scalar.addi v2288 v2289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1414 : BitVec 32 := 1#32
  let v2291 : BitVec 32 := Scalar.muli v8 c1_i32_1414
  let v2292 : BitVec 32 := Scalar.addi v2290 v2291
  v2292.toNat
def k0_dev49 (d0 : Dev nD) : Nat :=
  let c0_i32_1423 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1422 : BitVec 32 := 16#32
  let v2309 : BitVec 32 := Scalar.muli v16 c16_i32_1422
  let v2310 : BitVec 32 := Scalar.addi c0_i32_1423 v2309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1424 : BitVec 32 := 4#32
  let v2311 : BitVec 32 := Scalar.muli v5 c4_i32_1424
  let v2312 : BitVec 32 := Scalar.addi v2310 v2311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v2313 : BitVec 32 := Scalar.muli v8 c1_i32_1425
  let v2314 : BitVec 32 := Scalar.addi v2312 v2313
  v2314.toNat
def k0_dev50 (d0 : Dev nD) : Nat :=
  let c0_i32_1434 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1433 : BitVec 32 := 16#32
  let v2331 : BitVec 32 := Scalar.muli v16 c16_i32_1433
  let v2332 : BitVec 32 := Scalar.addi c0_i32_1434 v2331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1435 : BitVec 32 := 4#32
  let v2333 : BitVec 32 := Scalar.muli v5 c4_i32_1435
  let v2334 : BitVec 32 := Scalar.addi v2332 v2333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v2335 : BitVec 32 := Scalar.muli v8 c1_i32_1436
  let v2336 : BitVec 32 := Scalar.addi v2334 v2335
  v2336.toNat
def k0_dev51 (d0 : Dev nD) : Nat :=
  let c0_i32_1445 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1444 : BitVec 32 := 16#32
  let v2353 : BitVec 32 := Scalar.muli v16 c16_i32_1444
  let v2354 : BitVec 32 := Scalar.addi c0_i32_1445 v2353
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1446 : BitVec 32 := 4#32
  let v2355 : BitVec 32 := Scalar.muli v5 c4_i32_1446
  let v2356 : BitVec 32 := Scalar.addi v2354 v2355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1447 : BitVec 32 := 1#32
  let v2357 : BitVec 32 := Scalar.muli v8 c1_i32_1447
  let v2358 : BitVec 32 := Scalar.addi v2356 v2357
  v2358.toNat
def k0_dev52 (d0 : Dev nD) : Nat :=
  let c0_i32_1456 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1455 : BitVec 32 := 16#32
  let v2375 : BitVec 32 := Scalar.muli v16 c16_i32_1455
  let v2376 : BitVec 32 := Scalar.addi c0_i32_1456 v2375
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1457 : BitVec 32 := 4#32
  let v2377 : BitVec 32 := Scalar.muli v5 c4_i32_1457
  let v2378 : BitVec 32 := Scalar.addi v2376 v2377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1458 : BitVec 32 := 1#32
  let v2379 : BitVec 32 := Scalar.muli v8 c1_i32_1458
  let v2380 : BitVec 32 := Scalar.addi v2378 v2379
  v2380.toNat
def k0_dev53 (d0 : Dev nD) : Nat :=
  let c0_i32_1473 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1472 : BitVec 32 := 16#32
  let v2407 : BitVec 32 := Scalar.muli v16 c16_i32_1472
  let v2408 : BitVec 32 := Scalar.addi c0_i32_1473 v2407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1474 : BitVec 32 := 4#32
  let v2409 : BitVec 32 := Scalar.muli v5 c4_i32_1474
  let v2410 : BitVec 32 := Scalar.addi v2408 v2409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1475 : BitVec 32 := 1#32
  let v2411 : BitVec 32 := Scalar.muli v8 c1_i32_1475
  let v2412 : BitVec 32 := Scalar.addi v2410 v2411
  v2412.toNat
def k0_dev54 (d0 : Dev nD) : Nat :=
  let c0_i32_1719_r0 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_5 v2
  let c16_i32_1718_r0 : BitVec 32 := 16#32
  let v2766_r0 : BitVec 32 := Scalar.muli v16 c16_i32_1718_r0
  let v2767_r0 : BitVec 32 := Scalar.addi c0_i32_1719_r0 v2766_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1720_r0 : BitVec 32 := 4#32
  let v2768_r0 : BitVec 32 := Scalar.muli v5 c4_i32_1720_r0
  let v2769_r0 : BitVec 32 := Scalar.addi v2767_r0 v2768_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1721_r0 : BitVec 32 := 1#32
  let v2770_r0 : BitVec 32 := Scalar.muli v8 c1_i32_1721_r0
  let v2771_r0 : BitVec 32 := Scalar.addi v2769_r0 v2770_r0
  v2771_r0.toNat
def k0_dev55 (d0 : Dev nD) : Nat :=
  let c0_i32_1724_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1723_r0 : BitVec 32 := 16#32
  let v2772_r0 : BitVec 32 := Scalar.muli v2 c16_i32_1723_r0
  let v2773_r0 : BitVec 32 := Scalar.addi c0_i32_1724_r0 v2772_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1725_r0 : BitVec 32 := 4#32
  let v2774_r0 : BitVec 32 := Scalar.muli v5 c4_i32_1725_r0
  let v2775_r0 : BitVec 32 := Scalar.addi v2773_r0 v2774_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.addi v8 c1_i32_6
  let c4_i32_7 : BitVec 32 := 4#32
  let c0_i32 : BitVec 32 := 0#32
  let v18 : BitVec 1 := Scalar.cmpi .eq c4_i32_7 c0_i32
  let c1_i32_8 : BitVec 32 := 1#32
  let v19 : BitVec 32 := Scalar.select v18 c1_i32_8 c4_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_1726_r0 : BitVec 32 := 1#32
  let v2776_r0 : BitVec 32 := Scalar.muli v27 c1_i32_1726_r0
  let v2777_r0 : BitVec 32 := Scalar.addi v2775_r0 v2776_r0
  v2777_r0.toNat
def k0_dev56 (d0 : Dev nD) : Nat :=
  let c0_i32_1729_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1728_r0 : BitVec 32 := 16#32
  let v2778_r0 : BitVec 32 := Scalar.muli v2 c16_i32_1728_r0
  let v2779_r0 : BitVec 32 := Scalar.addi c0_i32_1729_r0 v2778_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1730_r0 : BitVec 32 := 4#32
  let v2780_r0 : BitVec 32 := Scalar.muli v5 c4_i32_1730_r0
  let v2781_r0 : BitVec 32 := Scalar.addi v2779_r0 v2780_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v39 : BitVec 32 := Scalar.subi v8 c1_i32_19
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c1_i32_1731_r0 : BitVec 32 := 1#32
  let v2782_r0 : BitVec 32 := Scalar.muli v49 c1_i32_1731_r0
  let v2783_r0 : BitVec 32 := Scalar.addi v2781_r0 v2782_r0
  v2783_r0.toNat
def k0_dev57 (d0 : Dev nD) : Nat :=
  let c0_i32_1734_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1733_r0 : BitVec 32 := 16#32
  let v2784_r0 : BitVec 32 := Scalar.muli v2 c16_i32_1733_r0
  let v2785_r0 : BitVec 32 := Scalar.addi c0_i32_1734_r0 v2784_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v28 : BitVec 32 := Scalar.addi v5 c1_i32_12
  let c4_i32_13 : BitVec 32 := 4#32
  let c0_i32_14 : BitVec 32 := 0#32
  let v29 : BitVec 1 := Scalar.cmpi .eq c4_i32_13 c0_i32_14
  let c1_i32_15 : BitVec 32 := 1#32
  let v30 : BitVec 32 := Scalar.select v29 c1_i32_15 c4_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_1735_r0 : BitVec 32 := 4#32
  let v2786_r0 : BitVec 32 := Scalar.muli v38 c4_i32_1735_r0
  let v2787_r0 : BitVec 32 := Scalar.addi v2785_r0 v2786_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1736_r0 : BitVec 32 := 1#32
  let v2788_r0 : BitVec 32 := Scalar.muli v8 c1_i32_1736_r0
  let v2789_r0 : BitVec 32 := Scalar.addi v2787_r0 v2788_r0
  v2789_r0.toNat
def k0_dev58 (d0 : Dev nD) : Nat :=
  let c0_i32_1739_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1738_r0 : BitVec 32 := 16#32
  let v2790_r0 : BitVec 32 := Scalar.muli v2 c16_i32_1738_r0
  let v2791_r0 : BitVec 32 := Scalar.addi c0_i32_1739_r0 v2790_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_26 : BitVec 32 := 1#32
  let v50 : BitVec 32 := Scalar.subi v5 c1_i32_26
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c4_i32_1740_r0 : BitVec 32 := 4#32
  let v2792_r0 : BitVec 32 := Scalar.muli v60 c4_i32_1740_r0
  let v2793_r0 : BitVec 32 := Scalar.addi v2791_r0 v2792_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1741_r0 : BitVec 32 := 1#32
  let v2794_r0 : BitVec 32 := Scalar.muli v8 c1_i32_1741_r0
  let v2795_r0 : BitVec 32 := Scalar.addi v2793_r0 v2794_r0
  v2795_r0.toNat
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x4096, .f32⟩
  | .hbm, ⟨3, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
module

public import proofs.«01_k».proof.Proof.Gen.KernelIdeal

@[expose] public section

noncomputable section

namespace Cert.Gather

open Cert.KernelIdeal Cert.KernelIdeal.Gen
open Idealize.ShloMosaic

/-! # The mesh, the 48 transfers each device starts, and when

Device `c` stands at `(x, y, z)` of a `2 × 4 × 4` mesh. Its columns are cut into a block `A` and a block `B` (its
own, together the part it sums with its partner), and the partner's leftover columns `F`. A transfer is a number
below 48; `way` says which neighbour it goes to, `colKind` which columns it carries, `ci`, `cj` how many steps
the rows it carries have already travelled along `y` and `z`. -/

def dx (c : Dev nD) : ℕ := c.val / 16
def dy (c : Dev nD) : ℕ := c.val / 4 % 4
def dz (c : Dev nD) : ℕ := c.val % 4

set_option backward.proofsInPublic true in
/-- The device at `(x, y, z)`. -/
def at3 (x y z : ℕ) : Dev nD := ⟨(16 * x + 4 * y + z) % 32, Nat.mod_lt _ (by decide)⟩

def partner (c : Dev nD) : Dev nD := at3 (1 - dx c) (dy c) (dz c)
def znext (c : Dev nD) : Dev nD := at3 (dx c) (dy c) ((dz c + 1) % 4)
def zprev (c : Dev nD) : Dev nD := at3 (dx c) (dy c) ((dz c + 3) % 4)
def ynext (c : Dev nD) : Dev nD := at3 (dx c) ((dy c + 1) % 4) (dz c)
def yprev (c : Dev nD) : Dev nD := at3 (dx c) ((dy c + 3) % 4) (dz c)

theorem partner_partner (c : Dev nD) : partner (partner c) = c := by revert c; decide +kernel
theorem zprev_znext (c : Dev nD) : zprev (znext c) = c := by revert c; decide +kernel
theorem znext_zprev (c : Dev nD) : znext (zprev c) = c := by revert c; decide +kernel
theorem yprev_ynext (c : Dev nD) : yprev (ynext c) = c := by revert c; decide +kernel
theorem ynext_yprev (c : Dev nD) : ynext (yprev c) = c := by revert c; decide +kernel

/-- The five neighbours in the order the kernel signals them. -/
def nbr (d : Fin 5) (c : Dev nD) : Dev nD :=
  if d = 0 then partner c else if d = 1 then znext c else if d = 2 then zprev c else if d = 3 then ynext c else yprev c
/-- The device whose `d`-th neighbour `c` is. -/
def nbrInv (d : Fin 5) (c : Dev nD) : Dev nD :=
  if d = 0 then partner c else if d = 1 then zprev c else if d = 2 then znext c else if d = 3 then yprev c else ynext c

theorem nbrInv_nbr (d : Fin 5) (c : Dev nD) : nbrInv d (nbr d c) = c := by revert d c; decide +kernel
theorem nbr_nbrInv (d : Fin 5) (c : Dev nD) : nbr d (nbrInv d c) = c := by revert d c; decide +kernel

def nbrEquiv (d : Fin 5) : Dev nD ≃ Dev nD := ⟨nbr d, nbrInv d, nbrInv_nbr d, nbr_nbrInv d⟩

/-! ## The transfers -/

abbrev Slot := Fin 48

/-- Which of the five neighbours transfer `s` goes to. -/
def way (s : Slot) : Fin 5 :=
  if s.val < 2 then 0 else if s.val < 5 then 1 else if s.val < 8 then 3 else if s.val < 20 then 3 else if s.val < 32 then 1 else 0
/-- Which columns: `0` is `A`, `1` is `B`, `2` is `F`. -/
def colKind (s : Slot) : ℕ :=
  if s.val < 2 then s.val else if s.val < 5 then 0 else if s.val < 8 then 1 else if s.val < 20 then 0 else if s.val < 32 then 1 else 2
/-- Steps the carried rows have travelled along `y` when sent. -/
def ci (s : Slot) : ℕ :=
  if s.val < 5 then 0 else if s.val < 8 then s.val - 5 else if s.val < 20 then (s.val - 8) / 4
  else if s.val < 32 then (s.val - 20) % 4 else (s.val - 32) / 4
/-- Steps the carried rows have travelled along `z` when sent. -/
def cj (s : Slot) : ℕ :=
  if s.val < 2 then 0 else if s.val < 5 then s.val - 2 else if s.val < 8 then 0 else if s.val < 20 then (s.val - 8) % 4
  else if s.val < 32 then (s.val - 20) / 4 else (s.val - 32) % 4

def dst (s : Slot) (c : Dev nD) : Dev nD := nbr (way s) c
def src (s : Slot) (c : Dev nD) : Dev nD := nbrInv (way s) c
theorem dst_src (s : Slot) (c : Dev nD) : dst s (src s c) = c := nbr_nbrInv _ _
theorem src_dst (s : Slot) (c : Dev nD) : src s (dst s c) = c := nbrInv_nbr _ _
def dstEquiv (s : Slot) : Dev nD ≃ Dev nD := nbrEquiv (way s)

/-- First column of `A`, `B` or `F` on device `c`. -/
def col (k : ℕ) (c : Dev nD) : ℕ := if k = 0 then 1152 * dx c else if k = 1 then 1152 * dx c + 1408 else 2944 * dx c
/-- Their widths. -/
def wid (k : ℕ) : ℕ := if k = 0 then 1408 else if k = 1 then 1536 else 1152
/-- First row of the block that started `i` steps back along `y` and `j` steps back along `z`. -/
def row (i j : ℕ) (c : Dev nD) : ℕ := 1024 * ((dy c + 4 - i) % 4) + 256 * ((dz c + 4 - j) % 4)

/-- Source offset of transfer `s` of device `c` in its source buffer. -/
def sOff (s : Slot) (c : Dev nD) : Fin 2 → ℕ :=
  if s.val < 2 then ![0, col (colKind s) (partner c)]
  else if s.val = 2 ∨ s.val = 5 ∨ s.val = 8 ∨ s.val = 20 ∨ s.val = 32 then ![0, col (colKind s) c]
  else ![row (ci s) (cj s) c, col (colKind s) c]
/-- Destination offset, in the destination's buffer. -/
def dOff (s : Slot) (c : Dev nD) : Fin 2 → ℕ :=
  if s.val < 2 then ![0, col (colKind s) (partner c)] else ![row (ci s) (cj s) c, col (colKind s) c]
/-- Where transfer `s` lands on device `c`. -/
def rOff (s : Slot) (c : Dev nD) : Fin 2 → ℕ := dOff s (src s c)
def sz (s : Slot) : Fin 2 → ℕ := ![256, wid (colKind s)]

/-- Whether transfer `s` leaves from the sum buffer. -/
abbrev FromSum (s : Slot) : Prop := s.val = 2 ∨ s.val = 5 ∨ s.val = 8 ∨ s.val = 20 ∨ s.val = 32

/-! ## The order of the 144 steps of a device: starts, waits for arrivals, waits for departures -/

def tStart : Slot → ℕ :=
  ![0,1,4,12,18,8,15,21,5,13,19,24,28,34,39,43,47,53,59,64,9,16,22,26,31,36,41,45,50,56,61,66,10,32,51,70,29,37,57,74,48,54,62,78,68,72,76,81]
def tRecv : Slot → ℕ :=
  ![3,7,11,17,23,14,20,25,27,33,38,42,46,52,58,63,67,71,75,79,30,35,40,44,49,55,60,65,69,73,77,80,83,85,87,89,91,93,95,97,99,101,103,105,107,109,111,113]
def tSent : Slot → ℕ :=
  ![2,6,114,115,116,117,118,119,120,122,124,126,128,130,132,134,136,138,140,142,121,123,125,127,129,131,133,135,137,139,141,143,82,84,86,88,90,92,94,96,98,100,102,104,106,108,110,112]

end Cert.Gather

end
-- ==== Proof.Cells.lean ====
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Contents, resources, and what each semaphore hands over -/

abbrev D : Type := Fin 5
abbrev UB : Type := URounds (GSem nD τ sig) D
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb
instance ER_landsIn : (ER : Emb UB 𝕄).LandsIn (upEmb : UEmb _ 𝕄) := by unfold ER; infer_instance

/-! ## Boxes of a buffer -/

/-- The indices of a shape inside the box of size `sz` at `off`. -/
def Box (s : Shape) (off sz : Fin s.rank → ℕ) : Finset s.Idx :=
  Finset.univ.filter fun i => ∀ a, off a ≤ (i a).val ∧ (i a).val < off a + sz a

theorem mem_Box {s : Shape} {off sz : Fin s.rank → ℕ} {i : s.Idx} :
    i ∈ Box s off sz ↔ ∀ a, off a ≤ (i a).val ∧ (i a).val < off a + sz a := by simp [Box]

/-! ## Contents -/

abbrev SmallC (F : FTy → Type) := S256x4096.Idx → Elt F .f32
abbrev BigC (F : FTy → Type) := S4096x4096.Idx → Elt F .f32

/-- Row `p`, column `q` of a `256 × 4096` buffer. -/
def ix (p q : ℕ) : S256x4096.Idx := fun a => ⟨![p % 256, q % 4096] a, by
  match a with
  | ⟨0, _⟩ => exact Nat.mod_lt _ (by decide)
  | ⟨1, _⟩ => exact Nat.mod_lt _ (by decide)⟩

variable (pf : Dev nD → SmallC F)

/-- A device's partial product plus its partner's, in the order the kernel adds them. -/
def SUM (c : Dev nD) : SmallC F := fun i => (FloatOps.addf (pf c i) (pf (partner c) i) : F .f32)

/-- Whether column `k` is summed on device `c` (else on its partner). -/
def own (c : Dev nD) (k : ℕ) : Prop := (dx c = 0 ∧ k < 2944) ∨ (dx c ≠ 0 ∧ 1152 ≤ k)
instance (c : Dev nD) (k : ℕ) : Decidable (own c k) := by unfold own; infer_instance

/-- The result every device ends with: row `r` comes from the devices at `y = r / 1024`, `z = r / 256 % 4`, each column from the
one of them that sums it. -/
def OUT (c : Dev nD) : BigC F := fun i =>
  SUM pf (at3 (if own c (i 1).val then dx c else 1 - dx c) ((i 0).val / 1024) ((i 0).val / 256 % 4)) (ix (i 0).val (i 1).val)

/-! ## Resources of the transfers -/

abbrev qX : PosShare TreeShare := fullShare.left
abbrev qY : PosShare TreeShare := fullShare.left.left
abbrev qZ : PosShare TreeShare := fullShare.left.right
abbrev qF : PosShare TreeShare := fullShare.right.left
abbrev qG : PosShare TreeShare := fullShare.right.right

/-- The share of its source a transfer holds while it is under way. -/
def shr (s : Slot) : PosShare TreeShare := if s.val < 2 then qX else if way s = 3 then qY else if way s = 1 then qZ else qF

/-- Device `c`'s result array, on a box. -/
abbrev outP (c : Dev nD) (q : PosShare TreeShare) (off sz : Fin 2 → ℕ) (f : BigC F) : sProp 𝕄 :=
  ((c : Thread nD τ).loc main_v1) ↦[Box S4096x4096 off sz]{q} f
abbrev pfP (c : Dev nD) (q : PosShare TreeShare) (off sz : Fin 2 → ℕ) (f : SmallC F) : sProp 𝕄 :=
  ((c : Thread nD τ).loc cc0_scratch2) ↦[Box S256x4096 off sz]{q} f
abbrev xrP (c : Dev nD) (q : PosShare TreeShare) (off sz : Fin 2 → ℕ) (f : SmallC F) : sProp 𝕄 :=
  ((c : Thread nD τ).loc cc0_scratch3) ↦[Box S256x4096 off sz]{q} f
abbrev smP (c : Dev nD) (q : PosShare TreeShare) (off sz : Fin 2 → ℕ) (f : SmallC F) : sProp 𝕄 :=
  ((c : Thread nD τ).loc cc0_scratch4) ↦[Box S256x4096 off sz]{q} f

/-- The source of transfer `s` of device `c`: the elements and the share it reads. -/
def srcRes (s : Slot) (c : Dev nD) : sProp 𝕄 :=
  if s.val < 2 then pfP c (shr s) (sOff s c) (sz s) (pf c)
  else if FromSum s then smP c (shr s) (sOff s c) (sz s) (SUM pf c)
  else outP c (shr s) (sOff s c) (sz s) (OUT pf c)

/-- The destination elements of transfer `s` of device `c`, on the device it goes to. -/
def piece (s : Slot) (c : Dev nD) : sProp 𝕄 :=
  if s.val < 2 then iprop(∃ f, xrP (dst s c) fullShare (dOff s c) (sz s) f)
  else iprop(∃ f, outP (dst s c) fullShare (dOff s c) (sz s) f)

/-- What transfer `s` landing on device `c` hands over. -/
def landed (s : Slot) (c : Dev nD) : sProp 𝕄 :=
  if s.val < 2 then xrP c fullShare (rOff s c) (sz s) (pf (src s c))
  else outP c fullShare (rOff s c) (sz s) (OUT pf c)

instance srcRes_storable (s : Slot) (c : Dev nD) : BI.Storable (upEmb : UEmb _ 𝕄) (srcRes pf s c) := by
  unfold srcRes; (repeat' split) <;> infer_instance
instance piece_storable (s : Slot) (c : Dev nD) : BI.Storable (upEmb : UEmb _ 𝕄) (piece (F := F) s c) := by
  unfold piece; (repeat' split) <;> infer_instance
instance landed_storable (s : Slot) (c : Dev nD) : BI.Storable (upEmb : UEmb _ 𝕄) (landed pf s c) := by
  unfold landed; (repeat' split) <;> infer_instance

/-! ## The cells -/

/-- The semaphores devices talk over: the runtime's barrier (`inl false`), the exit semaphore (`inl true`), a departure and an
arrival semaphore of each transfer. -/
abbrev CellK : Type := Bool ⊕ (Slot ⊕ Slot)

abbrev barS : Sem sig := (SemArray.scalar (sig.barrier 0 rfl) : Sems sig S_).sem

def csem : CellK → SemLoc sig
  | .inl false => .reg barS
  | .inl true => .reg (1 : Fin 2)
  | .inr (.inl s) => .dma (⟨s.val, by have := s.isLt; show s.val < 100; omega⟩ : Fin 100)
  | .inr (.inr s) => .dma (⟨48 + s.val, by have := s.isLt; show 48 + s.val < 100; omega⟩ : Fin 100)

def decode : SemLoc sig → Option CellK
  | .reg q => if q.val = 0 then some (.inl false) else some (.inl true)
  | .dma q => if h : q.val < 48 then some (.inr (.inl ⟨q.val, h⟩))
      else if h : q.val < 96 then some (.inr (.inr ⟨q.val - 48, by omega⟩)) else none

theorem decode_csem (k : CellK) : decode (csem k) = some k := by revert k; decide +kernel

theorem csem_injective : Function.Injective csem := fun a b h => by
  have := congrArg decode h; rw [decode_csem, decode_csem] at this; exact Option.some.inj this

abbrev kcell (ck : Dev nD × CellK) : GSem nD τ sig := ((ck.1 : Thread nD τ), csem ck.2)
abbrev barC (c : Dev nD) : GSem nD τ sig := kcell (c, .inl false)
abbrev exitC (c : Dev nD) : GSem nD τ sig := kcell (c, .inl true)
abbrev sendC (s : Slot) (c : Dev nD) : GSem nD τ sig := kcell (c, .inr (.inl s))
abbrev recvC (s : Slot) (c : Dev nD) : GSem nD τ sig := kcell (c, .inr (.inr s))

/-- The units transfer `s` adds to a semaphore. -/
def amt (s : Slot) : ℕ := RefSig.tileCredit ⟨2, ![256, wid (colKind s)]⟩ .f32

theorem amt_pos (s : Slot) : 0 < amt s := by
  unfold amt wid
  (repeat' split) <;> exact RefSig.tileCredit_pos _ _ (by decide)

/-! ## The schedule

Every semaphore has one round. On a barrier or exit semaphore five neighbours signal one unit each; duty `d` is the device's own
`d`-th neighbour slot as the signaller counts it. The barrier signal of a device hands the receiver the places, on the signaller,
where the receiver's transfers land. -/

/-- The duty whose barrier signal hands over the landing place of transfer `s`. -/
def grant (s : Slot) : D := if way s = 0 then 0 else if way s = 1 then 2 else 4

/-- What the barrier signal of duty `d` hands device `c`. -/
def barPay (c : Dev nD) (d : D) : sProp 𝕄 := bigSep (Finset.univ.filter fun s : Slot => grant s = d) fun s => piece s c

def gRd : Rounds.Schedule (GSem nD τ sig) D 𝕄 where
  duties g r := if r = 0 ∧ g.1.2 = .tc then
      (match decode g.2 with | none => ∅ | some (.inl _) => Finset.univ | some (.inr _) => {0}) else ∅
  unitless _ := False
  amount g _ _ := match decode g.2 with | some (.inr (.inl s)) => amt s | some (.inr (.inr s)) => amt s | _ => 1
  payload g _ d := match decode g.2 with
    | some (.inl false) => barPay g.1.1 d
    | some (.inr (.inl s)) => srcRes pf s g.1.1
    | some (.inr (.inr s)) => landed pf s g.1.1
    | _ => iprop(emp)
  amount_pos g _ _ _ := by
    split
    · exact amt_pos _
    · exact amt_pos _
    · exact Nat.one_pos

instance barPay_storable (c : Dev nD) (d : D) : BI.Storable (upEmb : UEmb _ 𝕄) (barPay (F := F) c d) := by
  unfold barPay; infer_instance

instance gRd_payload_storable (g : GSem nD τ sig) (r : ℕ) (d : D) :
    BI.Storable (upEmb : UEmb _ 𝕄) ((gRd pf).payload g r d) := by
  unfold gRd; dsimp only; split <;> infer_instance

theorem duties_later (g : GSem nD τ sig) : ∀ r, 1 ≤ r → (gRd pf).duties g r = ∅ :=
  fun r hr => by dsimp only [gRd]; rw [if_neg fun h => by omega]

theorem duties_inl (c : Dev nD) (b : Bool) : (gRd pf).duties (kcell (c, .inl b)) 0 = Finset.univ := by
  dsimp only [gRd, kcell]; rw [if_pos ⟨rfl, rfl⟩, decode_csem]
theorem duties_inr (c : Dev nD) (k : Slot ⊕ Slot) : (gRd pf).duties (kcell (c, .inr k)) 0 = {0} := by
  dsimp only [gRd, kcell]; rw [if_pos ⟨rfl, rfl⟩, decode_csem]
theorem amount_inl (c : Dev nD) (b : Bool) (r : ℕ) (d : D) : (gRd pf).amount (kcell (c, .inl b)) r d = 1 := by
  dsimp only [gRd, kcell]; rw [decode_csem]
theorem amount_send (c : Dev nD) (s : Slot) (r : ℕ) (d : D) : (gRd pf).amount (sendC s c) r d = amt s := by
  dsimp only [gRd, kcell]; rw [decode_csem]
theorem amount_recv (c : Dev nD) (s : Slot) (r : ℕ) (d : D) : (gRd pf).amount (recvC s c) r d = amt s := by
  dsimp only [gRd, kcell]; rw [decode_csem]
theorem payload_bar (c : Dev nD) (r : ℕ) (d : D) : (gRd pf).payload (barC c) r d = barPay c d := by
  dsimp only [gRd, kcell]; rw [decode_csem]
theorem payload_exit (c : Dev nD) (r : ℕ) (d : D) : (gRd pf).payload (exitC c) r d = iprop(emp) := by
  dsimp only [gRd, kcell]; rw [decode_csem]
theorem payload_send (c : Dev nD) (s : Slot) (r : ℕ) (d : D) : (gRd pf).payload (sendC s c) r d = srcRes pf s c := by
  dsimp only [gRd, kcell]; rw [decode_csem]
theorem payload_recv (c : Dev nD) (s : Slot) (r : ℕ) (d : D) : (gRd pf).payload (recvC s c) r d = landed pf s c := by
  dsimp only [gRd, kcell]; rw [decode_csem]

theorem expect_inl (c : Dev nD) (b : Bool) : (gRd pf).expect (kcell (c, .inl b)) 0 = 5 := by
  unfold Schedule.expect Schedule.amountOf
  rw [duties_inl, Finset.sum_congr rfl fun d _ => amount_inl pf c b 0 d]; rfl
theorem expect_send (c : Dev nD) (s : Slot) : (gRd pf).expect (sendC s c) 0 = amt s := by
  unfold Schedule.expect Schedule.amountOf; rw [duties_inr, Finset.sum_singleton, amount_send]
theorem expect_recv (c : Dev nD) (s : Slot) : (gRd pf).expect (recvC s c) 0 = amt s := by
  unfold Schedule.expect Schedule.amountOf; rw [duties_inr, Finset.sum_singleton, amount_recv]

theorem rest_send (c : Dev nD) (s : Slot) :
    bigSep ((gRd pf).duties (sendC s c) 0 \ ∅) (fun d => (gRd pf).payload (sendC s c) 0 d) = srcRes pf s c := by
  rw [Finset.sdiff_empty, duties_inr, bigSep_singleton, payload_send]
theorem rest_recv (c : Dev nD) (s : Slot) :
    bigSep ((gRd pf).duties (recvC s c) 0 \ ∅) (fun d => (gRd pf).payload (recvC s c) 0 d) = landed pf s c := by
  rw [Finset.sdiff_empty, duties_inr, bigSep_singleton, payload_recv]

/-- The barrier's five signals together hand over the landing places of all of the device's transfers. -/
theorem rest_bar (c : Dev nD) :
    bigSep ((gRd pf).duties (barC c) 0 \ ∅) (fun d => (gRd pf).payload (barC c) 0 d)
      = bigSep Finset.univ fun s : Slot => piece (F := F) s c := by
  rw [Finset.sdiff_empty, duties_inl, bigSep_congr fun d _ => payload_bar pf c 0 d]
  unfold barPay
  rw [← bigSep_biUnion_eq Finset.univ (fun d => Finset.univ.filter fun s : Slot => grant s = d) (fun s => piece (F := F) s c)
    (fun d _ d' _ hne => Finset.disjoint_filter.mpr fun s _ h h' => hne (h.symm.trans h'))]
  congr 1
  ext s; simp

end Cert.Gather

end
-- ==== Proof.State.lean ====
module

public import proofs.«01_k».proof.Proof.Cells

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (pf : Dev nD → SmallC F) (K : Dev nD × CellK → ℕ)

/-! # What a device owes and holds after `n` of its 144 steps -/

/-- The arrivals a device still owes its neighbours at step `n`. -/
def Ow (n : ℕ) (c : Dev nD) : CellTallies nD τ sig Unit :=
  ∑ s ∈ Finset.univ.filter (fun s : Slot => n ≤ tStart s), tallyAt (recvC s (dst s c)) () (amt s)
/-- The exit signals still owed, from the `k`-th on. -/
def Ox (k : ℕ) (c : Dev nD) : CellTallies nD τ sig Unit :=
  ∑ d ∈ Finset.univ.filter (fun d : D => k ≤ d.val), tallyAt (exitC (nbr d c)) () 1
/-- The barrier signals still owed, from the `k`-th on. -/
def Ob (k : ℕ) (c : Dev nD) : CellTallies nD τ sig Unit :=
  ∑ d ∈ Finset.univ.filter (fun d : D => k ≤ d.val), tallyAt (barC (nbr d c)) () 1

theorem sum_pos_exists {I : Type} [DecidableEq I] (S : Finset I) (f : I → CellTallies nD τ sig Unit) {g : GSem nD τ sig} {u : Unit}
    (h : 0 < (∑ i ∈ S, f i) g u) : ∃ i ∈ S, 0 < f i g u := by
  induction S using Finset.induction_on with
  | empty => rw [Finset.sum_empty] at h; exact absurd h (Nat.lt_irrefl 0)
  | insert i S hi ih =>
    rw [Finset.sum_insert hi, Pi.add_apply, Finsupp.add_apply] at h
    rcases Nat.pos_of_ne_zero (Nat.ne_of_gt h) |> fun _ => Nat.eq_zero_or_pos (f i g u) with h0 | h0
    · rw [h0, Nat.zero_add] at h
      obtain ⟨j, hj, hp⟩ := ih h
      exact ⟨j, Finset.mem_insert_of_mem hj, hp⟩
    · exact ⟨i, Finset.mem_insert_self _ _, h0⟩

theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

/-! ## Levels: an arrival is above everything a device waits for before it sends that transfer -/

def L (g : GSem nD τ sig) : Finset Unit := if g.1.2 = .tc then {()} else ∅
def lvk : Option CellK → ℕ
  | some (.inr (.inr s)) => 1 + tStart s
  | some (.inl true) => 1000
  | _ => 0
def lv (g : GSem nD τ sig) (_ : Unit) : ℕ := lvk (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CellK) (u : Unit) : lv (kcell ck) u = lvk (some ck.2) := by
  show lvk (decode (csem ck.2)) = _; rw [decode_csem]

theorem O_pos {n : ℕ} {c : Dev nD} {g : GSem nD τ sig} {u : Unit} (h : 0 < (Ow n c + Ox 0 c) g u) :
    (∃ s, n ≤ tStart s ∧ g = recvC s (dst s c)) ∨ ∃ d, g = exitC (nbr d c) := by
  rw [Pi.add_apply, Finsupp.add_apply] at h
  rcases Nat.eq_zero_or_pos (Ow n c g u) with h0 | h0
  · rw [h0, Nat.zero_add] at h
    obtain ⟨d, _, hd⟩ := sum_pos_exists _ _ h
    exact .inr ⟨d, tallyAt_pos hd⟩
  · obtain ⟨s, hs, hp⟩ := sum_pos_exists _ _ h0
    exact .inl ⟨s, (Finset.mem_filter.mp hs).2, tallyAt_pos hp⟩

/-- A device owing the arrivals from step `n` on may wait on a semaphore whose level is at most every later start. -/
theorem mayWait_n (c : Dev nD) (sm : SemLoc sig) (n : ℕ) (h : ∀ s, n ≤ tStart s → lvk (decode sm) ≤ tStart s) (hx : lvk (decode sm) < 1000) :
    (levAts L lv : sProp 𝕄) ⊢ MayWait (c : Thread nD τ) sm () (Ow n c + Ox 0 c) :=
  MayOwe.of_cut (L := L) (lev := lv) (lvk (decode sm)) (fun p hp => by rw [Finset.mem_singleton.mp hp, L_tc]; exact Finset.mem_singleton_self _)
    (fun g u hg => by
      rcases O_pos hg with ⟨s, _, rfl⟩ | ⟨d, rfl⟩ <;> (rw [L_tc]; exact Finset.mem_singleton_self _))
    (fun p hp => by rw [Finset.mem_singleton.mp hp]; exact Nat.le_refl _)
    (fun g u hg => by
      rcases O_pos hg with ⟨s, hs, rfl⟩ | ⟨d, rfl⟩
      · rw [lv_kcell]; show _ < 1 + tStart s; have := h s hs; omega
      · rw [lv_kcell]; exact hx)

/-- On a semaphore that no other device raises, it may always wait. -/
theorem mayWait_low (c : Dev nD) (sm : SemLoc sig) (n : ℕ) (h : lvk (decode sm) = 0) :
    (levAts L lv : sProp 𝕄) ⊢ MayWait (c : Thread nD τ) sm () (Ow n c + Ox 0 c) :=
  mayWait_n c sm n (fun s _ => by rw [h]; exact Nat.zero_le _) (by rw [h]; decide)

/-! ## The tick tables -/

theorem start_ne (s s' : Slot) : s' ≠ s → tStart s' ≠ tStart s := by revert s s'; decide +kernel
theorem recv_ne (s s' : Slot) : s' ≠ s → tRecv s' ≠ tRecv s := by revert s s'; decide +kernel
theorem sent_ne (s s' : Slot) : s' ≠ s → tSent s' ≠ tSent s := by revert s s'; decide +kernel
theorem start_ne_recv (s s' : Slot) : tStart s' ≠ tRecv s := by revert s s'; decide +kernel
theorem start_ne_sent (s s' : Slot) : tStart s' ≠ tSent s := by revert s s'; decide +kernel
theorem recv_ne_sent (s s' : Slot) : tRecv s' ≠ tSent s := by revert s s'; decide +kernel
theorem start_lt_sent (s : Slot) : tStart s < tSent s := by revert s; decide +kernel
theorem start_small (s : Slot) : 1 + tStart s < 1000 := by revert s; decide +kernel
theorem start_lt_recv (s : Slot) : tStart s < tRecv s := by revert s; decide +kernel

/-- The transfer whose landing holds the block at `(i, j)` of columns `A`, or of columns `B`. -/
def blkA (i j : ℕ) : ℕ := if i = 0 then 1 + j else 4 + 4 * i + j
def blkB (i j : ℕ) : ℕ := if j = 0 then 4 + i else 16 + 4 * j + i

/-- The transfers that leave from the buffers the device computes itself. -/
abbrev Given (s : Slot) : Prop := s.val < 2 ∨ FromSum s

/-- The arrival that brings what transfer `s` forwards, on a device at `x`. -/
def feed (x : ℕ) (s : Slot) : ℕ :=
  if colKind s = 0 ∨ (colKind s = 2 ∧ x = 0) then blkA (ci s) (cj s) else blkB (ci s) (cj s)

theorem dx_lt (c : Dev nD) : dx c < 2 := by revert c; decide +kernel

theorem feed_lt : ∀ x < 2, ∀ s : Slot, ¬ Given s → feed x s < 48 ∧ 2 ≤ feed x s := by decide +kernel

theorem feed_before : ∀ x < 2, ∀ s t : Slot, ¬ Given s → feed x s = t.val → tRecv t < tStart s := by decide +kernel

/-- Three transfers at most forward one arrival, to three different neighbours. -/
theorem feed_inj : ∀ x < 2, ∀ s s' : Slot, (¬ Given s ∧ ¬ Given s' ∧ feed x s = feed x s' ∧ way s = way s') → s = s' := by decide +kernel

/-- Whether transfer `s` forwards an arrival waited for before step `n`. -/
def Fed (n : ℕ) (c : Dev nD) (s : Slot) : Prop := ¬ Given s ∧ ∃ t : Slot, feed (dx c) s = t.val ∧ tRecv t < n
instance (n : ℕ) (c : Dev nD) (s : Slot) : Decidable (Fed n c s) := by unfold Fed; infer_instance

/-- What a transfer forwards lies inside what arrived. -/
theorem feed_box : ∀ (c : Dev nD) (s : Slot), ¬ Given s → ∀ a : Fin 2,
    rOff (Fin.ofNat 48 (feed (dx c) s)) c a ≤ sOff s c a
      ∧ sOff s c a + sz s a ≤ rOff (Fin.ofNat 48 (feed (dx c) s)) c a + sz (Fin.ofNat 48 (feed (dx c) s)) a := by decide +kernel

theorem way_given : ∀ s : Slot, ¬ Given s → way s = 0 ∨ way s = 1 ∨ way s = 3 := by decide +kernel

/-! ## The state -/

theorem bs_hit {M : Type} [URA M] {P Q : Slot → Prop} [DecidablePred P] [DecidablePred Q] (Φ : Slot → sProp M) (s : Slot)
    (hs : ¬ Q s) (h : ∀ s', P s' ↔ s' = s ∨ Q s') :
    bigSep (Finset.univ.filter P) Φ = iprop(Φ s ∗ bigSep (Finset.univ.filter Q) Φ) := by
  rw [show Finset.univ.filter P = insert s (Finset.univ.filter Q) from by
    ext s'; simp only [Finset.mem_filter, Finset.mem_univ, true_and, Finset.mem_insert]; exact h s',
    bigSep_insert (by simpa using hs)]
  rfl

theorem bs_same {M : Type} [URA M] {P Q : Slot → Prop} [DecidablePred P] [DecidablePred Q] (Φ : Slot → sProp M)
    (h : ∀ s', P s' ↔ Q s') : bigSep (Finset.univ.filter P) Φ = bigSep (Finset.univ.filter Q) Φ := by
  congr 1; ext s'; simp only [Finset.mem_filter, Finset.mem_univ, true_and]; exact h s'

/-- What every device may use at any time: the invariants, that the rounds are open, the levels. -/
def Recs : sProp 𝕄 :=
  iprop((bigSep Finset.univ fun ck => cellInv ER (gRd pf) (K ck) (kcell ck))
    ∗ (bigSep Finset.univ fun ck : Dev nD × CellK => reached ER (kcell ck) 0) ∗ levAts L lv)

instance Recs_persistent : BI.Persistent (Recs pf K) := by unfold Recs; infer_instance

theorem inv_at (ck : Dev nD × CellK) :
    (bigSep Finset.univ fun ck => (cellInv ER (gRd pf) (K ck) (kcell ck) : sProp 𝕄)) ⊢ cellInv ER (gRd pf) (K ck) (kcell ck) :=
  bigSep_elim (Finset.mem_univ ck)
theorem reached_at (ck : Dev nD × CellK) :
    (bigSep Finset.univ fun ck : Dev nD × CellK => (reached ER (kcell ck) 0 : sProp 𝕄)) ⊢ reached ER (kcell ck) 0 :=
  bigSep_elim (Finset.mem_univ ck)

theorem Recs_inv (ck : Dev nD × CellK) : Recs pf K ⊢ cellInv ER (gRd pf) (K ck) (kcell ck) := by
  unfold Recs; iintro ⟨H, -⟩; iapply (inv_at pf K ck); iexact H
theorem Recs_reached (ck : Dev nD × CellK) : Recs pf K ⊢ reached ER (kcell ck) 0 := by
  unfold Recs; iintro ⟨-, H, -⟩; iapply (reached_at ck); iexact H
theorem Recs_lev : Recs pf K ⊢ levAts L lv := by
  unfold Recs; iintro ⟨-, -, H⟩; iexact H

set_option maxRecDepth 100000 in
theorem Recs_mayWait (c : Dev nD) (sm : SemLoc sig) (n : ℕ) (h : ∀ s, n ≤ tStart s → lvk (decode sm) ≤ tStart s) (hx : lvk (decode sm) < 1000) :
    Recs pf K ⊢ MayWait (c : Thread nD τ) sm () (Ow n c + Ox 0 c) := (Recs_lev pf K).trans (mayWait_n c sm n h hx)
set_option maxRecDepth 100000 in
theorem Recs_mayWait_low (c : Dev nD) (sm : SemLoc sig) (n : ℕ) (h : lvk (decode sm) = 0) :
    Recs pf K ⊢ MayWait (c : Thread nD τ) sm () (Ow n c + Ox 0 c) := (Recs_lev pf K).trans (mayWait_low c sm n h)

def Sa (c : Dev nD) (s : Slot) : sProp 𝕄 :=
  iprop(piece s c ∗ dutyTok ER (sendC s c) 0 0 ∗ dutyTok ER (recvC s (dst s c)) 0 0)
def Sb (c : Dev nD) (s : Slot) : sProp 𝕄 := iprop(atPos ER (recvC s c) 0 ∅ 0 ∗ cred (tallyAt (recvC s c) () (amt s)))
def Sc (c : Dev nD) (s : Slot) : sProp 𝕄 := atPos ER (sendC s c) 0 ∅ 0
def Sd (c : Dev nD) (s : Slot) : sProp 𝕄 := cred (tallyAt (sendC s c) () (amt s))
def Se (c : Dev nD) (s : Slot) : sProp 𝕄 := semVal (recvC s c) 0
def Sf (c : Dev nD) (s : Slot) : sProp 𝕄 := iprop(semVal (sendC s c) 0 ∗ srcRes pf s c)
def Sg (c : Dev nD) (s : Slot) : sProp 𝕄 := outP c qG (rOff s c) (sz s) (OUT pf c)

/-- The protocol's part of device `c`'s state after `n` steps. -/
def StA (n : ℕ) (c : Dev nD) : sProp 𝕄 :=
  iprop((∃ W, owes (c : Thread nD τ) (Ow n c + Ox 0 c) W)
    ∗ bigSep (Finset.univ.filter fun s => n ≤ tStart s) (Sa c)
    ∗ bigSep (Finset.univ.filter fun s => n ≤ tRecv s) (Sb c)
    ∗ bigSep (Finset.univ.filter fun s => n ≤ tSent s) (Sc c)
    ∗ bigSep (Finset.univ.filter fun s => tStart s < n ∧ n ≤ tSent s) (Sd c)
    ∗ bigSep (Finset.univ.filter fun s => tRecv s < n) (Se c)
    ∗ bigSep (Finset.univ.filter fun s => tSent s < n) (Sf pf c))

/-- The arrivals kept to the end, and the arrivals (a share of each) waiting to be forwarded. -/
def StB (n : ℕ) (c : Dev nD) : sProp 𝕄 :=
  iprop(bigSep (Finset.univ.filter fun s : Slot => 2 ≤ s.val ∧ tRecv s < n) (Sg pf c)
    ∗ bigSep (Finset.univ.filter fun s => n ≤ tStart s ∧ Fed n c s) (fun s => srcRes pf s c))

/-- The state of device `c` after `n` steps. -/
def St (n : ℕ) (c : Dev nD) : sProp 𝕄 := iprop(StA pf n c ∗ StB pf n c)

theorem Ow_start (s : Slot) (c : Dev nD) : Ow (tStart s) c = Ow (tStart s + 1) c + tallyAt (recvC s (dst s c)) () (amt s) := by
  unfold Ow
  rw [show Finset.univ.filter (fun s' => tStart s ≤ tStart s') = insert s (Finset.univ.filter (fun s' => tStart s + 1 ≤ tStart s')) from by
    ext s'; simp only [Finset.mem_filter, Finset.mem_univ, true_and, Finset.mem_insert]
    by_cases h : s' = s
    · simp [h]
    · have := start_ne s s' h; simp only [h, false_or]; omega, Finset.sum_insert (by simp), add_comm]

theorem Ow_same {n : ℕ} (h : ∀ s, tStart s ≠ n) (c : Dev nD) : Ow n c = Ow (n + 1) c := by
  unfold Ow
  congr 1; ext s; simp only [Finset.mem_filter, Finset.mem_univ, true_and]; have := h s; constructor <;> (intro h'; omega)

end Cert.Gather

end
-- ==== Proof.Steps.lean ====
module

public import proofs.«01_k».proof.Proof.State

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # One step of the protocol: a start, a wait for an arrival, a wait for a departure -/

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem raw_start (s : Slot) (c : Dev nD) {sp sp' : Space} {sh : Shape} {e : EltTy} {sm : Memref sig .tc sp sh e} {dm : Memref sig .tc sp' sh e}
    {n : Dev nD} (hn : n = dst s c) {sS sR : SemLoc sig} (hS : sS = csem (.inr (.inl s))) (hR : sR = csem (.inr (.inr s)))
    {hsc : dm.view.ref.isScScratch = false} {hsrc : sm.view.WordExact} {hdst : dm.view.WordExact}
    {hsem : DmaTarget.Typed sp sR (.remote (Dev.tc n : Thread nD τ) dm sS hsc)}
    {α : Type} {Q : α → sProp 𝕄} {k : PUnit → Prog (TpuEff nD τ sig (Elt F) Λ₀ .tc) α}
    {q : PosShare TreeShare} {fs : Buf (Elt F) (sm.view.loc (c : Thread nD τ))}
    (hres : srcRes pf s c = (sm.view.loc (c : Thread nD τ) ↦[sm.view.set]{q} fs))
    (hpiece : piece (F := F) s c ⊢ iprop(∃ fd, dm.view.loc (dst s c : Thread nD τ) ↦[dm.view.set]{fullShare} fd))
    (hland : ∀ fd, (dm.view.loc (dst s c : Thread nD τ) ↦[dm.view.set]{fullShare} (dm.view.write (Elt F) fd (sm.view.read (Elt F) fs) Finset.univ))
      ⊢ landed pf s (dst s c))
    (hN : dm.view.amount sR = amt s) :
    iprop(Recs pf K ∗ StA pf (tStart s) c ∗ srcRes pf s c)
      ⊢ iprop((StA pf (tStart s + 1) c -∗ WP c (k ⟨⟩) Q)
          -∗ WP c (.op (.enqueueDma sm (.remote (Dev.tc n : Thread nD τ) dm sS hsc) sR hsrc hdst hsem) k) Q) := by
  subst hn hS hR
  iintro ⟨#HR, HA, Hs⟩ Hk
  unfold StA
  icases HA with ⟨⟨%W, HO⟩, Ha, Hb, Hc, Hd, He, Hf⟩
  ihave Ha := (Entails.of_eq (bs_hit (P := fun s' => tStart s ≤ tStart s') (Q := fun s' => tStart s + 1 ≤ tStart s') (Sa c) s (by omega) (fun s' => by
    by_cases h : s' = s
    · simp [h]
    · have := start_ne s s' h; simp only [h, _root_.false_or]; omega))) $$ Ha
  icases Ha with ⟨Hs0, Ha⟩
  unfold Sa
  icases Hs0 with ⟨Hp, Ht1, Ht2⟩
  ihave Hp := hpiece $$ Hp
  icases Hp with ⟨%fd, Hp⟩
  ihave Hs := (Entails.of_eq hres) $$ Hs
  iapply (Rounds.wp_send_pointsTo 𝒱₀ ER (gRd pf) (c : Thread nD τ) none (κ₁ := K (c, .inr (.inl s))) (κ₂ := K (dst s c, .inr (.inr s)))
    (r₁ := 0) (r₂ := 0) (d₁ := 0) (d₂ := 0) (fd := fd)
    (by rw [duties_inr]; exact Finset.mem_singleton_self _) (by rw [duties_inr]; exact Finset.mem_singleton_self _)
    () () (amt s) hN (amount_send pf c s 0 0) (amount_recv pf (dst s c) s 0 0) (O₀ := Ow (tStart s) c + Ox 0 c) (Ow (tStart s + 1) c + Ox 0 c)
    (by rw [Ow_start]; exact add_right_comm _ _ _) (W := W)
    (by rw [payload_send, hres])
    (by rw [payload_recv]; exact hland fd)) $$ [Hs Hp HO Ht1 Ht2]
  · isplitr; · iapply (Recs_inv pf K (c, .inr (.inl s))); iexact HR
    isplitr; · iapply (Recs_inv pf K (dst s c, .inr (.inr s))); iexact HR
    isplitl [Hs]; · iexact Hs
    isplitl [Hp]; · iexact Hp
    isplitl [HO]; · iexact HO
    isplitl [Ht1]; · iexact Ht1
    isplitr; · iapply (Recs_reached pf K (c, .inr (.inl s))); iexact HR
    isplitl [Ht2]; · iexact Ht2
    iapply (Recs_reached pf K (dst s c, .inr (.inr s))); iexact HR
  iintro ⟨Hcr, HO⟩
  iapply Hk
  isplitl [HO]; · iexists W; iexact HO
  isplitl [Ha]; · iexact Ha
  isplitl [Hb]
  · iapply (Entails.of_eq (bs_same (P := fun s' => tStart s ≤ tRecv s') (Q := fun s' => tStart s + 1 ≤ tRecv s') (Sb c) (fun s' => by
      have := start_ne_recv s' s; omega))); iexact Hb
  isplitl [Hc]
  · iapply (Entails.of_eq (bs_same (P := fun s' => tStart s ≤ tSent s') (Q := fun s' => tStart s + 1 ≤ tSent s') (Sc c) (fun s' => by
      have := start_ne_sent s' s; omega))); iexact Hc
  isplitl [Hcr Hd]
  · iapply (Entails.of_eq (bs_hit (Q := fun s' => tStart s' < tStart s ∧ tStart s ≤ tSent s')
        (P := fun s' => tStart s' < tStart s + 1 ∧ tStart s + 1 ≤ tSent s') (Sd c) s (by omega) (fun s' => by
      by_cases h : s' = s
      · have := start_lt_sent s; subst h; simp only [_root_.true_or, iff_true]; omega
      · have := start_ne s s' h; have := start_ne_sent s' s; simp only [h, _root_.false_or]; omega)).symm)
    isplitl [Hcr]
    · unfold Sd; iexact Hcr
    · iexact Hd
  isplitl [He]
  · iapply (Entails.of_eq (bs_same (P := fun s' => tRecv s' < tStart s) (Q := fun s' => tRecv s' < tStart s + 1) (Se c) (fun s' => by
      have := start_ne_recv s' s; omega))); iexact He
  · iapply (Entails.of_eq (bs_same (P := fun s' => tSent s' < tStart s) (Q := fun s' => tSent s' < tStart s + 1) (Sf pf c) (fun s' => by
      have := start_ne_sent s' s; omega))); iexact Hf

/-- A wait operation for the units of one transfer on the semaphore `k`. -/
abbrev WaitsFor (c : Dev nD) (w : TpuEff nD τ sig (Elt F) Λ₀ .tc PUnit) (k : CellK) (s : Slot) : Prop :=
  ∀ R : PUnit → sProp 𝕄, wpE (defs₀ (F := F)) 𝒱₀ (c : Thread nD τ) none Set.univ w R = waitSpec (c : Thread nD τ) Set.univ (csem k) (amt s) R

theorem raw_recv (s : Slot) (c : Dev nD) {w : TpuEff nD τ sig (Elt F) Λ₀ .tc PUnit} (hw : WaitsFor c w (.inr (.inr s)) s)
    {α : Type} {Q : α → sProp 𝕄} {k : PUnit → Prog (TpuEff nD τ sig (Elt F) Λ₀ .tc) α} :
    iprop(Recs pf K ∗ StA pf (tRecv s) c)
      ⊢ iprop((StA pf (tRecv s + 1) c ∗ landed pf s c -∗ WP c (k ⟨⟩) Q) -∗ WP c (.op w k) Q) := by
  iintro ⟨#HR, HA⟩ Hk
  unfold StA
  icases HA with ⟨⟨%W, HO⟩, Ha, Hb, Hc, Hd, He, Hf⟩
  ihave Hb := (Entails.of_eq (bs_hit (P := fun s' => tRecv s ≤ tRecv s') (Q := fun s' => tRecv s + 1 ≤ tRecv s') (Sb c) s (by omega) (fun s' => by
    by_cases h : s' = s
    · simp [h]
    · have := recv_ne s s' h; simp only [h, _root_.false_or]; omega))) $$ Hb
  icases Hb with ⟨Hs0, Hb⟩
  unfold Sb
  icases Hs0 with ⟨Hat, Hcr⟩
  iapply (Rounds.wp_wait_rest_token 𝒱₀ ER (gRd pf) (c : Thread nD τ) none (κ := K (c, .inr (.inr s)))
      hw (Set.mem_univ _) () (O := Ow (tRecv s) c + Ox 0 c) (W := W) (R := 0) (m := 0) (T := ∅)
      (by rw [Nat.zero_add]; exact (expect_recv pf c s).symm)) $$ [Hcr HO Hat]
  · isplitr; · iapply (Recs_inv pf K (c, .inr (.inr s))); iexact HR
    isplitl [Hcr]; · iexact Hcr
    isplitl [HO]; · iexact HO
    isplitr
    · iapply (Recs_mayWait pf K c (csem (.inr (.inr s))) (tRecv s) (fun s' h => by
        rw [decode_csem]; show 1 + tStart s ≤ tStart s'; have := start_lt_recv s; omega) (by rw [decode_csem]; exact start_small s))
      iexact HR
    iexact Hat
  iintro ⟨HO, Hat, -, Hpay⟩
  ihave Hpay := (Entails.of_eq (rest_recv pf c s)) $$ Hpay
  imod (Rounds.cell_close ER (gRd pf) (Set.mem_univ (K (c, .inr (.inr s)))) (fun h => h) (R := 0 + 1) (duties_later pf (recvC s c))) $$ [Hat] with Hz
  · isplitr; · iapply (Recs_inv pf K (c, .inr (.inr s))); iexact HR
    iexact Hat
  iapply Hk
  isplitr [Hpay]
  · isplitl [HO]
    · rw [← Ow_same (fun s' => start_ne_recv s s') c]; iexists (insert (csem (.inr (.inr s)), ()) W); iexact HO
    isplitl [Ha]
    · iapply (Entails.of_eq (bs_same (P := fun s' => tRecv s ≤ tStart s') (Q := fun s' => tRecv s + 1 ≤ tStart s') (Sa c) (fun s' => by
        have := start_ne_recv s s'; omega))); iexact Ha
    isplitl [Hb]; · iexact Hb
    isplitl [Hc]
    · iapply (Entails.of_eq (bs_same (P := fun s' => tRecv s ≤ tSent s') (Q := fun s' => tRecv s + 1 ≤ tSent s') (Sc c) (fun s' => by
        have := recv_ne_sent s' s; omega))); iexact Hc
    isplitl [Hd]
    · iapply (Entails.of_eq (bs_same (P := fun s' => tStart s' < tRecv s ∧ tRecv s ≤ tSent s')
        (Q := fun s' => tStart s' < tRecv s + 1 ∧ tRecv s + 1 ≤ tSent s') (Sd c) (fun s' => by
        have := recv_ne_sent s' s; have := start_ne_recv s s'; omega))); iexact Hd
    isplitl [Hz He]
    · iapply (Entails.of_eq (bs_hit (Q := fun s' => tRecv s' < tRecv s) (P := fun s' => tRecv s' < tRecv s + 1) (Se c) s (by omega) (fun s' => by
        by_cases h : s' = s
        · simp [h]
        · have := recv_ne s s' h; simp only [h, _root_.false_or]; omega)).symm)
      isplitl [Hz]
      · unfold Se; iexact Hz
      · iexact He
    · iapply (Entails.of_eq (bs_same (P := fun s' => tSent s' < tRecv s) (Q := fun s' => tSent s' < tRecv s + 1) (Sf pf c) (fun s' => by
        have := recv_ne_sent s' s; omega))); iexact Hf
  · iexact Hpay

theorem raw_sent (s : Slot) (c : Dev nD) {w : TpuEff nD τ sig (Elt F) Λ₀ .tc PUnit} (hw : WaitsFor c w (.inr (.inl s)) s)
    {α : Type} {Q : α → sProp 𝕄} {k : PUnit → Prog (TpuEff nD τ sig (Elt F) Λ₀ .tc) α} :
    iprop(Recs pf K ∗ StA pf (tSent s) c)
      ⊢ iprop((StA pf (tSent s + 1) c -∗ WP c (k ⟨⟩) Q) -∗ WP c (.op w k) Q) := by
  iintro ⟨#HR, HA⟩ Hk
  unfold StA
  icases HA with ⟨⟨%W, HO⟩, Ha, Hb, Hc, Hd, He, Hf⟩
  ihave Hc := (Entails.of_eq (bs_hit (P := fun s' => tSent s ≤ tSent s') (Q := fun s' => tSent s + 1 ≤ tSent s') (Sc c) s (by omega) (fun s' => by
    by_cases h : s' = s
    · simp [h]
    · have := sent_ne s s' h; simp only [h, _root_.false_or]; omega))) $$ Hc
  icases Hc with ⟨Hat, Hc⟩
  ihave Hd := (Entails.of_eq (bs_hit (P := fun s' => tStart s' < tSent s ∧ tSent s ≤ tSent s')
    (Q := fun s' => tStart s' < tSent s + 1 ∧ tSent s + 1 ≤ tSent s') (Sd c) s (by omega) (fun s' => by
    by_cases h : s' = s
    · have := start_lt_sent s; subst h; simp only [_root_.true_or, iff_true]; omega
    · have := sent_ne s s' h; have := start_ne_sent s s'; simp only [h, _root_.false_or]; omega))) $$ Hd
  icases Hd with ⟨Hcr, Hd⟩
  unfold Sc Sd
  iapply (Rounds.wp_wait_rest_token 𝒱₀ ER (gRd pf) (c : Thread nD τ) none (κ := K (c, .inr (.inl s)))
      hw (Set.mem_univ _) () (O := Ow (tSent s) c + Ox 0 c) (W := W) (R := 0) (m := 0) (T := ∅)
      (by rw [Nat.zero_add]; exact (expect_send pf c s).symm)) $$ [Hcr HO Hat]
  · isplitr; · iapply (Recs_inv pf K (c, .inr (.inl s))); iexact HR
    isplitl [Hcr]; · iexact Hcr
    isplitl [HO]; · iexact HO
    isplitr
    · iapply (Recs_mayWait_low pf K c (csem (.inr (.inl s))) (tSent s) (by rw [decode_csem]; rfl))
      iexact HR
    iexact Hat
  iintro ⟨HO, Hat, -, Hpay⟩
  ihave Hpay := (Entails.of_eq (rest_send pf c s)) $$ Hpay
  imod (Rounds.cell_close ER (gRd pf) (Set.mem_univ (K (c, .inr (.inl s)))) (fun h => h) (R := 0 + 1) (duties_later pf (sendC s c))) $$ [Hat] with Hz
  · isplitr; · iapply (Recs_inv pf K (c, .inr (.inl s))); iexact HR
    iexact Hat
  iapply Hk
  isplitl [HO]
  · rw [← Ow_same (fun s' => start_ne_sent s s') c]; iexists (insert (csem (.inr (.inl s)), ()) W); iexact HO
  isplitl [Ha]
  · iapply (Entails.of_eq (bs_same (P := fun s' => tSent s ≤ tStart s') (Q := fun s' => tSent s + 1 ≤ tStart s') (Sa c) (fun s' => by
      have := start_ne_sent s s'; omega))); iexact Ha
  isplitl [Hb]
  · iapply (Entails.of_eq (bs_same (P := fun s' => tSent s ≤ tRecv s') (Q := fun s' => tSent s + 1 ≤ tRecv s') (Sb c) (fun s' => by
      have := recv_ne_sent s s'; omega))); iexact Hb
  isplitl [Hc]; · iexact Hc
  isplitl [Hd]; · iexact Hd
  isplitl [He]
  · iapply (Entails.of_eq (bs_same (P := fun s' => tRecv s' < tSent s) (Q := fun s' => tRecv s' < tSent s + 1) (Se c) (fun s' => by
      have := recv_ne_sent s s'; omega))); iexact He
  · iapply (Entails.of_eq (bs_hit (Q := fun s' => tSent s' < tSent s) (P := fun s' => tSent s' < tSent s + 1) (Sf pf c) s (by omega) (fun s' => by
      by_cases h : s' = s
      · simp [h]
      · have := sent_ne s s' h; simp only [h, _root_.false_or]; omega)).symm)
    isplitl [Hz Hpay]
    · unfold Sf
      isplitl [Hz]
      · iexact Hz
      · iexact Hpay
    · iexact Hf

/-! ## The arrivals kept and forwarded -/

theorem Fed_same {n : ℕ} (h : ∀ t : Slot, tRecv t ≠ n) (c : Dev nD) (s : Slot) : Fed n c s ↔ Fed (n + 1) c s := by
  unfold Fed
  refine and_congr_right fun _ => exists_congr fun t => and_congr_right fun _ => ?_
  have := h t; omega

theorem Fed_recv (t s : Slot) (c : Dev nD) : Fed (tRecv t + 1) c s ↔ (¬ Given s ∧ feed (dx c) s = t.val) ∨ Fed (tRecv t) c s := by
  unfold Fed
  constructor
  · rintro ⟨hg, t', ht', h⟩
    by_cases he : t' = t
    · subst he; exact .inl ⟨hg, ht'⟩
    · have := recv_ne t t' he; exact .inr ⟨hg, t', ht', by omega⟩
  · rintro (⟨hg, h⟩ | ⟨hg, t', ht', h⟩)
    · exact ⟨hg, t, h, by omega⟩
    · exact ⟨hg, t', ht', by omega⟩

theorem Fed_start {n : ℕ} {c : Dev nD} {s : Slot} (hg : ¬ Given s) (h : tStart s = n) : Fed n c s := by
  refine ⟨hg, ⟨feed (dx c) s, (feed_lt (dx c) (dx_lt c) s hg).1⟩, rfl, ?_⟩
  rw [← h]
  exact feed_before (dx c) (dx_lt c) s _ hg rfl

/-- At a start of a transfer of the device's own results nothing is taken from the arrivals; -/
theorem StB_given (s : Slot) (c : Dev nD) (hg : Given s) : StB pf (tStart s) c = StB pf (tStart s + 1) c := by
  unfold StB
  rw [bs_same (P := fun s' : Slot => 2 ≤ s'.val ∧ tRecv s' < tStart s) (Q := fun s' : Slot => 2 ≤ s'.val ∧ tRecv s' < tStart s + 1) (Sg pf c)
      (fun s' => by have := start_ne_recv s' s; omega),
    bs_same (P := fun s' => tStart s ≤ tStart s' ∧ Fed (tStart s) c s') (Q := fun s' => tStart s + 1 ≤ tStart s' ∧ Fed (tStart s + 1) c s')
      (fun s => srcRes pf s c) (fun s' => by
        rw [← Fed_same (fun t h => start_ne_recv t s h.symm) c s']
        by_cases he : s' = s
        · subst he; exact ⟨fun h => absurd hg h.2.1, fun h => absurd hg h.2.1⟩
        · have := start_ne s s' he
          refine and_congr_left fun _ => ?_
          omega)]

/-- at a start of a forwarding transfer, its source is; -/
theorem StB_fed (s : Slot) (c : Dev nD) (hg : ¬ Given s) : StB pf (tStart s) c ⊢ iprop(srcRes pf s c ∗ StB pf (tStart s + 1) c) := by
  unfold StB
  rw [bs_same (P := fun s' : Slot => 2 ≤ s'.val ∧ tRecv s' < tStart s) (Q := fun s' : Slot => 2 ≤ s'.val ∧ tRecv s' < tStart s + 1) (Sg pf c)
      (fun s' => by have := start_ne_recv s' s; omega),
    bs_hit (P := fun s' => tStart s ≤ tStart s' ∧ Fed (tStart s) c s') (Q := fun s' => tStart s + 1 ≤ tStart s' ∧ Fed (tStart s + 1) c s')
      (fun s => srcRes pf s c) s (by omega) (fun s' => by
        rw [← Fed_same (fun t h => start_ne_recv t s h.symm) c s']
        by_cases he : s' = s
        · subst he; exact ⟨fun h => .inl rfl, fun _ => ⟨Nat.le_refl _, Fed_start hg rfl⟩⟩
        · have := start_ne s s' he
          simp only [he, _root_.false_or]
          refine and_congr_left fun _ => ?_
          omega)]
  iintro ⟨H1, H2, H3⟩
  isplitl [H2]; · iexact H2
  isplitl [H1]; · iexact H1
  iexact H3

theorem StB_sent (s : Slot) (c : Dev nD) : StB pf (tSent s) c = StB pf (tSent s + 1) c := by
  unfold StB
  rw [bs_same (P := fun s' : Slot => 2 ≤ s'.val ∧ tRecv s' < tSent s) (Q := fun s' : Slot => 2 ≤ s'.val ∧ tRecv s' < tSent s + 1) (Sg pf c)
      (fun s' => by have := recv_ne_sent s s'; omega),
    bs_same (P := fun s' => tSent s ≤ tStart s' ∧ Fed (tSent s) c s') (Q := fun s' => tSent s + 1 ≤ tStart s' ∧ Fed (tSent s + 1) c s')
      (fun s => srcRes pf s c) (fun s' => by
        rw [← Fed_same (fun t => recv_ne_sent s t) c s']
        refine and_congr_left fun _ => ?_
        have := start_ne_sent s s'; omega)]

/-- The partner's partial product is neither forwarded nor kept here. -/
theorem StB_recvX (s : Slot) (c : Dev nD) (hs : s.val < 2) : StB pf (tRecv s) c = StB pf (tRecv s + 1) c := by
  unfold StB
  rw [bs_same (P := fun s' : Slot => 2 ≤ s'.val ∧ tRecv s' < tRecv s) (Q := fun s' : Slot => 2 ≤ s'.val ∧ tRecv s' < tRecv s + 1) (Sg pf c)
      (fun s' => by
        by_cases he : s' = s
        · subst he; omega
        · have := recv_ne s s' he; omega),
    bs_same (P := fun s' => tRecv s ≤ tStart s' ∧ Fed (tRecv s) c s') (Q := fun s' => tRecv s + 1 ≤ tStart s' ∧ Fed (tRecv s + 1) c s')
      (fun s => srcRes pf s c) (fun s' => by
        rw [Fed_recv s s' c]
        constructor
        · rintro ⟨h, h'⟩; have := start_ne_recv s s'; exact ⟨by omega, .inr h'⟩
        · rintro ⟨h, (⟨hg, h'⟩ | h')⟩
          · have := (feed_lt (dx c) (dx_lt c) s' hg).2; omega
          · exact ⟨by omega, h'⟩)]

/-- The share of an arrival its forwarding to neighbour `d` takes. -/
def shw (d : D) : PosShare TreeShare := if d = 3 then qY else if d = 1 then qZ else qF

theorem Box_mono {s : Shape} {off sz off' sz' : Fin s.rank → ℕ} (h : ∀ a, off' a ≤ off a ∧ off a + sz a ≤ off' a + sz' a) :
    Box s off sz ⊆ Box s off' sz' := fun i hi => mem_Box.mpr fun a => by
  have := mem_Box.mp hi a; have := h a; omega

/-- One arrival gives the source of every transfer that forwards it, and a share to keep. -/
theorem feed_split (t : Slot) (c : Dev nD) (ht : 2 ≤ t.val) :
    landed pf t c ⊢ iprop(Sg pf c t ∗ bigSep (Finset.univ.filter fun s => ¬ Given s ∧ feed (dx c) s = t.val) (fun s => srcRes pf s c)) := by
  have hfan : bigSep ({3, 1, 0} : Finset D) (fun d => outP c (shw d) (rOff t c) (sz t) (OUT pf c))
      ⊢ bigSep (Finset.univ.filter fun s => ¬ Given s ∧ feed (dx c) s = t.val) (fun s => srcRes pf s c) := by
    have hsub : (Finset.univ.filter fun s => ¬ Given s ∧ feed (dx c) s = t.val).image way ⊆ ({3, 1, 0} : Finset D) := by
      intro d hd
      obtain ⟨s, hs, rfl⟩ := Finset.mem_image.mp hd
      rcases way_given s (Finset.mem_filter.mp hs).2.1 with h | h | h <;> rw [h] <;> decide
    refine (bigSep_subset hsub).trans ?_
    rw [bigSep_image_of_injOn (fun s hs s' hs' h => by
      have hs := (Finset.mem_filter.mp hs).2; have hs' := (Finset.mem_filter.mp hs').2
      exact feed_inj (dx c) (dx_lt c) s s' ⟨hs.1, hs'.1, hs.2.trans hs'.2.symm, h⟩)]
    refine bigSep_mono fun s hs => ?_
    have hs := (Finset.mem_filter.mp hs).2
    have hb := feed_box c s hs.1
    have ht' : Fin.ofNat 48 (feed (dx c) s) = t := by
      apply Fin.ext; rw [hs.2]; exact Nat.mod_eq_of_lt t.isLt
    rw [ht'] at hb
    have h2 : ¬ s.val < 2 := fun h => hs.1 (.inl h)
    have h3 : ¬ FromSum s := fun h => hs.1 (.inr h)
    unfold srcRes shr
    rw [if_neg h2, if_neg h3, if_neg h2]
    exact (pointsTo_split_subset (Box_mono hb)).1.trans (by iintro ⟨H, -⟩; iexact H)
  unfold landed Sg
  rw [if_neg (by omega)]
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨HY, HZ⟩
  icases HR with ⟨HF, HG⟩
  isplitl [HG]; · iexact HG
  iapply hfan
  iapply (Entails.of_eq (show iprop(outP c (shw 3) (rOff t c) (sz t) (OUT pf c) ∗ outP c (shw 1) (rOff t c) (sz t) (OUT pf c)
      ∗ outP c (shw 0) (rOff t c) (sz t) (OUT pf c)) = bigSep ({3, 1, 0} : Finset D) (fun d => outP c (shw d) (rOff t c) (sz t) (OUT pf c)) from by
    rw [bigSep_insert (by decide), bigSep_insert (by decide), bigSep_singleton]; rfl))
  isplitl [HY]; · iexact HY
  isplitl [HZ]; · iexact HZ
  iexact HF

theorem StB_recv (t : Slot) (c : Dev nD) (ht : 2 ≤ t.val) : iprop(landed pf t c ∗ StB pf (tRecv t) c) ⊢ StB pf (tRecv t + 1) c := by
  unfold StB
  rw [bs_hit (Q := fun s' : Slot => 2 ≤ s'.val ∧ tRecv s' < tRecv t) (P := fun s' : Slot => 2 ≤ s'.val ∧ tRecv s' < tRecv t + 1) (Sg pf c) t (by omega)
      (fun s' => by
        by_cases he : s' = t
        · subst he; simp only [_root_.true_or, iff_true]; omega
        · have := recv_ne t s' he; simp only [he, _root_.false_or]; omega),
    show Finset.univ.filter (fun s' => tRecv t + 1 ≤ tStart s' ∧ Fed (tRecv t + 1) c s')
      = (Finset.univ.filter fun s => ¬ Given s ∧ feed (dx c) s = t.val) ∪ Finset.univ.filter (fun s' => tRecv t ≤ tStart s' ∧ Fed (tRecv t) c s') from by
      ext s'
      simp only [Finset.mem_union, Finset.mem_filter, Finset.mem_univ, true_and, Fed_recv t s' c]
      constructor
      · rintro ⟨h, h' | h'⟩
        · exact .inl h'
        · exact .inr ⟨by omega, h'⟩
      · rintro (h' | ⟨h, h'⟩)
        · have := feed_before (dx c) (dx_lt c) s' t h'.1 h'.2; exact ⟨by omega, .inl h'⟩
        · have := start_ne_recv t s'; exact ⟨by omega, .inr h'⟩,
    bigSep_union (Finset.disjoint_filter.mpr fun s _ h h' => by
      obtain ⟨_, _, t', ht', hlt⟩ := h'
      have : t' = t := Fin.ext (ht'.symm.trans h.2)
      subst this; omega)]
  refine (sep_mono_left (feed_split pf t c ht)).trans ?_
  iintro ⟨⟨HG, HN⟩, HS, HP⟩
  isplitl [HG HS]
  · isplitl [HG]; · iexact HG
    iexact HS
  · iapply (sep_mono_left .rfl)
    isplitl [HN]; · iexact HN
    iexact HP

end Cert.Gather

end
-- ==== Proof.Views.lean ====
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # Slices of whole buffers, and the contents that a landing leaves -/

theorem slice_set (b : Ref sig .tc) {off size : Fin b.ty.shape.rank → ℕ} (inb : ∀ a, off a + size a ≤ b.ty.shape.size a) :
    ((View.whole b).slice (Rect.unit (s := b.ty.shape) off size inb)).set = Box b.ty.shape off size := by
  rw [View.set_slice_whole]
  ext i; rw [Rect.mem_set_unit, mem_Box]

theorem sem_send (s : Slot) (inb) : (SemLoc.dma ((cc0_scratch5.slice (Rect.unit (s := S48) ![s.val] S1.size inb)).squeeze S_ squeezes_S1_S_).sem : SemLoc sig) = csem (.inr (.inl s)) := by
  revert s; decide +kernel

theorem sem_recv (s : Slot) (inb) : (SemLoc.dma ((cc0_scratch6.slice (Rect.unit (s := S48) ![s.val] S1.size inb)).squeeze S_ squeezes_S1_S_).sem : SemLoc sig) = csem (.inr (.inr s)) := by
  revert s; decide +kernel

/-! ## Where the result's values come from -/

theorem dx_partner (c : Dev nD) : dx (partner c) = 1 - dx c := by revert c; decide +kernel
theorem dx_dst (s : Slot) (c : Dev nD) : way s ≠ 0 → dx (dst s c) = dx c := by revert s c; decide +kernel
theorem way_kind : ∀ s : Slot, 2 ≤ s.val → way s = 0 → colKind s = 2 := by decide +kernel
theorem at3_self (c : Dev nD) : at3 (dx c) (dy c) (dz c) = c := by revert c; decide +kernel
theorem kind_lt : ∀ s : Slot, colKind s < 3 := by decide +kernel

/-- A device sums all the columns it sends on. -/
theorem own_cols (c : Dev nD) (s : Slot) (k : ℕ) (h : col (colKind s) c ≤ k ∧ k < col (colKind s) c + wid (colKind s)) : own c k := by
  have h3 := kind_lt s
  have hx := dx_lt c
  unfold col wid at h
  unfold own
  generalize colKind s = t at *
  generalize dx c = x at *
  rcases (by omega : t = 0 ∨ t = 1 ∨ t = 2) with rfl | rfl | rfl <;> rcases (by omega : x = 0 ∨ x = 1) with rfl | rfl <;> simp at h ⊢ <;> omega

/-- The result on both ends of a transfer is the same. -/
theorem out_dst (s : Slot) (hs : 2 ≤ s.val) (c : Dev nD) (i : S4096x4096.Idx)
    (h : col (colKind s) c ≤ (i 1).val ∧ (i 1).val < col (colKind s) c + wid (colKind s)) : OUT pf (dst s c) i = OUT pf c i := by
  have ho := own_cols c s _ h
  unfold OUT
  rw [if_pos ho]
  by_cases hw : way s = 0
  · have hk := way_kind s hs hw
    have hd : dst s c = partner c := by unfold dst nbr; rw [if_pos hw]
    have hn : ¬ own (partner c) (i 1).val := by
      rw [hk] at h
      have hx := dx_lt c
      have hp := dx_partner c
      unfold own
      rw [hp]
      unfold col wid at h
      generalize (i 1).val = k at *
      generalize dx c = x at *
      rcases (by omega : x = 0 ∨ x = 1) with rfl | rfl <;> simp at h ⊢ <;> omega
    rw [hd, if_neg hn, dx_partner]
    have hx := dx_lt c
    rw [show 1 - (1 - dx c) = dx c by omega]
  · have hd := dx_dst s c hw
    have : own (dst s c) (i 1).val := by unfold own at ho ⊢; rw [hd]; exact ho
    rw [if_pos this, hd]

/-- On a device's own rows and own columns the result is its own sum. -/
theorem out_own (c : Dev nD) (i : S4096x4096.Idx) (ho : own c (i 1).val) (p : ℕ) (hp : p < 256)
    (hi : (i 0).val = 1024 * dy c + 256 * dz c + p) : OUT pf c i = SUM pf c (ix p (i 1).val) := by
  have hz : dz c < 4 := Nat.mod_lt _ (by decide)
  unfold OUT
  rw [if_pos ho, hi, show (1024 * dy c + 256 * dz c + p) / 1024 = dy c by omega,
    show (1024 * dy c + 256 * dz c + p) / 256 % 4 = dz c by have : dy c < 4 := Nat.mod_lt _ (by decide); omega, at3_self]
  congr 1
  funext a; apply Fin.ext
  match a with
  | ⟨0, _⟩ => show (1024 * dy c + 256 * dz c + p) % 256 = p % 256; omega
  | ⟨1, _⟩ => rfl

/-! ## Starting a transfer -/

theorem sOff_small (s : Slot) (c : Dev nD) (hs : s.val < 2) : sOff s c = dOff s c := by revert s c; decide +kernel
theorem sOff_sum (s : Slot) (c : Dev nD) (hs : FromSum s) : sOff s c = ![0, col (colKind s) c] := by revert s c; decide +kernel
theorem sOff_fwd (s : Slot) (c : Dev nD) (hs : ¬ Given s) : sOff s c = dOff s c := by revert s c; decide +kernel
theorem dOff_big (s : Slot) (c : Dev nD) (hs : ¬ s.val < 2) : dOff s c = ![row (ci s) (cj s) c, col (colKind s) c] := if_neg hs
theorem dOff_sum (s : Slot) (c : Dev nD) (hs : FromSum s) : dOff s c = ![1024 * dy c + 256 * dz c, col (colKind s) c] := by revert s c; decide +kernel
theorem rOff_dst (s : Slot) (c : Dev nD) : rOff s (dst s c) = dOff s c := by unfold rOff; rw [src_dst]

section
variable {c : Dev nD} {s : Slot} {off off' size : Fin 2 → ℕ}

/-- The slice of the result array. -/
abbrev outV (off size : Fin 2 → ℕ) (inb : ∀ a, off a + size a ≤ S4096x4096.size a) : Memref sig .tc .hbm ⟨2, size⟩ .f32 :=
  (Memref.whole main_v1 : Memref sig .tc .hbm S4096x4096 .f32).slice (Rect.unit (s := S4096x4096) off size inb) (fun _ => rfl)
abbrev pfV (off size : Fin 2 → ℕ) (inb : ∀ a, off a + size a ≤ S256x4096.size a) : Memref sig .tc .vmem ⟨2, size⟩ .f32 :=
  (Memref.whole cc0_scratch2 : Memref sig .tc .vmem S256x4096 .f32).slice (Rect.unit (s := S256x4096) off size inb) (fun _ => rfl)
abbrev xrV (off size : Fin 2 → ℕ) (inb : ∀ a, off a + size a ≤ S256x4096.size a) : Memref sig .tc .vmem ⟨2, size⟩ .f32 :=
  (Memref.whole cc0_scratch3 : Memref sig .tc .vmem S256x4096 .f32).slice (Rect.unit (s := S256x4096) off size inb) (fun _ => rfl)
abbrev smV (off size : Fin 2 → ℕ) (inb : ∀ a, off a + size a ≤ S256x4096.size a) : Memref sig .tc .vmem ⟨2, size⟩ .f32 :=
  (Memref.whole cc0_scratch4 : Memref sig .tc .vmem S256x4096 .f32).slice (Rect.unit (s := S256x4096) off size inb) (fun _ => rfl)

theorem outV_emb {inb} (j : (⟨2, size⟩ : Shape).Idx) (a : Fin 2) : ((outV off size inb).view.emb j a : ℕ) = off a + (j a).val := by
  show off a + 1 * (j a).val = _; omega

theorem res_out (inb) (hoff : off = sOff s c) (hsz : size = sz s) (hg : ¬ Given s) :
    srcRes pf s c = ((outV off size inb).view.loc (c : Thread nD τ) ↦[(outV off size inb).view.set]{shr s} (OUT pf c)) := by
  subst hoff hsz
  unfold srcRes
  rw [if_neg fun h => hg (.inl h), if_neg fun h => hg (.inr h)]
  rw [show (outV (sOff s c) (sz s) inb).view.set = Box S4096x4096 (sOff s c) (sz s) from slice_set main_v1 inb]

theorem piece_out (inb) (hoff : off = dOff s c) (hsz : size = sz s) (hg : ¬ s.val < 2) :
    piece (F := F) s c ⊢ iprop(∃ fd, (outV off size inb).view.loc (dst s c : Thread nD τ) ↦[(outV off size inb).view.set]{fullShare} fd) := by
  subst hoff hsz
  unfold piece
  rw [if_neg hg, show (outV (dOff s c) (sz s) inb).view.set = Box S4096x4096 (dOff s c) (sz s) from slice_set main_v1 inb]
  exact .rfl

theorem land_out (inb) (hoff : off = dOff s c) (hsz : size = sz s) (hg : ¬ s.val < 2) (w : (⟨2, size⟩ : Shape).Idx → Elt F .f32)
    (hw : ∀ j, w j = OUT pf c ((outV off size inb).view.emb j)) (fd : BigC F) :
    ((outV off size inb).view.loc (dst s c : Thread nD τ) ↦[(outV off size inb).view.set]{fullShare}
      ((outV off size inb).view.write (Elt F) fd w Finset.univ)) ⊢ landed pf s (dst s c) := by
  subst hoff hsz
  unfold landed
  rw [if_neg hg, rOff_dst]
  have hset : (outV (dOff s c) (sz s) inb).view.set = Box S4096x4096 (dOff s c) (sz s) := slice_set main_v1 inb
  refine Entails.of_eq ?_
  unfold outP
  rw [← hset]
  refine pointsTo_congr fun i hi => ?_
  have hi' := hset ▸ hi
  obtain ⟨j, -, rfl⟩ := Finset.mem_map.mp hi
  rw [View.write_emb_of_mem _ _ (Finset.mem_univ j)]
  rw [out_dst pf s (by omega) c _ (by
    have := mem_Box.mp hi' 1
    have hc : dOff s c 1 = col (colKind s) c := by rw [dOff_big s c hg]; rfl
    have hz : sz s 1 = wid (colKind s) := rfl
    omega)]
  exact hw j

theorem res_pf (inb) (hoff : off = dOff s c) (hsz : size = sz s) (hg : s.val < 2) :
    srcRes pf s c = ((pfV off size inb).view.loc (c : Thread nD τ) ↦[(pfV off size inb).view.set]{shr s} (pf c)) := by
  subst hoff hsz
  unfold srcRes
  rw [if_pos hg, sOff_small s c hg]
  rw [show (pfV (dOff s c) (sz s) inb).view.set = Box S256x4096 (dOff s c) (sz s) from slice_set cc0_scratch2 inb]

theorem res_sum (inb) (hoff : off = ![0, col (colKind s) c]) (hsz : size = sz s) (hg : FromSum s) :
    srcRes pf s c = ((smV off size inb).view.loc (c : Thread nD τ) ↦[(smV off size inb).view.set]{shr s} (SUM pf c)) := by
  rw [← sOff_sum s c hg] at hoff
  subst hoff hsz
  unfold srcRes
  rw [if_neg (by rcases hg with h | h | h | h | h <;> omega), if_pos hg]
  rw [show (smV (sOff s c) (sz s) inb).view.set = Box S256x4096 (sOff s c) (sz s) from slice_set cc0_scratch4 inb]

theorem piece_xr (inb) (hoff : off = dOff s c) (hsz : size = sz s) (hg : s.val < 2) :
    piece (F := F) s c ⊢ iprop(∃ fd, (xrV off size inb).view.loc (dst s c : Thread nD τ) ↦[(xrV off size inb).view.set]{fullShare} fd) := by
  subst hoff hsz
  unfold piece
  rw [if_pos hg, show (xrV (dOff s c) (sz s) inb).view.set = Box S256x4096 (dOff s c) (sz s) from slice_set cc0_scratch3 inb]
  exact .rfl

theorem land_xr (inb) (hoff : off = dOff s c) (hsz : size = sz s) (hg : s.val < 2) (w : (⟨2, size⟩ : Shape).Idx → Elt F .f32)
    (hw : ∀ j, w j = pf c ((xrV off size inb).view.emb j)) (fd : SmallC F) :
    ((xrV off size inb).view.loc (dst s c : Thread nD τ) ↦[(xrV off size inb).view.set]{fullShare}
      ((xrV off size inb).view.write (Elt F) fd w Finset.univ)) ⊢ landed pf s (dst s c) := by
  subst hoff hsz
  unfold landed
  rw [if_pos hg, rOff_dst, src_dst]
  have hset : (xrV (dOff s c) (sz s) inb).view.set = Box S256x4096 (dOff s c) (sz s) := slice_set cc0_scratch3 inb
  refine Entails.of_eq ?_
  unfold xrP
  rw [← hset]
  refine pointsTo_congr fun i hi => ?_
  obtain ⟨j, -, rfl⟩ := Finset.mem_map.mp hi
  rw [View.write_emb_of_mem _ _ (Finset.mem_univ j)]
  exact hw j

/-- The sum buffer's own columns are the result on the device's own rows. -/
theorem sum_out (k : ℕ) (inb : ∀ a, ![0, col k c] a + size a ≤ S256x4096.size a) (inb' : ∀ a, off' a + size a ≤ S4096x4096.size a) (hk : ∀ q, col k c ≤ q → q < col k c + wid k → own c q) (hw : size = ![256, wid k])
    (ho : off' = ![1024 * dy c + 256 * dz c, col k c]) (j : (⟨2, size⟩ : Shape).Idx) :
    (smV ![0, col k c] size inb).view.read (Elt F) (SUM pf c) j = OUT pf c ((outV off' size inb').view.emb j) := by
  subst hw ho
  have h0 : (j 0).val < 256 := (j 0).isLt
  have h1 : (j 1).val < wid k := (j 1).isLt
  have e0 := outV_emb (inb := inb') j 0
  have e1 := outV_emb (inb := inb') j 1
  have hc : (((outV ![1024 * dy c + 256 * dz c, col k c] ![256, wid k] inb').view.emb j 1 : ℕ)) = col k c + (j 1).val := e1
  rw [out_own pf c _ (hk _ (by rw [hc]; omega) (by rw [hc]; omega)) (j 0).val h0 (by rw [e0]; rfl)]
  rw [View.read_apply]
  show SUM pf c _ = SUM pf c _
  congr 1
  funext a; apply Fin.ext
  match a with
  | ⟨0, _⟩ => show 0 + 1 * (j 0).val = (j 0).val % 256; omega
  | ⟨1, _⟩ =>
    show col k c + 1 * (j 1).val = _ % 4096
    have : col k c + wid k ≤ 4096 := inb 1
    rw [hc]; omega
end

/-! ## The steps, on the views that the kernel names -/

section
variable {n : ℕ} {c : Dev nD} {off off' size : Fin 2 → ℕ}

/-- Sending on what arrived. -/
theorem step_fwd (s : Slot) (hn : tStart s = n) (hg : ¬ Given s) {m : Dev nD} (hm : m = dst s c)
    {sS sR : SemLoc sig} (hS : sS = csem (.inr (.inl s))) (hR : sR = csem (.inr (.inr s))) {inb inb'}
    (hoff : off = dOff s c) (hsz : size = sz s)
    {hsc : (outV off size inb').view.ref.isScScratch = false} {hsrc : (outV off size inb).view.WordExact} {hdst : (outV off size inb').view.WordExact}
    {hsem : DmaTarget.Typed .hbm sR (.remote (Dev.tc m : Thread nD τ) (outV off size inb') sS hsc)}
    {α : Type} {Q : α → sProp 𝕄} {R : sProp 𝕄} {k : PUnit → Prog (TpuEff nD τ sig (Elt F) Λ₀ .tc) α}
    (h : iprop(Recs pf K ∗ St pf (n + 1) c ∗ R) ⊢ WP c (k ⟨⟩) Q) :
    iprop(Recs pf K ∗ St pf n c ∗ R)
      ⊢ WP c (.op (.enqueueDma (outV off size inb) (.remote (Dev.tc m : Thread nD τ) (outV off size inb') sS hsc) sR hsrc hdst hsem) k) Q := by
  subst hn
  have h2 : ¬ s.val < 2 := fun h => hg (.inl h)
  iintro ⟨#HR, HS, HF⟩
  unfold St at h ⊢
  icases HS with ⟨HA, HB⟩
  ihave HB := (StB_fed pf s c hg) $$ HB
  icases HB with ⟨Hs, HB⟩
  iapply (raw_start pf K s c (sm := outV off size inb) (dm := outV off size inb') hm hS hR
    (res_out pf inb (hoff.trans (sOff_fwd s c hg).symm) hsz hg) (piece_out inb' hoff hsz h2)
    (fun fd => land_out pf inb' hoff hsz h2 _ (fun j => rfl) fd) (by subst hsz hR; rfl)) $$ [HA Hs]
  · isplitr; · iexact HR
    isplitl [HA]; · iexact HA
    iexact Hs
  iintro HA
  iapply h
  isplitr; · iexact HR
  isplitr [HF]
  · isplitl [HA]; · iexact HA
    iexact HB
  · iexact HF

/-- Sending the device's own sum. -/
theorem w_sum (s : Slot) (hn : tStart s = n) (hg : FromSum s) {m : Dev nD} (hm : m = dst s c)
    {sS sR : SemLoc sig} (hS : sS = csem (.inr (.inl s))) (hR : sR = csem (.inr (.inr s))) {inb inb'}
    (hoff : off = ![0, col (colKind s) c]) (hoff' : off' = dOff s c) (hsz : size = sz s)
    {hsc : (outV off' size inb').view.ref.isScScratch = false} {hsrc : (smV off size inb).view.WordExact} {hdst : (outV off' size inb').view.WordExact}
    {hsem : DmaTarget.Typed .vmem sR (.remote (Dev.tc m : Thread nD τ) (outV off' size inb') sS hsc)}
    {α : Type} {Q : α → sProp 𝕄} {k : PUnit → Prog (TpuEff nD τ sig (Elt F) Λ₀ .tc) α} :
    iprop(Recs pf K ∗ St pf n c ∗ srcRes pf s c)
      ⊢ iprop((St pf (n + 1) c -∗ WP c (k ⟨⟩) Q) -∗ WP c (.op (.enqueueDma (smV off size inb) (.remote (Dev.tc m : Thread nD τ) (outV off' size inb') sS hsc) sR hsrc hdst hsem) k) Q) := by
  subst hn
  have h2 : ¬ s.val < 2 := by rcases hg with h | h | h | h | h <;> omega
  iintro ⟨#HR, HS, Hs⟩ Hk
  unfold St
  rw [StB_given pf s c (.inr hg)]
  icases HS with ⟨HA, HB⟩
  iapply (raw_start pf K s c (sm := smV off size inb) (dm := outV off' size inb') hm hS hR
    (res_sum pf inb hoff hsz hg) (piece_out inb' hoff' hsz h2)
    (fun fd => land_out pf inb' hoff' hsz h2 _ (fun j => by
      subst hoff
      exact sum_out pf (colKind s) inb inb' (fun q h h' => own_cols c s q ⟨h, h'⟩) hsz (hoff'.trans (dOff_sum s c hg)) j) fd) (by subst hsz hR; rfl)) $$ [HA Hs]
  · isplitr; · iexact HR
    isplitl [HA]; · iexact HA
    iexact Hs
  iintro HA
  iapply Hk
  isplitl [HA]; · iexact HA
  iexact HB

/-- Sending the partner its part of the product. -/
theorem w_part (s : Slot) (hn : tStart s = n) (hg : s.val < 2) {m : Dev nD} (hm : m = dst s c)
    {sS sR : SemLoc sig} (hS : sS = csem (.inr (.inl s))) (hR : sR = csem (.inr (.inr s))) {inb inb'}
    (hoff : off = dOff s c) (hsz : size = sz s)
    {hsc : (xrV off size inb').view.ref.isScScratch = false} {hsrc : (pfV off size inb).view.WordExact} {hdst : (xrV off size inb').view.WordExact}
    {hsem : DmaTarget.Typed .vmem sR (.remote (Dev.tc m : Thread nD τ) (xrV off size inb') sS hsc)}
    {α : Type} {Q : α → sProp 𝕄} {k : PUnit → Prog (TpuEff nD τ sig (Elt F) Λ₀ .tc) α} :
    iprop(Recs pf K ∗ St pf n c ∗ srcRes pf s c)
      ⊢ iprop((St pf (n + 1) c -∗ WP c (k ⟨⟩) Q) -∗ WP c (.op (.enqueueDma (pfV off size inb) (.remote (Dev.tc m : Thread nD τ) (xrV off size inb') sS hsc) sR hsrc hdst hsem) k) Q) := by
  subst hn
  iintro ⟨#HR, HS, Hs⟩ Hk
  unfold St
  rw [StB_given pf s c (.inl hg)]
  icases HS with ⟨HA, HB⟩
  iapply (raw_start pf K s c (sm := pfV off size inb) (dm := xrV off size inb') hm hS hR
    (res_pf pf inb hoff hsz hg) (piece_xr inb' hoff hsz hg)
    (fun fd => land_xr pf inb' hoff hsz hg _ (fun j => rfl) fd) (by subst hsz hR; rfl)) $$ [HA Hs]
  · isplitr; · iexact HR
    isplitl [HA]; · iexact HA
    iexact Hs
  iintro HA
  iapply Hk
  isplitl [HA]; · iexact HA
  iexact HB

/-- Waiting for an arrival that is kept and forwarded. -/
theorem step_recv (s : Slot) (hn : tRecv s = n) (hs : 2 ≤ s.val) {sp sp' : Space} {sh sh' : Shape} {e e' : EltTy} {sm : Memref sig .tc sp sh e} {dm : Memref sig .tc sp' sh' e'}
    {q : DmaSem sig} (hq : (SemLoc.dma q : SemLoc sig) = csem (.inr (.inr s))) (hN : dm.view.dmaCredit = amt s)
    {hsrc : sm.view.WordExact} {hdst : dm.view.WordExact}
    {α : Type} {Q : α → sProp 𝕄} {R : sProp 𝕄} {k : PUnit → Prog (TpuEff nD τ sig (Elt F) Λ₀ .tc) α}
    (h : iprop(Recs pf K ∗ St pf (n + 1) c ∗ R) ⊢ WP c (k ⟨⟩) Q) :
    iprop(Recs pf K ∗ St pf n c ∗ R) ⊢ WP c (.op (.waitDma2 q sm dm hsrc hdst) k) Q := by
  subst hn
  iintro ⟨#HR, HS, HF⟩
  unfold St at h ⊢
  icases HS with ⟨HA, HB⟩
  iapply (raw_recv pf K s c (fun P => by rw [wpE_waitDma2_eq, hq, hN])) $$ [HA]
  · isplitr; · iexact HR
    iexact HA
  iintro ⟨HA, HL⟩
  iapply h
  isplitr; · iexact HR
  isplitr [HF]
  · isplitl [HA]; · iexact HA
    iapply (StB_recv pf s c hs)
    isplitl [HL]; · iexact HL
    iexact HB
  · iexact HF

/-- Waiting for the partner's part of the product. -/
theorem w_recvX (s : Slot) (hn : tRecv s = n) (hs : s.val < 2) {sp sp' : Space} {sh sh' : Shape} {e e' : EltTy} {sm : Memref sig .tc sp sh e} {dm : Memref sig .tc sp' sh' e'}
    {q : DmaSem sig} (hq : (SemLoc.dma q : SemLoc sig) = csem (.inr (.inr s))) (hN : dm.view.dmaCredit = amt s)
    {hsrc : sm.view.WordExact} {hdst : dm.view.WordExact}
    {α : Type} {Q : α → sProp 𝕄} {k : PUnit → Prog (TpuEff nD τ sig (Elt F) Λ₀ .tc) α} :
    iprop(Recs pf K ∗ St pf n c)
      ⊢ iprop((St pf (n + 1) c ∗ landed pf s c -∗ WP c (k ⟨⟩) Q) -∗ WP c (.op (.waitDma2 q sm dm hsrc hdst) k) Q) := by
  subst hn
  iintro ⟨#HR, HS⟩ Hk
  unfold St
  rw [StB_recvX pf s c hs]
  icases HS with ⟨HA, HB⟩
  iapply (raw_recv pf K s c (fun P => by rw [wpE_waitDma2_eq, hq, hN])) $$ [HA]
  · isplitr; · iexact HR
    iexact HA
  iintro ⟨HA, HL⟩
  iapply Hk
  isplitr [HL]
  · isplitl [HA]; · iexact HA
    iexact HB
  · iexact HL

/-- Waiting for a departure. -/
theorem step_sent (s : Slot) (hn : tSent s = n) {sp sp' : Space} {sh sh' : Shape} {e e' : EltTy} {sm : Memref sig .tc sp sh e} {dm : Memref sig .tc sp' sh' e'}
    {q : DmaSem sig} (hq : (SemLoc.dma q : SemLoc sig) = csem (.inr (.inl s))) (hN : dm.view.dmaCredit = amt s)
    {hsrc : sm.view.WordExact} {hdst : dm.view.WordExact}
    {α : Type} {Q : α → sProp 𝕄} {R : sProp 𝕄} {k : PUnit → Prog (TpuEff nD τ sig (Elt F) Λ₀ .tc) α}
    (h : iprop(Recs pf K ∗ St pf (n + 1) c ∗ R) ⊢ WP c (k ⟨⟩) Q) :
    iprop(Recs pf K ∗ St pf n c ∗ R) ⊢ WP c (.op (.waitDma2 q sm dm hsrc hdst) k) Q := by
  subst hn
  iintro ⟨#HR, HS, HF⟩
  unfold St at h ⊢
  rw [StB_sent pf s c]
  icases HS with ⟨HA, HB⟩
  iapply (raw_sent pf K s c (fun P => by rw [wpE_waitDma2_eq, hq, hN])) $$ [HA]
  · isplitr; · iexact HR
    iexact HA
  iintro HA
  iapply h
  isplitr; · iexact HR
  isplitr [HF]
  · isplitl [HA]; · iexact HA
    iexact HB
  · iexact HF
/-- The same, among other resources. -/
theorem w_sent (s : Slot) (hn : tSent s = n) {sp sp' : Space} {sh sh' : Shape} {e e' : EltTy} {sm : Memref sig .tc sp sh e} {dm : Memref sig .tc sp' sh' e'}
    {q : DmaSem sig} (hq : (SemLoc.dma q : SemLoc sig) = csem (.inr (.inl s))) (hN : dm.view.dmaCredit = amt s)
    {hsrc : sm.view.WordExact} {hdst : dm.view.WordExact}
    {α : Type} {Q : α → sProp 𝕄} {k : PUnit → Prog (TpuEff nD τ sig (Elt F) Λ₀ .tc) α} :
    iprop(Recs pf K ∗ St pf n c)
      ⊢ iprop((St pf (n + 1) c -∗ WP c (k ⟨⟩) Q) -∗ WP c (.op (.waitDma2 q sm dm hsrc hdst) k) Q) := by
  iintro ⟨#HR, HS⟩ Hk
  iapply (step_sent pf K s hn hq hN (R := iprop(St pf (n + 1) c -∗ WP c (k ⟨⟩) Q)) (by
    iintro ⟨-, HS, Hk⟩
    iapply Hk
    iexact HS))
  isplitr; · iexact HR
  isplitl [HS]; · iexact HS
  iexact Hk
end

/-! ## The offsets and neighbours that the kernel computes -/

theorem off20_eq (c : Dev nD) (i : Fin 3) (j : Fin 4) : k0_off20 c (BitVec.ofNat 32 i.val) (BitVec.ofNat 32 j.val) = ![row i j c, col 0 c] := by
  revert c i j; decide +kernel
theorem off24_eq (c : Dev nD) (i : Fin 4) (j : Fin 3) : k0_off24 c (BitVec.ofNat 32 i.val) (BitVec.ofNat 32 j.val) = ![row i j c, col 1 c] := by
  revert c i j; decide +kernel
theorem off26_eq (c : Dev nD) (i j : Fin 4) : k0_off26 c (BitVec.ofNat 32 i.val) (BitVec.ofNat 32 j.val) = ![row i j c, col 2 c] := by
  revert c i j; decide +kernel
theorem off8_eq (c : Dev nD) : k0_off8 c = dOff 0 c := by revert c; decide +kernel
theorem off14_eq (c : Dev nD) : k0_off14 c = dOff 1 c := by revert c; decide +kernel
theorem off21_eq (c : Dev nD) : k0_off21 c = ![0, col 0 c] := by revert c; decide +kernel
theorem off25_eq (c : Dev nD) : k0_off25 c = ![0, col 1 c] := by revert c; decide +kernel
theorem off27_eq (c : Dev nD) : k0_off27 c = ![0, col 2 c] := by revert c; decide +kernel
theorem off19_eq (c : Dev nD) : k0_off19 c = ![0, col 0 c] := by revert c; decide +kernel
theorem off23_eq (c : Dev nD) : k0_off23 c = ![0, col 1 c] := by revert c; decide +kernel
theorem off22_eq (c : Dev nD) : k0_off22 c = ![1024 * dy c + 256 * dz c, col 0 c] := by revert c; decide +kernel
theorem off28_eq (c : Dev nD) : k0_off28 c = ![1024 * dy c + 256 * dz c, col 1 c] := by revert c; decide +kernel

end Cert.Gather

end
-- ==== Proof.Relay.lean ====
module

public import proofs.«01_k».proof.Proof.Views

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The exchange, part by part: passing sums and arrivals on -/

/-- Run from step `n`, the program ends at step `m`, whatever else is held. -/
def Thru (n m : ℕ) (c : Dev nD) {α : Type} (p : Prog (TpuEff nD τ sig (Elt F) Λ₀ .tc) α) : Prop :=
  ∀ (R : sProp 𝕄) (Q : α → sProp 𝕄), (∀ a, iprop(Recs pf K ∗ St pf m c ∗ R) ⊢ Q a) → iprop(Recs pf K ∗ St pf n c ∗ R) ⊢ WP c p Q

theorem done {c : Dev nD} {α : Type} {a : α} {P : sProp 𝕄} {Q : α → sProp 𝕄} (h : P ⊢ Q a) : P ⊢ WP c (Prog.ret a) Q := by
  unfold WP
  rw [wp_ret]
  iintro H
  imodintro
  iapply h
  iexact H

theorem part48 (c : Dev nD) (v2 : BitVec 32) (v5 : BitVec 32) (v8 : BitVec 32) (v27 : BitVec 32) (v38 : BitVec 32) (v1637 : BitVec 32) (c0_i32_1094 : BitVec 32) :
    Thru (F := F) pf K 12 15 c (k0_part48 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38 v1637 c0_i32_1094) := by
  rw [k0_part48_eq_skeleton, k0_part48_skel]
  simp only [Prog.lift, Prog.bind_op, Prog.bind_ret, Prog.pure_eq_ret]
  intro R Q h
  refine step_fwd pf K 3 rfl (by decide) (Fin.ext ((by decide +kernel : ∀ d : Dev nD, k0_dev13 d = (dst 3 d).val) c)) (sem_send 3 _) (sem_recv 3 _) (off20_eq c 0 1) rfl ?_
  refine step_fwd pf K 9 rfl (by decide) (Fin.ext ((by decide +kernel : ∀ d : Dev nD, k0_dev14 d = (dst 9 d).val) c)) (sem_send 9 _) (sem_recv 9 _) (off20_eq c 0 1) rfl ?_
  refine step_recv pf K 5 rfl (by decide) (sem_recv 5 _) rfl ?_
  exact done (h _)

theorem part49 (c : Dev nD) (v2 : BitVec 32) (v5 : BitVec 32) (v8 : BitVec 32) (v27 : BitVec 32) (v1674 : BitVec 32) :
    Thru (F := F) pf K 15 18 c (k0_part49 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v1674) := by
  rw [k0_part49_eq_skeleton, k0_part49_skel]
  simp only [Prog.lift, Prog.bind_op, Prog.bind_ret, Prog.pure_eq_ret]
  intro R Q h
  refine step_fwd pf K 6 rfl (by decide) (Fin.ext ((by decide +kernel : ∀ d : Dev nD, k0_dev15 d = (dst 6 d).val) c)) (sem_send 6 _) (sem_recv 6 _) (off24_eq c 1 0) rfl ?_
  refine step_fwd pf K 21 rfl (by decide) (Fin.ext ((by decide +kernel : ∀ d : Dev nD, k0_dev16 d = (dst 21 d).val) c)) (sem_send 21 _) (sem_recv 21 _) (off24_eq c 1 0) rfl ?_
  refine step_recv pf K 3 rfl (by decide) (sem_recv 3 _) rfl ?_
  exact done (h _)

theorem part50 (c : Dev nD) (v2 : BitVec 32) (v8 : BitVec 32) (v38 : BitVec 32) :
    Thru (F := F) pf K 18 22 c (k0_part50 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v8 v38) := by
  rw [k0_part50_eq_skeleton, k0_part50_skel]
  simp only [Prog.lift, Prog.bind_op, Prog.bind_ret, Prog.pure_eq_ret]
  intro R Q h
  refine step_fwd pf K 4 rfl (by decide) (Fin.ext ((by decide +kernel : ∀ d : Dev nD, k0_dev17 d = (dst 4 d).val) c)) (sem_send 4 _) (sem_recv 4 _) (off20_eq c 0 2) rfl ?_
  refine step_fwd pf K 10 rfl (by decide) (Fin.ext ((by decide +kernel : ∀ d : Dev nD, k0_dev18 d = (dst 10 d).val) c)) (sem_send 10 _) (sem_recv 10 _) (off20_eq c 0 2) rfl ?_
  refine step_recv pf K 6 rfl (by decide) (sem_recv 6 _) rfl ?_
  refine step_fwd pf K 7 rfl (by decide) (Fin.ext ((by decide +kernel : ∀ d : Dev nD, k0_dev19 d = (dst 7 d).val) c)) (sem_send 7 _) (sem_recv 7 _) (off24_eq c 2 0) rfl ?_
  exact done (h _)

theorem part51 (c : Dev nD) (v2 : BitVec 32) (v5 : BitVec 32) (v8 : BitVec 32) (v27 : BitVec 32) (v38 : BitVec 32) :
    Thru (F := F) pf K 22 25 c (k0_part51 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38) := by
  rw [k0_part51_eq_skeleton, k0_part51_skel]
  simp only [Prog.lift, Prog.bind_op, Prog.bind_ret, Prog.pure_eq_ret]
  intro R Q h
  refine step_fwd pf K 22 rfl (by decide) (Fin.ext ((by decide +kernel : ∀ d : Dev nD, k0_dev20 d = (dst 22 d).val) c)) (sem_send 22 _) (sem_recv 22 _) (off24_eq c 2 0) rfl ?_
  refine step_recv pf K 4 rfl (by decide) (sem_recv 4 _) rfl ?_
  refine step_fwd pf K 11 rfl (by decide) (Fin.ext ((by decide +kernel : ∀ d : Dev nD, k0_dev21 d = (dst 11 d).val) c)) (sem_send 11 _) (sem_recv 11 _) (off20_eq c 0 3) rfl ?_
  exact done (h _)

theorem part52 (c : Dev nD) (v2 : BitVec 32) (v5 : BitVec 32) (v8 : BitVec 32) (v27 : BitVec 32) (v38 : BitVec 32) (v1785 : BitVec 32) (c0_i32_1166 : BitVec 32) :
    Thru (F := F) pf K 25 28 c (k0_part52 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38 v1785 c0_i32_1166) := by
  rw [k0_part52_eq_skeleton, k0_part52_skel]
  simp only [Prog.lift, Prog.bind_op, Prog.bind_ret, Prog.pure_eq_ret]
  intro R Q h
  refine step_recv pf K 7 rfl (by decide) (sem_recv 7 _) rfl ?_
  refine step_fwd pf K 23 rfl (by decide) (Fin.ext ((by decide +kernel : ∀ d : Dev nD, k0_dev22 d = (dst 23 d).val) c)) (sem_send 23 _) (sem_recv 23 _) (off24_eq c 3 0) rfl ?_
  refine step_recv pf K 8 rfl (by decide) (sem_recv 8 _) rfl ?_
  exact done (h _)

theorem part53 (c : Dev nD) (v2 : BitVec 32) (v5 : BitVec 32) (v8 : BitVec 32) (v16 : BitVec 32) (v27 : BitVec 32) (v1820 : BitVec 32) (v1821 : BitVec 32) :
    Thru (F := F) pf K 28 31 c (k0_part53 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v1820 v1821) := by
  rw [k0_part53_eq_skeleton, k0_part53_skel]
  simp only [Prog.lift, Prog.bind_op, Prog.bind_ret, Prog.pure_eq_ret]
  intro R Q h
  refine step_fwd pf K 12 rfl (by decide) (Fin.ext ((by decide +kernel : ∀ d : Dev nD, k0_dev23 d = (dst 12 d).val) c)) (sem_send 12 _) (sem_recv 12 _) (off20_eq c 1 0) rfl ?_
  refine step_fwd pf K 36 rfl (by decide) (Fin.ext ((by decide +kernel : ∀ d : Dev nD, k0_dev24 d = (dst 36 d).val) c)) (sem_send 36 _) (sem_recv 36 _) (off26_eq c 1 0) rfl ?_
  refine step_recv pf K 20 rfl (by decide) (sem_recv 20 _) rfl ?_
  exact done (h _)

theorem part54 (c : Dev nD) (v2 : BitVec 32) (v5 : BitVec 32) (v8 : BitVec 32) (v16 : BitVec 32) (v38 : BitVec 32) :
    Thru (F := F) pf K 31 35 c (k0_part54 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v38) := by
  rw [k0_part54_eq_skeleton, k0_part54_skel]
  simp only [Prog.lift, Prog.bind_op, Prog.bind_ret, Prog.pure_eq_ret]
  intro R Q h
  refine step_fwd pf K 24 rfl (by decide) (Fin.ext ((by decide +kernel : ∀ d : Dev nD, k0_dev25 d = (dst 24 d).val) c)) (sem_send 24 _) (sem_recv 24 _) (off24_eq c 0 1) rfl ?_
  refine step_fwd pf K 33 rfl (by decide) (Fin.ext ((by decide +kernel : ∀ d : Dev nD, k0_dev26 d = (dst 33 d).val) c)) (sem_send 33 _) (sem_recv 33 _) (off26_eq c 0 1) rfl ?_
  refine step_recv pf K 9 rfl (by decide) (sem_recv 9 _) rfl ?_
  refine step_fwd pf K 13 rfl (by decide) (Fin.ext ((by decide +kernel : ∀ d : Dev nD, k0_dev27 d = (dst 13 d).val) c)) (sem_send 13 _) (sem_recv 13 _) (off20_eq c 1 1) rfl ?_
  exact done (h _)

theorem part55 (c : Dev nD) (v2 : BitVec 32) (v5 : BitVec 32) (v8 : BitVec 32) (v16 : BitVec 32) (v27 : BitVec 32) :
    Thru (F := F) pf K 35 38 c (k0_part55 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27) := by
  rw [k0_part55_eq_skeleton, k0_part55_skel]
  simp only [Prog.lift, Prog.bind_op, Prog.bind_ret, Prog.pure_eq_ret]
  intro R Q h
  refine step_recv pf K 21 rfl (by decide) (sem_recv 21 _) rfl ?_
  refine step_fwd pf K 25 rfl (by decide) (Fin.ext ((by decide +kernel : ∀ d : Dev nD, k0_dev28 d = (dst 25 d).val) c)) (sem_send 25 _) (sem_recv 25 _) (off24_eq c 1 1) rfl ?_
  refine step_fwd pf K 37 rfl (by decide) (Fin.ext ((by decide +kernel : ∀ d : Dev nD, k0_dev29 d = (dst 37 d).val) c)) (sem_send 37 _) (sem_recv 37 _) (off26_eq c 1 1) rfl ?_
  exact done (h _)

theorem part56 (c : Dev nD) (v2 : BitVec 32) (v5 : BitVec 32) (v8 : BitVec 32) (v27 : BitVec 32) (v38 : BitVec 32) (v1932 : BitVec 32) :
    Thru (F := F) pf K 38 41 c (k0_part56 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38 v1932) := by
  rw [k0_part56_eq_skeleton, k0_part56_skel]
  simp only [Prog.lift, Prog.bind_op, Prog.bind_ret, Prog.pure_eq_ret]
  intro R Q h
  refine step_recv pf K 10 rfl (by decide) (sem_recv 10 _) rfl ?_
  refine step_fwd pf K 14 rfl (by decide) (Fin.ext ((by decide +kernel : ∀ d : Dev nD, k0_dev30 d = (dst 14 d).val) c)) (sem_send 14 _) (sem_recv 14 _) (off20_eq c 1 2) rfl ?_
  refine step_recv pf K 22 rfl (by decide) (sem_recv 22 _) rfl ?_
  exact done (h _)

theorem part57 (c : Dev nD) (v2 : BitVec 32) (v5 : BitVec 32) (v8 : BitVec 32) (v27 : BitVec 32) (v38 : BitVec 32) :
    Thru (F := F) pf K 41 45 c (k0_part57 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38) := by
  rw [k0_part57_eq_skeleton, k0_part57_skel]
  simp only [Prog.lift, Prog.bind_op, Prog.bind_ret, Prog.pure_eq_ret]
  intro R Q h
  refine step_fwd pf K 26 rfl (by decide) (Fin.ext ((by decide +kernel : ∀ d : Dev nD, k0_dev31 d = (dst 26 d).val) c)) (sem_send 26 _) (sem_recv 26 _) (off24_eq c 2 1) rfl ?_
  refine step_recv pf K 11 rfl (by decide) (sem_recv 11 _) rfl ?_
  refine step_fwd pf K 15 rfl (by decide) (Fin.ext ((by decide +kernel : ∀ d : Dev nD, k0_dev32 d = (dst 15 d).val) c)) (sem_send 15 _) (sem_recv 15 _) (off20_eq c 1 3) rfl ?_
  refine step_recv pf K 23 rfl (by decide) (sem_recv 23 _) rfl ?_
  exact done (h _)

theorem part58 (c : Dev nD) (v2 : BitVec 32) (v5 : BitVec 32) (v8 : BitVec 32) (v16 : BitVec 32) (v27 : BitVec 32) (v38 : BitVec 32) :
    Thru (F := F) pf K 45 48 c (k0_part58 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38) := by
  rw [k0_part58_eq_skeleton, k0_part58_skel]
  simp only [Prog.lift, Prog.bind_op, Prog.bind_ret, Prog.pure_eq_ret]
  intro R Q h
  refine step_fwd pf K 27 rfl (by decide) (Fin.ext ((by decide +kernel : ∀ d : Dev nD, k0_dev33 d = (dst 27 d).val) c)) (sem_send 27 _) (sem_recv 27 _) (off24_eq c 3 1) rfl ?_
  refine step_recv pf K 12 rfl (by decide) (sem_recv 12 _) rfl ?_
  refine step_fwd pf K 16 rfl (by decide) (Fin.ext ((by decide +kernel : ∀ d : Dev nD, k0_dev34 d = (dst 16 d).val) c)) (sem_send 16 _) (sem_recv 16 _) (off20_eq c 2 0) rfl ?_
  exact done (h _)

theorem part59 (c : Dev nD) (v2 : BitVec 32) (v5 : BitVec 32) (v8 : BitVec 32) (v16 : BitVec 32) (v27 : BitVec 32) (v2042 : BitVec 32) :
    Thru (F := F) pf K 48 51 c (k0_part59 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v2042) := by
  rw [k0_part59_eq_skeleton, k0_part59_skel]
  simp only [Prog.lift, Prog.bind_op, Prog.bind_ret, Prog.pure_eq_ret]
  intro R Q h
  refine step_fwd pf K 40 rfl (by decide) (Fin.ext ((by decide +kernel : ∀ d : Dev nD, k0_dev35 d = (dst 40 d).val) c)) (sem_send 40 _) (sem_recv 40 _) (off26_eq c 2 0) rfl ?_
  refine step_recv pf K 24 rfl (by decide) (sem_recv 24 _) rfl ?_
  refine step_fwd pf K 28 rfl (by decide) (Fin.ext ((by decide +kernel : ∀ d : Dev nD, k0_dev36 d = (dst 28 d).val) c)) (sem_send 28 _) (sem_recv 28 _) (off24_eq c 0 2) rfl ?_
  exact done (h _)

end Cert.Gather

end
-- ==== Proof.Sums.lean ====
module

public import Idealize.ShloMosaic.Lib.Pipeline.Value
public import proofs.«01_k».proof.Proof.Relay

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The sums, and the device's own blocks of the result -/

section
variable {c : Dev nD}

/-- Columns `A` (`k = 0`) or `B` (`k = 1`) of the sum buffer, holding the sums. -/
abbrev smO (q : PosShare TreeShare) (k : ℕ) (c : Dev nD) : sProp 𝕄 := smP c q ![0, col k c] ![256, wid k] (SUM pf c)
/-- The device's own rows of the result in those columns. -/
abbrev outO (k : ℕ) (c : Dev nD) (f : BigC F) : sProp 𝕄 := outP c fullShare ![1024 * dy c + 256 * dz c, col k c] ![256, wid k] f
abbrev bxO (k : ℕ) (c : Dev nD) : Finset S256x4096.Idx := Box S256x4096 ![0, col k c] ![256, wid k]
/-- The sum buffer's other elements. -/
abbrev smRest (S : Finset S256x4096.Idx) (c : Dev nD) : sProp 𝕄 := iprop(∃ f : SmallC F, ((c : Thread nD τ).loc cc0_scratch4) ↦[S]{fullShare} f)
/-- The product buffer, at the share that stays with the device. -/
abbrev pfR (c : Dev nD) : sProp 𝕄 := ((c : Thread nD τ).loc cc0_scratch2) ↦[Finset.univ]{fullShare.right} (pf c)
abbrev cpS : DmaSem sig := cc0_scratch7.sem
/-- The copy of the sum buffer's columns to the result, under way. -/
abbrev FlightC (k : ℕ) (c : Dev nD) : sProp 𝕄 :=
  Transfers.Flight EC (c : Thread nD τ) (SemLoc.dma cpS) () (RefSig.tileCredit ⟨2, ![256, wid k]⟩ .f32) iprop(outO k c (OUT pf c) ∗ smO pf qG k c)

theorem own_kind (c : Dev nD) (k : ℕ) (hk : k < 3) (q : ℕ) (h : col k c ≤ q) (h' : q < col k c + wid k) : own c q := by
  have hx := dx_lt c
  simp only [col, wid] at h h'
  unfold own
  generalize dx c = x at *
  rcases (by omega : k = 0 ∨ k = 1 ∨ k = 2) with rfl | rfl | rfl <;> rcases (by omega : x = 0 ∨ x = 1) with rfl | rfl <;> simp at h h' ⊢ <;> omega

theorem landed_X0 : landed pf 0 c = xrP c fullShare ![0, col 0 c] ![256, wid 0] (pf (partner c)) := by
  have h : rOff 0 c = ![0, col 0 c] := by revert c; decide +kernel
  unfold landed; rw [if_pos (by decide), h]; rfl
theorem landed_X1 : landed pf 1 c = xrP c fullShare ![0, col 1 c] ![256, wid 1] (pf (partner c)) := by
  have h : rOff 1 c = ![0, col 1 c] := by revert c; decide +kernel
  unfold landed; rw [if_pos (by decide), h]; rfl
theorem src_2 : srcRes pf 2 c = smO pf qZ 0 c := by unfold srcRes; rw [if_neg (by decide), if_pos (by decide), sOff_sum 2 c (by decide)]; rfl
theorem src_8 : srcRes pf 8 c = smO pf qY 0 c := by unfold srcRes; rw [if_neg (by decide), if_pos (by decide), sOff_sum 8 c (by decide)]; rfl
theorem src_5 : srcRes pf 5 c = smO pf qY 1 c := by unfold srcRes; rw [if_neg (by decide), if_pos (by decide), sOff_sum 5 c (by decide)]; rfl
theorem src_20 : srcRes pf 20 c = smO pf qZ 1 c := by unfold srcRes; rw [if_neg (by decide), if_pos (by decide), sOff_sum 20 c (by decide)]; rfl
theorem src_32 : srcRes pf 32 c = smO pf qF 2 c := by unfold srcRes; rw [if_neg (by decide), if_pos (by decide), sOff_sum 32 c (by decide)]; rfl

/-- The partner's leftover columns lie in `A` or in `B`. -/
theorem src_32_in : iprop(smO pf qF 0 c ∗ smO pf qF 1 c) ⊢ iprop(srcRes pf 32 c ∗ (srcRes pf 32 c -∗ iprop(smO pf qF 0 c ∗ smO pf qF 1 c))) := by
  rw [src_32]
  have hx := dx_lt c
  rcases (by omega : dx c = 0 ∨ dx c = 1) with h | h
  · have hb : bxO 2 c ⊆ bxO 0 c := Box_mono (fun a => by
      match a with
      | ⟨0, _⟩ => exact ⟨Nat.le_refl _, Nat.le_refl _⟩
      | ⟨1, _⟩ => show col 0 c ≤ col 2 c ∧ col 2 c + wid 2 ≤ col 0 c + wid 0; simp [col, wid, h])
    iintro ⟨HA, HB⟩
    ihave HA := (pointsTo_split_subset hb).1 $$ HA
    icases HA with ⟨HF, HA⟩
    isplitl [HF]; · iexact HF
    iintro HF
    isplitr [HB]
    · iapply (pointsTo_split_subset hb).2
      isplitl [HF]; · iexact HF
      iexact HA
    · iexact HB
  · have hb : bxO 2 c ⊆ bxO 1 c := Box_mono (fun a => by
      match a with
      | ⟨0, _⟩ => exact ⟨Nat.le_refl _, Nat.le_refl _⟩
      | ⟨1, _⟩ => show col 1 c ≤ col 2 c ∧ col 2 c + wid 2 ≤ col 1 c + wid 1; simp [col, wid, h])
    iintro ⟨HA, HB⟩
    ihave HB := (pointsTo_split_subset hb).1 $$ HB
    icases HB with ⟨HF, HB⟩
    isplitl [HF]; · iexact HF
    iintro HF
    isplitl [HA]
    · iexact HA
    · iapply (pointsTo_split_subset hb).2
      isplitl [HF]; · iexact HF
      iexact HB

/-- A full share is the four shares of the sums. -/
theorem four_shares {ℓ : Loc nD τ sig} {I : Finset (Idx ℓ)} {f : Buf (Elt F) ℓ} :
    (ℓ ↦[I]{fullShare} f : sProp 𝕄) ⊢ iprop((ℓ ↦[I]{qY} f) ∗ (ℓ ↦[I]{qZ} f) ∗ (ℓ ↦[I]{qF} f) ∗ (ℓ ↦[I]{qG} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨HY, HZ⟩
  icases HR with ⟨HF, HG⟩
  isplitl [HY]; · iexact HY
  isplitl [HZ]; · iexact HZ
  isplitl [HF]; · iexact HF
  iexact HG
theorem four_shares_join {ℓ : Loc nD τ sig} {I : Finset (Idx ℓ)} {f : Buf (Elt F) ℓ} :
    iprop((ℓ ↦[I]{qY} f) ∗ (ℓ ↦[I]{qZ} f) ∗ (ℓ ↦[I]{qF} f) ∗ (ℓ ↦[I]{qG} f)) ⊢ (ℓ ↦[I]{fullShare} f : sProp 𝕄) := by
  iintro ⟨HY, HZ, HF, HG⟩
  iapply (pointsTo_share (PosShare.mem_left_op_right fullShare)).2
  isplitl [HY HZ]
  · iapply (pointsTo_share (PosShare.mem_left_op_right fullShare.left)).2
    isplitl [HY]; · iexact HY
    iexact HZ
  · iapply (pointsTo_share (PosShare.mem_left_op_right fullShare.right)).2
    isplitl [HF]; · iexact HF
    iexact HG

/-- Loads from the three buffers, and the store to the sum buffer. -/
theorem ld_pf {off size : Fin 2 → ℕ} {inb : ∀ a, off a + size a ≤ S256x4096.size a} {q : PosShare TreeShare} {f : SmallC F} {hl}
    {α : Type} {Q : α → sProp 𝕄} {kk : ((⟨2, size⟩ : Shape).Idx → Elt F .f32) → Prog (TpuEff nD τ sig (Elt F) Λ₀ .tc) α} :
    ((c : Thread nD τ).loc cc0_scratch2 ↦[Finset.univ]{q} f)
      ⊢ iprop((((c : Thread nD τ).loc cc0_scratch2 ↦[Finset.univ]{q} f) -∗ WP c (kk ((pfV off size inb).view.read (Elt F) f)) Q)
        -∗ WP c (.op (.load (Memref.whole cc0_scratch2 : Memref sig .tc .vmem S256x4096 .f32) (Rect.unit (s := S256x4096) off size inb).toLoadRect hl) kk) Q) :=
  wp_load_rect 𝒱₀ (c : Thread nD τ) none Set.univ (m := (Memref.whole cc0_scratch2 : Memref sig .tc .vmem S256x4096 .f32)) (r := Rect.unit (s := S256x4096) off size inb) (Finset.subset_univ _)
theorem ld_xr {off size : Fin 2 → ℕ} {inb : ∀ a, off a + size a ≤ S256x4096.size a} {off' : Fin 2 → ℕ} (hoff : off = off') {q : PosShare TreeShare} {f : SmallC F} {hl}
    {α : Type} {Q : α → sProp 𝕄} {kk : ((⟨2, size⟩ : Shape).Idx → Elt F .f32) → Prog (TpuEff nD τ sig (Elt F) Λ₀ .tc) α} :
    xrP c q off' size f
      ⊢ iprop((xrP c q off' size f -∗ WP c (kk ((xrV off size inb).view.read (Elt F) f)) Q)
        -∗ WP c (.op (.load (Memref.whole cc0_scratch3 : Memref sig .tc .vmem S256x4096 .f32) (Rect.unit (s := S256x4096) off size inb).toLoadRect hl) kk) Q) := by
  subst hoff
  exact wp_load_rect 𝒱₀ (c : Thread nD τ) none Set.univ (m := (Memref.whole cc0_scratch3 : Memref sig .tc .vmem S256x4096 .f32)) (r := Rect.unit (s := S256x4096) off size inb)
    (S := Box S256x4096 off size) ((slice_set cc0_scratch3 inb).subset)
theorem ld_sm {off size : Fin 2 → ℕ} {inb : ∀ a, off a + size a ≤ S256x4096.size a} {off' : Fin 2 → ℕ} (hoff : off = off') {f : SmallC F} {hl}
    {S : Finset S256x4096.Idx} (hS : Box S256x4096 off' size ⊆ S)
    {α : Type} {Q : α → sProp 𝕄} {kk : ((⟨2, size⟩ : Shape).Idx → Elt F .f32) → Prog (TpuEff nD τ sig (Elt F) Λ₀ .tc) α} :
    ((c : Thread nD τ).loc cc0_scratch4 ↦[S]{fullShare} f)
      ⊢ iprop((((c : Thread nD τ).loc cc0_scratch4 ↦[S]{fullShare} f) -∗ WP c (kk ((smV off size inb).view.read (Elt F) f)) Q)
        -∗ WP c (.op (.load (Memref.whole cc0_scratch4 : Memref sig .tc .vmem S256x4096 .f32) (Rect.unit (s := S256x4096) off size inb).toLoadRect hl) kk) Q) := by
  subst hoff
  exact wp_load_rect 𝒱₀ (c : Thread nD τ) none Set.univ (m := (Memref.whole cc0_scratch4 : Memref sig .tc .vmem S256x4096 .f32)) (r := Rect.unit (s := S256x4096) off size inb)
    (S := S) ((slice_set cc0_scratch4 inb).subset.trans hS)
theorem st_sm {off size : Fin 2 → ℕ} {inb : ∀ a, off a + size a ≤ S256x4096.size a} {off' : Fin 2 → ℕ} (hoff : off = off') {f : SmallC F}
    {S : Finset S256x4096.Idx} (hS : Box S256x4096 off' size ⊆ S) {w : (⟨2, size⟩ : Shape).Idx → Elt F .f32} {hx hm}
    {α : Type} {Q : α → sProp 𝕄} {kk : PUnit → Prog (TpuEff nD τ sig (Elt F) Λ₀ .tc) α} :
    ((c : Thread nD τ).loc cc0_scratch4 ↦[S]{fullShare} f)
      ⊢ iprop((((c : Thread nD τ).loc cc0_scratch4 ↦[S]{fullShare} (smV off size inb).view.write (Elt F) f w Finset.univ) -∗ WP c (kk ⟨⟩) Q)
        -∗ WP c (.op (.store (Memref.whole cc0_scratch4 : Memref sig .tc .vmem S256x4096 .f32) (Rect.unit (s := S256x4096) off size inb) w Finset.univ hx hm) kk) Q) := by
  subst hoff
  exact wp_store 𝒱₀ (c : Thread nD τ) none Set.univ (m := (Memref.whole cc0_scratch4 : Memref sig .tc .vmem S256x4096 .f32)) (r := Rect.unit (s := S256x4096) off size inb)
    (S := S) (by rw [View.setOn_univ]; exact (slice_set cc0_scratch4 inb).subset.trans hS)

/-- Storing the sums of columns `k` leaves them in the sum buffer. -/
theorem sm_stored (k : ℕ) {off size : Fin 2 → ℕ} {inb : ∀ a, off a + size a ≤ S256x4096.size a} (hoff : off = ![0, col k c]) (hsz : size = ![256, wid k])
    {S : Finset S256x4096.Idx} (hS : bxO k c ⊆ S) (f : SmallC F) (w : (⟨2, size⟩ : Shape).Idx → Elt F .f32)
    (hw : ∀ j, w j = SUM pf c ((smV off size inb).view.emb j)) :
    ((c : Thread nD τ).loc cc0_scratch4 ↦[S]{fullShare} (smV off size inb).view.write (Elt F) f w Finset.univ)
      ⊢ iprop(smRest (S \ bxO k c) c ∗ smO pf qY k c ∗ smO pf qZ k c ∗ smO pf qF k c ∗ smO pf qG k c) := by
  subst hoff hsz
  have hset : (smV ![0, col k c] ![256, wid k] inb).view.set = bxO k c := slice_set cc0_scratch4 inb
  refine (pointsTo_split_subset hS).1.trans ?_
  iintro ⟨H, HR⟩
  ihave H := (Entails.of_eq (pointsTo_congr (ℓ := (c : Thread nD τ).loc cc0_scratch4) (I := bxO k c) (g := SUM pf c) (fun i hi => by
    obtain ⟨j, -, rfl⟩ := Finset.mem_map.mp (hset ▸ hi)
    exact (View.write_emb_of_mem _ _ (Finset.mem_univ j)).trans (hw j)))) $$ H
  isplitl [HR]; · iexists _; iexact HR
  iapply four_shares
  iexact H

/-- Copying the sums of columns `k` to the device's own rows of the result: the start, -/
theorem w_copy (k : ℕ) (hk : k < 3) {off off' size : Fin 2 → ℕ} {inb inb'} (hoff : off = ![0, col k c]) (hoff' : off' = ![1024 * dy c + 256 * dz c, col k c])
    (hsz : size = ![256, wid k]) {hsrc : (smV off size inb).view.WordExact} {hdst : (outV off' size inb').view.WordExact}
    {hsem : DmaTarget.Typed .vmem (SemLoc.dma cpS) (.here (outV off' size inb') : DmaTarget nD τ sig (Dev.tc c : Thread nD τ).2 .hbm ⟨2, size⟩ .f32)}
    {f : BigC F} {α : Type} {Q : α → sProp 𝕄} {kk : PUnit → Prog (TpuEff nD τ sig (Elt F) Λ₀ .tc) α} :
    iprop(smO pf qG k c ∗ outO k c f ∗ semVal ((c : Thread nD τ), SemLoc.dma cpS) 0)
      ⊢ iprop((FlightC pf k c -∗ WP c (kk ⟨⟩) Q)
        -∗ WP c (.op (.enqueueDma (smV off size inb) (.here (outV off' size inb')) (.dma cpS) hsrc hdst hsem) kk) Q) := by
  subst hoff hoff' hsz
  have hset : (smV ![0, col k c] ![256, wid k] inb).view.set = bxO k c := slice_set cc0_scratch4 inb
  have hset' : (outV ![1024 * dy c + 256 * dz c, col k c] ![256, wid k] inb').view.set = Box S4096x4096 ![1024 * dy c + 256 * dz c, col k c] ![256, wid k] :=
    slice_set main_v1 inb'
  iintro ⟨Hs, Hd, Hv⟩ Hk
  iapply (Transfers.wp_dmaLocal EC 𝒱₀ (c : Thread nD τ) none (src := smV ![0, col k c] ![256, wid k] inb)
    (dst := outV ![1024 * dy c + 256 * dz c, col k c] ![256, wid k] inb') (q := qG) (fs := SUM pf c) (fd := f) () (RefSig.tileCredit ⟨2, ![256, wid k]⟩ .f32) rfl
    (RefSig.tileCredit_pos ⟨2, ![256, wid k]⟩ .f32 (by rcases (by omega : k = 0 ∨ k = 1 ∨ k = 2) with rfl | rfl | rfl <;> decide)) (Finset.Subset.refl _)) $$ [Hs Hd Hv]
  · rw [hset, hset']
    isplitl [Hs]; · iexact Hs
    isplitl [Hd]; · iexact Hd
    iexact Hv
  iintro HF
  iapply Hk
  iapply (Transfers.Flight_mono (c := (c : Thread nD τ)) EC ?_) $$ HF
  rw [hset, hset']
  refine sep_mono_left (Entails.of_eq (pointsTo_congr fun i hi => ?_))
  obtain ⟨j, -, rfl⟩ := Finset.mem_map.mp (hset' ▸ hi)
  exact (View.write_emb_of_mem _ _ (Finset.mem_univ j)).trans (sum_out pf k inb inb' (own_kind c k hk) rfl rfl j)

/-- and the wait. -/
theorem w_copied (k : ℕ) {n : ℕ} {sp sp' : Space} {sh sh' : Shape} {e e' : EltTy} {sm : Memref sig .tc sp sh e} {dm : Memref sig .tc sp' sh' e'}
    (hN : dm.view.dmaCredit = RefSig.tileCredit ⟨2, ![256, wid k]⟩ .f32)
    {hsrc : sm.view.WordExact} {hdst : dm.view.WordExact}
    {α : Type} {Q : α → sProp 𝕄} {kk : PUnit → Prog (TpuEff nD τ sig (Elt F) Λ₀ .tc) α} :
    iprop(Recs pf K ∗ St pf n c ∗ FlightC pf k c)
      ⊢ iprop((iprop(St pf n c ∗ outO k c (OUT pf c) ∗ smO pf qG k c ∗ semVal ((c : Thread nD τ), SemLoc.dma cpS) 0) -∗ WP c (kk ⟨⟩) Q)
        -∗ WP c (.op (.waitDma2 cpS sm dm hsrc hdst) kk) Q) := by
  iintro ⟨#HR, HS, HF⟩ Hk
  unfold St StA
  icases HS with ⟨⟨⟨%W, HO⟩, Hrest⟩, HB⟩
  iapply (Transfers.wp_waitLocalO EC 𝒱₀ (c : Thread nD τ) none () hN (O := Ow n c + Ox 0 c) (W := W)) $$ [HF HO]
  · isplitl [HF]; · iexact HF
    isplitl [HO]; · iexact HO
    iapply (Recs_mayWait_low pf K c (SemLoc.dma cpS) n (by decide +kernel))
    iexact HR
  iintro ⟨⟨HD, HD'⟩, Hv, HO⟩
  iapply Hk
  isplitl [HO Hrest HB]
  · isplitr [HB]
    · isplitl [HO]; · iexists _; iexact HO
      iexact Hrest
    · iexact HB
  isplitl [HD]; · iexact HD
  isplitl [HD']; · iexact HD'
  iexact Hv
end

/-! ## The parts -/

theorem bx_disj (c : Dev nD) : bxO 1 c ⊆ Finset.univ \ bxO 0 c := fun i hi => by
  refine Finset.mem_sdiff.mpr ⟨Finset.mem_univ _, fun h => ?_⟩
  have h1 := mem_Box.mp hi 1
  have h2 := mem_Box.mp h 1
  have e1 : col 1 c ≤ (i 1).val := h1.1
  have e2 : (i 1).val < col 0 c + wid 0 := h2.2
  simp [col, wid] at e1 e2
  omega

theorem part44 (c : Dev nD) (v5 : BitVec 32) (v8 : BitVec 32) (v11 : BitVec 32) (v16 : BitVec 32) (v1499 : BitVec 32) (v1500 : BitVec 32) (c4_i32_1008 : BitVec 32) (c0_i32_1009 : BitVec 32) {R : sProp 𝕄} {Q : _ → sProp 𝕄}
    (h : ∀ a, iprop(Recs pf K ∗ St pf 4 c ∗ (pfR pf c ∗ landed pf 0 c ∗ smRest (Finset.univ \ bxO 0 c) c ∗ smO pf qY 0 c ∗ smO pf qZ 0 c ∗ smO pf qF 0 c ∗ smO pf qG 0 c) ∗ R) ⊢ Q a) :
    iprop(Recs pf K ∗ St pf 2 c ∗ (pfR pf c ∗ smRest Finset.univ c) ∗ R) ⊢ WP c (k0_part44 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v11 v16 v1499 v1500 c4_i32_1008 c0_i32_1009) Q := by
  rw [k0_part44_eq_skeleton, k0_part44_skel]
  simp only [Prog.lift, Prog.bind_op, Prog.bind_ret, Prog.pure_eq_ret]
  refine step_sent pf K 0 rfl (sem_send 0 _) rfl ?_
  iintro ⟨#HR, HS, ⟨HP, HM⟩, HQ⟩
  iapply (w_recvX pf K 0 rfl (by decide) (sem_recv 0 _) rfl) $$ [HS]
  · isplitr; · iexact HR
    iexact HS
  iintro ⟨HS, HL⟩
  icases HM with ⟨%f, HM⟩
  iapply ld_pf $$ HP
  iintro HP
  ihave HL := (Entails.of_eq (landed_X0 pf)) $$ HL
  iapply (ld_xr (off19_eq c)) $$ HL
  iintro HL
  iapply (ld_sm (size := S256x1408.size) (off19_eq c) (Finset.subset_univ _)) $$ HM
  iintro HM
  iapply (st_sm (size := S256x1408.size) (off19_eq c) (Finset.subset_univ _)) $$ HM
  iintro HM
  ihave HM := (sm_stored pf 0 (size := S256x1408.size) (inb := k0_off19_inb c) (off19_eq c) rfl (Finset.subset_univ _) f _ (fun j => by
    unfold k0_pay14; rw [shapeCast_self]; rfl)) $$ HM
  iapply (done (h _))
  ihave HL := (Entails.of_eq (landed_X0 pf).symm) $$ HL
  isplitr; · iexact HR
  isplitl [HS]; · iexact HS
  isplitr [HQ]
  · isplitl [HP]; · iexact HP
    isplitl [HL]; · iexact HL
    iexact HM
  · iexact HQ

theorem part45 (c : Dev nD) (v2 : BitVec 32) (v5 : BitVec 32) (v8 : BitVec 32) (v10 : BitVec 32) (v16 : BitVec 32) (v27 : BitVec 32) (v38 : BitVec 32) {R : sProp 𝕄} {Q : _ → sProp 𝕄}
    (h : ∀ a, iprop(Recs pf K ∗ St pf 7 c ∗ FlightC pf 0 c ∗ R) ⊢ Q a) :
    iprop(Recs pf K ∗ St pf 4 c ∗ (smO pf qY 0 c ∗ smO pf qZ 0 c ∗ smO pf qG 0 c ∗ (∃ f, outO 0 c f) ∗ semVal ((c : Thread nD τ), SemLoc.dma cpS) 0) ∗ R) ⊢ WP c (k0_part45 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v10 v16 v27 v38) Q := by
  rw [k0_part45_eq_skeleton, k0_part45_skel]
  simp only [Prog.lift, Prog.bind_op, Prog.bind_ret, Prog.pure_eq_ret]
  iintro ⟨#HR, HS, ⟨HY, HZ, HG, ⟨%f, HO⟩, Hv⟩, HQ⟩
  ihave HZ := (Entails.of_eq (src_2 pf).symm) $$ HZ
  iapply (w_sum pf K 2 rfl (by decide) (Fin.ext ((by decide +kernel : ∀ d : Dev nD, k0_dev8 d = (dst 2 d).val) c)) (sem_send 2 _) (sem_recv 2 _) (off21_eq c) (off20_eq c 0 0) rfl) $$ [HS HZ]
  · isplitr; · iexact HR
    isplitl [HS]; · iexact HS
    iexact HZ
  iintro HS
  ihave HY := (Entails.of_eq (src_8 pf).symm) $$ HY
  iapply (w_sum pf K 8 rfl (by decide) (Fin.ext ((by decide +kernel : ∀ d : Dev nD, k0_dev9 d = (dst 8 d).val) c)) (sem_send 8 _) (sem_recv 8 _) (off21_eq c) (off20_eq c 0 0) rfl) $$ [HS HY]
  · isplitr; · iexact HR
    isplitl [HS]; · iexact HS
    iexact HY
  iintro HS
  iapply (w_copy pf 0 (by decide) (off21_eq c) (off22_eq c) rfl) $$ [HG HO Hv]
  · isplitl [HG]; · iexact HG
    isplitl [HO]; · iexact HO
    iexact Hv
  iintro HF
  iapply (w_sent pf K 1 rfl (sem_send 1 _) rfl) $$ [HS]
  · isplitr; · iexact HR
    iexact HS
  iintro HS
  iapply (done (h _))
  isplitr; · iexact HR
  isplitl [HS]; · iexact HS
  isplitl [HF]; · iexact HF
  iexact HQ

theorem part46 (c : Dev nD) (v2 : BitVec 32) (v5 : BitVec 32) (v8 : BitVec 32) (v12 : BitVec 32) (v27 : BitVec 32) (v38 : BitVec 32) (v1567 : BitVec 32) (c0_i32_1054 : BitVec 32) {R : sProp 𝕄} {Q : _ → sProp 𝕄}
    (h : ∀ a, iprop(Recs pf K ∗ St pf 9 c ∗ (pfR pf c ∗ landed pf 1 c ∗ smRest ((Finset.univ \ bxO 0 c) \ bxO 1 c) c ∗ smO pf qZ 1 c ∗ smO pf qF 1 c ∗ smO pf qG 1 c) ∗ R) ⊢ Q a) :
    iprop(Recs pf K ∗ St pf 7 c ∗ (pfR pf c ∗ smRest (Finset.univ \ bxO 0 c) c) ∗ R) ⊢ WP c (k0_part46 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v12 v27 v38 v1567 c0_i32_1054) Q := by
  rw [k0_part46_eq_skeleton, k0_part46_skel]
  simp only [Prog.lift, Prog.bind_op, Prog.bind_ret, Prog.pure_eq_ret]
  iintro ⟨#HR, HS, ⟨HP, HM⟩, HQ⟩
  iapply (w_recvX pf K 1 rfl (by decide) (sem_recv 1 _) rfl) $$ [HS]
  · isplitr; · iexact HR
    iexact HS
  iintro ⟨HS, HL⟩
  icases HM with ⟨%f, HM⟩
  iapply ld_pf $$ HP
  iintro HP
  ihave HL := (Entails.of_eq (landed_X1 pf)) $$ HL
  iapply (ld_xr (off23_eq c)) $$ HL
  iintro HL
  iapply (ld_sm (size := S256x1536.size) (off23_eq c) (bx_disj c)) $$ HM
  iintro HM
  iapply (st_sm (size := S256x1536.size) (off23_eq c) (bx_disj c)) $$ HM
  iintro HM
  ihave HM := (sm_stored pf 1 (size := S256x1536.size) (inb := k0_off23_inb c) (off23_eq c) rfl (bx_disj c) f _ (fun j => by
    unfold k0_pay15; rw [shapeCast_self]; rfl)) $$ HM
  icases HM with ⟨HM, HY, HZ, HF, HG⟩
  ihave HY := (Entails.of_eq (src_5 pf).symm) $$ HY
  iapply (w_sum pf K 5 rfl (by decide) (Fin.ext ((by decide +kernel : ∀ d : Dev nD, k0_dev10 d = (dst 5 d).val) c)) (sem_send 5 _) (sem_recv 5 _) (off25_eq c) (off24_eq c 0 0) rfl) $$ [HS HY]
  · isplitr; · iexact HR
    isplitl [HS]; · iexact HS
    iexact HY
  iintro HS
  iapply (done (h _))
  ihave HL := (Entails.of_eq (landed_X1 pf).symm) $$ HL
  isplitr; · iexact HR
  isplitl [HS]; · iexact HS
  isplitr [HQ]
  · isplitl [HP]; · iexact HP
    isplitl [HL]; · iexact HL
    isplitl [HM]; · iexact HM
    isplitl [HZ]; · iexact HZ
    isplitl [HF]; · iexact HF
    iexact HG
  · iexact HQ

theorem part47 (c : Dev nD) (v2 : BitVec 32) (v5 : BitVec 32) (v8 : BitVec 32) (v10 : BitVec 32) (v16 : BitVec 32) (v27 : BitVec 32) {R : sProp 𝕄} {Q : _ → sProp 𝕄}
    (h : ∀ a, iprop(Recs pf K ∗ St pf 12 c ∗ ((srcRes pf 32 c -∗ iprop(smO pf qF 0 c ∗ smO pf qF 1 c)) ∗ outO 0 c (OUT pf c) ∗ smO pf qG 0 c ∗ FlightC pf 1 c) ∗ R) ⊢ Q a) :
    iprop(Recs pf K ∗ St pf 9 c ∗ (smO pf qZ 1 c ∗ smO pf qG 1 c ∗ smO pf qF 0 c ∗ smO pf qF 1 c ∗ (∃ f, outO 1 c f) ∗ FlightC pf 0 c) ∗ R) ⊢ WP c (k0_part47 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v10 v16 v27) Q := by
  rw [k0_part47_eq_skeleton, k0_part47_skel]
  simp only [Prog.lift, Prog.bind_op, Prog.bind_ret, Prog.pure_eq_ret]
  iintro ⟨#HR, HS, ⟨HZ, HG, HF0, HF1, ⟨%f, HO⟩, HC⟩, HQ⟩
  ihave HF := (src_32_in pf) $$ [HF0 HF1]
  · isplitl [HF0]; · iexact HF0
    iexact HF1
  icases HF with ⟨HF, HW⟩
  ihave HZ := (Entails.of_eq (src_20 pf).symm) $$ HZ
  iapply (w_sum pf K 20 rfl (by decide) (Fin.ext ((by decide +kernel : ∀ d : Dev nD, k0_dev11 d = (dst 20 d).val) c)) (sem_send 20 _) (sem_recv 20 _) (off25_eq c) (off24_eq c 0 0) rfl) $$ [HS HZ]
  · isplitr; · iexact HR
    isplitl [HS]; · iexact HS
    iexact HZ
  iintro HS
  iapply (w_sum pf K 32 rfl (by decide) (Fin.ext ((by decide +kernel : ∀ d : Dev nD, k0_dev12 d = (dst 32 d).val) c)) (sem_send 32 _) (sem_recv 32 _) (off27_eq c) (off26_eq c 0 0) rfl) $$ [HS HF]
  · isplitr; · iexact HR
    isplitl [HS]; · iexact HS
    iexact HF
  iintro HS
  iapply (w_copied pf K 0 rfl) $$ [HS HC]
  · isplitr; · iexact HR
    isplitl [HS]; · iexact HS
    iexact HC
  iintro ⟨HS, HO0, HG0, Hv⟩
  iapply (w_copy pf 1 (by decide) (off25_eq c) (off28_eq c) rfl) $$ [HG HO Hv]
  · isplitl [HG]; · iexact HG
    isplitl [HO]; · iexact HO
    iexact Hv
  iintro HC
  iapply (step_recv pf K 2 rfl (by decide) (sem_recv 2 _) rfl (done (h _)))
  isplitr; · iexact HR
  isplitl [HS]; · iexact HS
  isplitr [HQ]
  · isplitl [HW]; · iexact HW
    isplitl [HO0]; · iexact HO0
    isplitl [HG0]; · iexact HG0
    iexact HC
  · iexact HQ

theorem part75 (c : Dev nD) (v5 : BitVec 32) (v8 : BitVec 32) (v16 : BitVec 32) {R : sProp 𝕄} {Q : _ → sProp 𝕄}
    (h : ∀ a, iprop(Recs pf K ∗ St pf 114 c ∗ (outO 1 c (OUT pf c) ∗ smO pf qG 1 c ∗ semVal ((c : Thread nD τ), SemLoc.dma cpS) 0) ∗ R) ⊢ Q a) :
    iprop(Recs pf K ∗ St pf 109 c ∗ FlightC pf 1 c ∗ R) ⊢ WP c (k0_part75 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16) Q := by
  rw [k0_part75_eq_skeleton, k0_part75_skel]
  simp only [Prog.lift, Prog.bind_op, Prog.bind_ret, Prog.pure_eq_ret]
  refine step_recv pf K 45 rfl (by decide) (sem_recv 45 _) rfl ?_
  refine step_sent pf K 46 rfl (sem_send 46 _) rfl ?_
  refine step_recv pf K 46 rfl (by decide) (sem_recv 46 _) rfl ?_
  refine step_sent pf K 47 rfl (sem_send 47 _) rfl ?_
  refine step_recv pf K 47 rfl (by decide) (sem_recv 47 _) rfl ?_
  iintro ⟨#HR, HS, HC, HQ⟩
  iapply (w_copied pf K 1 rfl) $$ [HS HC]
  · isplitr; · iexact HR
    isplitl [HS]; · iexact HS
    iexact HC
  iintro ⟨HS, HO, HG, Hv⟩
  iapply (done (h _))
  isplitr; · iexact HR
  isplitl [HS]; · iexact HS
  isplitr [HQ]
  · isplitl [HO]; · iexact HO
    isplitl [HG]; · iexact HG
    iexact Hv
  · iexact HQ

end Cert.Gather

end
-- ==== Proof.Tiles.lean ====
module

public import proofs.«01_k».proof.Proof.Sums

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The local products: the tiles of the weights, the rows of `dy`, the product buffer -/

abbrev DyB (F : FTy → Type) : Type := S4096x8192.Idx → Elt F .f32
variable (dym wm : Dev nD → DyB F)

abbrev wV (off : Fin 2 → ℕ) (w : ℕ) (inb : ∀ a, off a + ![w, 2048] a ≤ S4096x8192.size a) : Memref sig .tc .hbm ⟨2, ![w, 2048]⟩ .f32 :=
  (Memref.whole main_arg1 : Memref sig .tc .hbm S4096x8192 .f32).slice (Rect.unit (s := S4096x8192) off ![w, 2048] inb) (fun _ => rfl)
abbrev bV (b : ℕ) (w : ℕ) (inb : ∀ a, ![b, 0, 0] a + ![1, w, 2048] a ≤ S2x1536x2048.size a) : Memref sig .tc .vmem ⟨3, ![1, w, 2048]⟩ .f32 :=
  (Memref.whole cc0_scratch1 : Memref sig .tc .vmem S2x1536x2048 .f32).slice (Rect.unit (s := S2x1536x2048) ![b, 0, 0] ![1, w, 2048] inb) (fun _ => rfl)

/-- The semaphore of slot `b` of the tile buffer. -/
def ws (b : Fin 2) : DmaSem sig :=
  ((cc0_scratch8.slice (Rect.unit (s := S2) ![b.val] S1.size (by revert b; decide))).squeeze S_ squeezes_S1_S_).sem
abbrev slot (b : ℕ) : Finset S2x1536x2048.Idx := Box S2x1536x2048 ![b, 0, 0] ![1, 1536, 2048]
abbrev wCr (w : ℕ) : ℕ := RefSig.tileCredit ⟨2, ![w, 2048]⟩ .f32

variable {c : Dev nD}

theorem numel_tile (w : ℕ) : (⟨2, ![w, 2048]⟩ : Shape).numel = (⟨3, ![1, w, 2048]⟩ : Shape).numel := by
  simp [Shape.numel, Fin.prod_univ_succ]

/-- A tile of the weights, as the slot holds it. -/
def wT (off : Fin 2 → ℕ) (w : ℕ) (inb : ∀ a, off a + ![w, 2048] a ≤ S4096x8192.size a) (c : Dev nD) : (⟨3, ![1, w, 2048]⟩ : Shape).Idx → Elt F .f32 :=
  fun j => (wV off w inb).view.read (Elt F) (wm c) ((Shape.reshapeEquiv (numel_tile w)).symm j)

/-- The weights, whole. -/
abbrev Ww (c : Dev nD) : sProp 𝕄 := ((c : Thread nD τ).loc main_arg1) ↦[Finset.univ]{fullShare} (wm c)
/-- Slot `b` free, -/
def Idle (b : Fin 2) (c : Dev nD) : sProp 𝕄 :=
  iprop((∃ g : S2x1536x2048.Idx → Elt F .f32, ((c : Thread nD τ).loc cc0_scratch1) ↦[slot b.val]{fullShare} g) ∗ semVal ((c : Thread nD τ), SemLoc.dma (ws b)) 0)
/-- holding the tile, -/
def Held (b : Fin 2) (v : (⟨3, ![1, w, 2048]⟩ : Shape).Idx → Elt F .f32) (c : Dev nD) : sProp 𝕄 :=
  iprop(∃ g : S2x1536x2048.Idx → Elt F .f32, ⌜∀ inb, (bV b.val w inb).view.read (Elt F) g = v⌝ ∗ (((c : Thread nD τ).loc cc0_scratch1) ↦[slot b.val]{fullShare} g))
def Got (b : Fin 2) (v : (⟨3, ![1, w, 2048]⟩ : Shape).Idx → Elt F .f32) (c : Dev nD) : sProp 𝕄 :=
  iprop(Held b v c ∗ semVal ((c : Thread nD τ), SemLoc.dma (ws b)) 0)
/-- and being filled. -/
def Filling (b : Fin 2) (off : Fin 2 → ℕ) (w : ℕ) (inb : ∀ a, off a + ![w, 2048] a ≤ S4096x8192.size a) (c : Dev nD) : sProp 𝕄 :=
  iprop(Transfers.Flight EC (c : Thread nD τ) (SemLoc.dma (ws b)) () (wCr w)
      iprop(Held b (wT wm off w inb c) c ∗ (((c : Thread nD τ).loc main_arg1) ↦[Box S4096x8192 off ![w, 2048]]{fullShare} (wm c)))
    ∗ (((c : Thread nD τ).loc main_arg1) ↦[Finset.univ \ Box S4096x8192 off ![w, 2048]]{fullShare} (wm c)))

theorem got_idle {w : ℕ} {b : Fin 2} {v : (⟨3, ![1, w, 2048]⟩ : Shape).Idx → Elt F .f32} : Got b v c ⊢ Idle b c := by
  unfold Got Idle Held
  iintro ⟨⟨%g, -, H⟩, Hv⟩
  isplitl [H]; · iexists g; iexact H
  iexact Hv

theorem tile_start (b : Fin 2) (w : ℕ) (hw : w = 1152 ∨ w = 1408 ∨ w = 1536) {off : Fin 2 → ℕ} {inb : ∀ a, off a + ![w, 2048] a ≤ S4096x8192.size a}
    {inb' : ∀ a, ![b.val, 0, 0] a + ![1, w, 2048] a ≤ S2x1536x2048.size a} {hq : (⟨3, ![1, w, 2048]⟩ : Shape).Squeezes ⟨2, ![w, 2048]⟩}
    {q : DmaSem sig} (hs : q = ws b) {hsrc : (wV off w inb).view.WordExact} {hdst : ((bV b.val w inb').squeeze ⟨2, ![w, 2048]⟩ hq).view.WordExact}
    {hsem : DmaTarget.Typed .hbm (SemLoc.dma q) (.here ((bV b.val w inb').squeeze ⟨2, ![w, 2048]⟩ hq) : DmaTarget nD τ sig (Dev.tc c : Thread nD τ).2 .vmem ⟨2, ![w, 2048]⟩ .f32)}
    {α : Type} {Q : α → sProp 𝕄} {k : PUnit → Prog (TpuEff nD τ sig (Elt F) Λ₀ .tc) α} :
    iprop(Ww wm c ∗ Idle b c)
      ⊢ iprop((Filling wm b off w inb c -∗ WP c (k ⟨⟩) Q)
        -∗ WP c (.op (.enqueueDma (wV off w inb) (.here ((bV b.val w inb').squeeze ⟨2, ![w, 2048]⟩ hq)) (.dma q) hsrc hdst hsem) k) Q) := by
  subst hs
  have hset : (wV off w inb).view.set = Box S4096x8192 off ![w, 2048] := slice_set main_arg1 inb
  have hset' : ((bV b.val w inb').squeeze ⟨2, ![w, 2048]⟩ hq).view.set ⊆ slot b.val := by
    have e : ((bV b.val w inb').squeeze ⟨2, ![w, 2048]⟩ hq).view.set = Box S2x1536x2048 ![b.val, 0, 0] ![1, w, 2048] :=
      (View.set_reshape _ _).trans (slice_set cc0_scratch1 inb')
    refine e.subset.trans ?_
    refine Box_mono (s := S2x1536x2048) fun a => ?_
    match a with
    | ⟨0, _⟩ => exact ⟨Nat.le_refl _, Nat.le_refl _⟩
    | ⟨1, _⟩ => exact ⟨Nat.le_refl _, by show 0 + w ≤ 0 + 1536; omega⟩
    | ⟨2, _⟩ => exact ⟨Nat.le_refl _, Nat.le_refl _⟩
  unfold Idle Filling
  iintro ⟨HW, ⟨%g, Hb⟩, Hv⟩ Hk
  ihave HW := (pointsTo_split_subset (Finset.subset_univ (Box S4096x8192 off ![w, 2048]))).1 $$ HW
  icases HW with ⟨HT, HW⟩
  iapply (Transfers.wp_dmaLocal EC 𝒱₀ (c : Thread nD τ) none (src := wV off w inb)
    (dst := (bV b.val w inb').squeeze ⟨2, ![w, 2048]⟩ hq) (q := fullShare) (fs := wm c) (fd := g) () (wCr w) rfl
    (RefSig.tileCredit_pos ⟨2, ![w, 2048]⟩ .f32 (by rcases hw with rfl | rfl | rfl <;> decide)) hset') $$ [HT Hb Hv]
  · rw [hset]
    isplitl [HT]; · iexact HT
    isplitl [Hb]; · iexact Hb
    iexact Hv
  iintro HF
  iapply Hk
  isplitl [HF]
  · iapply (Transfers.Flight_mono (c := (c : Thread nD τ)) EC ?_) $$ HF
    rw [hset]
    refine sep_mono_left ?_
    unfold Held
    iintro H
    iexists _
    isplitr
    rotate_left
    · iexact H
    · ipureintro
      intro inb2
      funext j
      have e : (bV b.val w inb2).view.emb j = ((bV b.val w inb').squeeze ⟨2, ![w, 2048]⟩ hq).view.emb ((Shape.reshapeEquiv (numel_tile w)).symm j) := by
        show (bV b.val w inb').view.emb j = (bV b.val w inb').view.emb (Shape.reshapeEquiv (numel_tile w) ((Shape.reshapeEquiv (numel_tile w)).symm j))
        rw [Equiv.apply_symm_apply]
      rw [View.read_apply, e]
      exact View.write_emb_of_mem _ _ (Finset.mem_univ _)
  · iexact HW

theorem tile_wait (b : Fin 2) {w n : ℕ} {off : Fin 2 → ℕ} {inb : ∀ a, off a + ![w, 2048] a ≤ S4096x8192.size a}
    {q : DmaSem sig} (hs : q = ws b) {sp sp' : Space} {sh sh' : Shape} {e e' : EltTy} {sm : Memref sig .tc sp sh e} {dm : Memref sig .tc sp' sh' e'}
    (hN : dm.view.dmaCredit = wCr w) {hsrc : sm.view.WordExact} {hdst : dm.view.WordExact}
    {α : Type} {Q : α → sProp 𝕄} {kk : PUnit → Prog (TpuEff nD τ sig (Elt F) Λ₀ .tc) α} :
    iprop(Recs pf K ∗ St pf n c ∗ Filling wm b off w inb c)
      ⊢ iprop((iprop(St pf n c ∗ Ww wm c ∗ Got b (wT wm off w inb c) c) -∗ WP c (kk ⟨⟩) Q)
        -∗ WP c (.op (.waitDma2 q sm dm hsrc hdst) kk) Q) := by
  subst hs
  unfold Filling Got
  iintro ⟨#HR, HS, HF, HW⟩ Hk
  unfold St StA
  icases HS with ⟨⟨⟨%W, HO⟩, Hrest⟩, HB⟩
  iapply (Transfers.wp_waitLocalO EC 𝒱₀ (c : Thread nD τ) none () hN (O := Ow n c + Ox 0 c) (W := W)) $$ [HF HO]
  · isplitl [HF]; · iexact HF
    isplitl [HO]; · iexact HO
    iapply (Recs_mayWait_low pf K c (SemLoc.dma (ws b)) n (by revert b; decide +kernel))
    iexact HR
  iintro ⟨⟨HD, HD'⟩, Hv, HO⟩
  iapply Hk
  isplitl [HO Hrest HB]
  · isplitr [HB]
    · isplitl [HO]; · iexists _; iexact HO
      iexact Hrest
    · iexact HB
  isplitl [HD' HW]
  · iapply (pointsTo_split_subset (Finset.subset_univ (Box S4096x8192 off ![w, 2048]))).2
    isplitl [HD']; · iexact HD'
    iexact HW
  isplitl [HD]; · iexact HD
  iexact Hv

theorem ld_tile (b : Fin 2) (w : ℕ) (hw : w ≤ 1536) {inb : ∀ a, ![b.val, 0, 0] a + ![1, w, 2048] a ≤ S2x1536x2048.size a}
    {v : (⟨3, ![1, w, 2048]⟩ : Shape).Idx → Elt F .f32} {hl}
    {α : Type} {Q : α → sProp 𝕄} {kk : ((⟨3, ![1, w, 2048]⟩ : Shape).Idx → Elt F .f32) → Prog (TpuEff nD τ sig (Elt F) Λ₀ .tc) α} :
    Got b v c
      ⊢ iprop((Idle b c -∗ WP c (kk v) Q)
        -∗ WP c (.op (.load (Memref.whole cc0_scratch1 : Memref sig .tc .vmem S2x1536x2048 .f32) (Rect.unit (s := S2x1536x2048) ![b.val, 0, 0] ![1, w, 2048] inb).toLoadRect hl) kk) Q) := by
  unfold Got Held Idle
  iintro ⟨⟨%g, %hg, H⟩, Hv⟩ Hk
  rw [← hg inb]
  iapply (wp_load_rect 𝒱₀ (c : Thread nD τ) none Set.univ (m := (Memref.whole cc0_scratch1 : Memref sig .tc .vmem S2x1536x2048 .f32))
    (r := Rect.unit (s := S2x1536x2048) ![b.val, 0, 0] ![1, w, 2048] inb) (S := slot b.val) (by
      rw [show ((Memref.whole cc0_scratch1 : Memref sig .tc .vmem S2x1536x2048 .f32).access (Rect.unit (s := S2x1536x2048) ![b.val, 0, 0] ![1, w, 2048] inb)).set = Box S2x1536x2048 ![b.val, 0, 0] ![1, w, 2048] from slice_set cc0_scratch1 inb]
      refine Box_mono (s := S2x1536x2048) fun a => ?_
      match a with
      | ⟨0, _⟩ => exact ⟨Nat.le_refl _, Nat.le_refl _⟩
      | ⟨1, _⟩ => exact ⟨Nat.le_refl _, by show 0 + w ≤ 0 + 1536; omega⟩
      | ⟨2, _⟩ => exact ⟨Nat.le_refl _, Nat.le_refl _⟩)) $$ H
  iintro H
  iapply Hk
  isplitl [H]; · iexists g; iexact H
  iexact Hv

/-! ## The rows of `dy` -/

abbrev dV (off : Fin 2 → ℕ) (inb : ∀ a, off a + S256x8192.size a ≤ S4096x8192.size a) : Memref sig .tc .hbm S256x8192 .f32 :=
  (Memref.whole main_arg0 : Memref sig .tc .hbm S4096x8192 .f32).slice (Rect.unit (s := S4096x8192) off S256x8192.size inb) (fun _ => rfl)
/-- The device's rows of `dy`. -/
def dyR (c : Dev nD) : S256x8192.Idx → Elt F .f32 := (dV (k0_off1 c) (k0_off1_inb c)).view.read (Elt F) (dym c)
/-- The columns from `o` of those rows. -/
def dyK (o : ℕ) (inb : ∀ a, ![0, o] a + S256x2048.size a ≤ S256x8192.size a) (c : Dev nD) : S256x2048.Idx → Elt F .f32 :=
  ((Memref.whole cc0_scratch0 : Memref sig .tc .vmem S256x8192 .f32).access (Rect.unit (s := S256x8192) ![0, o] S256x2048.size inb)).read (Elt F) (dyR dym c)
abbrev Dw (c : Dev nD) : sProp 𝕄 := ((c : Thread nD τ).loc main_arg0) ↦[Finset.univ]{fullShare} (dym c)
abbrev DyQ (c : Dev nD) : sProp 𝕄 := ((c : Thread nD τ).loc cc0_scratch0) ↦[Finset.univ]{fullShare} (dyR dym c)
abbrev dS : DmaSem sig := cc0_scratch9.sem
def DyFill (c : Dev nD) : sProp 𝕄 :=
  iprop(Transfers.Flight EC (c : Thread nD τ) (SemLoc.dma dS) () (RefSig.tileCredit S256x8192 .f32)
      iprop(DyQ dym c ∗ (((c : Thread nD τ).loc main_arg0) ↦[Box S4096x8192 (k0_off1 c) S256x8192.size]{fullShare} (dym c)))
    ∗ (((c : Thread nD τ).loc main_arg0) ↦[Finset.univ \ Box S4096x8192 (k0_off1 c) S256x8192.size]{fullShare} (dym c)))

theorem dy_start {hsrc : (dV (k0_off1 c) (k0_off1_inb c)).view.WordExact} {hdst : (Memref.whole cc0_scratch0 : Memref sig .tc .vmem S256x8192 .f32).view.WordExact}
    {hsem : DmaTarget.Typed .hbm (SemLoc.dma dS) (.here (Memref.whole cc0_scratch0 : Memref sig .tc .vmem S256x8192 .f32) : DmaTarget nD τ sig (Dev.tc c : Thread nD τ).2 .vmem S256x8192 .f32)}
    {g : S256x8192.Idx → Elt F .f32} {α : Type} {Q : α → sProp 𝕄} {k : PUnit → Prog (TpuEff nD τ sig (Elt F) Λ₀ .tc) α} :
    iprop(Dw dym c ∗ (((c : Thread nD τ).loc cc0_scratch0) ↦[Finset.univ]{fullShare} g) ∗ semVal ((c : Thread nD τ), SemLoc.dma dS) 0)
      ⊢ iprop((DyFill dym c -∗ WP c (k ⟨⟩) Q)
        -∗ WP c (.op (.enqueueDma (dV (k0_off1 c) (k0_off1_inb c)) (.here (Memref.whole cc0_scratch0 : Memref sig .tc .vmem S256x8192 .f32)) (.dma dS) hsrc hdst hsem) k) Q) := by
  have hset : (dV (k0_off1 c) (k0_off1_inb c)).view.set = Box S4096x8192 (k0_off1 c) S256x8192.size := slice_set main_arg0 (k0_off1_inb c)
  unfold DyFill
  iintro ⟨HW, Hb, Hv⟩ Hk
  ihave HW := (pointsTo_split_subset (Finset.subset_univ (Box S4096x8192 (k0_off1 c) S256x8192.size))).1 $$ HW
  icases HW with ⟨HT, HW⟩
  iapply (Transfers.wp_dmaLocal EC 𝒱₀ (c : Thread nD τ) none (src := dV (k0_off1 c) (k0_off1_inb c))
    (dst := (Memref.whole cc0_scratch0 : Memref sig .tc .vmem S256x8192 .f32)) (q := fullShare) (fs := dym c) (fd := g) () (RefSig.tileCredit S256x8192 .f32) rfl
    (RefSig.tileCredit_pos S256x8192 .f32 (by decide)) (Finset.subset_univ _)) $$ [HT Hb Hv]
  · rw [hset]
    isplitl [HT]; · iexact HT
    isplitl [Hb]; · iexact Hb
    iexact Hv
  iintro HF
  iapply Hk
  isplitl [HF]
  · iapply (Transfers.Flight_mono (c := (c : Thread nD τ)) EC ?_) $$ HF
    rw [hset]
    refine sep_mono_left (Entails.of_eq (congrArg _ (funext fun i => ?_)))
    exact View.write_emb_of_mem (v := (Memref.whole cc0_scratch0 : Memref sig .tc .vmem S256x8192 .f32).view) g (dyR dym c) (Finset.mem_univ i)
  · iexact HW

theorem dy_wait {n : ℕ} {sp sp' : Space} {sh sh' : Shape} {e e' : EltTy} {sm : Memref sig .tc sp sh e} {dm : Memref sig .tc sp' sh' e'}
    (hN : dm.view.dmaCredit = RefSig.tileCredit S256x8192 .f32) {hsrc : sm.view.WordExact} {hdst : dm.view.WordExact}
    {α : Type} {Q : α → sProp 𝕄} {kk : PUnit → Prog (TpuEff nD τ sig (Elt F) Λ₀ .tc) α} :
    iprop(Recs pf K ∗ St pf n c ∗ DyFill dym c)
      ⊢ iprop((iprop(St pf n c ∗ Dw dym c ∗ DyQ dym c ∗ semVal ((c : Thread nD τ), SemLoc.dma dS) 0) -∗ WP c (kk ⟨⟩) Q)
        -∗ WP c (.op (.waitDma2 dS sm dm hsrc hdst) kk) Q) := by
  unfold DyFill
  iintro ⟨#HR, HS, HF, HW⟩ Hk
  unfold St StA
  icases HS with ⟨⟨⟨%W, HO⟩, Hrest⟩, HB⟩
  iapply (Transfers.wp_waitLocalO EC 𝒱₀ (c : Thread nD τ) none () hN (O := Ow n c + Ox 0 c) (W := W)) $$ [HF HO]
  · isplitl [HF]; · iexact HF
    isplitl [HO]; · iexact HO
    iapply (Recs_mayWait_low pf K c (SemLoc.dma dS) n (by decide +kernel))
    iexact HR
  iintro ⟨⟨HD, HD'⟩, Hv, HO⟩
  iapply Hk
  isplitl [HO Hrest HB]
  · isplitr [HB]
    · isplitl [HO]; · iexists _; iexact HO
      iexact Hrest
    · iexact HB
  isplitl [HD' HW]
  · iapply (pointsTo_split_subset (Finset.subset_univ (Box S4096x8192 (k0_off1 c) S256x8192.size))).2
    isplitl [HD']; · iexact HD'
    iexact HW
  isplitl [HD]; · iexact HD
  iexact Hv

theorem ld_dy (o : ℕ) {inb : ∀ a, ![0, o] a + S256x2048.size a ≤ S256x8192.size a} {hl}
    {α : Type} {Q : α → sProp 𝕄} {kk : (S256x2048.Idx → Elt F .f32) → Prog (TpuEff nD τ sig (Elt F) Λ₀ .tc) α} :
    DyQ dym c
      ⊢ iprop((DyQ dym c -∗ WP c (kk (dyK dym o inb c)) Q)
        -∗ WP c (.op (.load (Memref.whole cc0_scratch0 : Memref sig .tc .vmem S256x8192 .f32) (Rect.unit (s := S256x8192) ![0, o] S256x2048.size inb).toLoadRect hl) kk) Q) :=
  wp_load_rect 𝒱₀ (c : Thread nD τ) none Set.univ (m := (Memref.whole cc0_scratch0 : Memref sig .tc .vmem S256x8192 .f32)) (r := Rect.unit (s := S256x8192) ![0, o] S256x2048.size inb) (Finset.subset_univ _)

/-! ## The product buffer, a block of columns at a time -/

/-- Columns from `o`, holding `v`, -/
def PF (o w : ℕ) (v : (⟨2, ![256, w]⟩ : Shape).Idx → Elt F .f32) (c : Dev nD) : sProp 𝕄 :=
  iprop(∃ f : SmallC F, ⌜∀ inb, (pfV ![0, o] ![256, w] inb).view.read (Elt F) f = v⌝ ∗ (((c : Thread nD τ).loc cc0_scratch2) ↦[Box S256x4096 ![0, o] ![256, w]]{fullShare} f))
/-- or anything. -/
def PFany (o w : ℕ) (c : Dev nD) : sProp 𝕄 :=
  iprop(∃ f : SmallC F, (((c : Thread nD τ).loc cc0_scratch2) ↦[Box S256x4096 ![0, o] ![256, w]]{fullShare} f))

theorem PF_any {o w : ℕ} {v : (⟨2, ![256, w]⟩ : Shape).Idx → Elt F .f32} : PF o w v c ⊢ PFany o w c := by
  unfold PF PFany
  iintro ⟨%f, -, H⟩; iexists f; iexact H

theorem ld_PF {o w : ℕ} {off : Fin 2 → ℕ} (hoff : off = ![0, o]) {inb : ∀ a, off a + ![256, w] a ≤ S256x4096.size a}
    {v : (⟨2, ![256, w]⟩ : Shape).Idx → Elt F .f32} {hl}
    {α : Type} {Q : α → sProp 𝕄} {kk : ((⟨2, ![256, w]⟩ : Shape).Idx → Elt F .f32) → Prog (TpuEff nD τ sig (Elt F) Λ₀ .tc) α} :
    PF o w v c
      ⊢ iprop((PF o w v c -∗ WP c (kk v) Q)
        -∗ WP c (.op (.load (Memref.whole cc0_scratch2 : Memref sig .tc .vmem S256x4096 .f32) (Rect.unit (s := S256x4096) off ![256, w] inb).toLoadRect hl) kk) Q) := by
  subst hoff
  unfold PF
  iintro ⟨%f, %hf, H⟩ Hk
  iapply (wp_load_rect 𝒱₀ (c : Thread nD τ) none Set.univ (m := (Memref.whole cc0_scratch2 : Memref sig .tc .vmem S256x4096 .f32)) (r := Rect.unit (s := S256x4096) ![0, o] ![256, w] inb)
    (S := Box S256x4096 ![0, o] ![256, w]) ((slice_set cc0_scratch2 inb).subset)) $$ H
  iintro H
  rw [show ((Memref.whole cc0_scratch2 : Memref sig .tc .vmem S256x4096 .f32).access (Rect.unit (s := S256x4096) ![0, o] ![256, w] inb)).read (Elt F) f = v from hf inb]
  iapply Hk
  iexists f
  isplitr; · ipureintro; exact hf
  iexact H

theorem ld_PFany {o w : ℕ} {off : Fin 2 → ℕ} (hoff : off = ![0, o]) {inb : ∀ a, off a + ![256, w] a ≤ S256x4096.size a} {hl}
    {α : Type} {Q : α → sProp 𝕄} {kk : ((⟨2, ![256, w]⟩ : Shape).Idx → Elt F .f32) → Prog (TpuEff nD τ sig (Elt F) Λ₀ .tc) α} :
    PFany (F := F) o w c
      ⊢ iprop((∀ v, PFany (F := F) o w c -∗ WP c (kk v) Q)
        -∗ WP c (.op (.load (Memref.whole cc0_scratch2 : Memref sig .tc .vmem S256x4096 .f32) (Rect.unit (s := S256x4096) off ![256, w] inb).toLoadRect hl) kk) Q) := by
  subst hoff
  unfold PFany
  iintro ⟨%f, H⟩ Hk
  iapply (wp_load_rect 𝒱₀ (c : Thread nD τ) none Set.univ (m := (Memref.whole cc0_scratch2 : Memref sig .tc .vmem S256x4096 .f32)) (r := Rect.unit (s := S256x4096) ![0, o] ![256, w] inb)
    (S := Box S256x4096 ![0, o] ![256, w]) ((slice_set cc0_scratch2 inb).subset)) $$ H
  iintro H
  iapply Hk
  iexists f
  iexact H

theorem st_PF {o w : ℕ} {off : Fin 2 → ℕ} (hoff : off = ![0, o]) {inb : ∀ a, off a + ![256, w] a ≤ S256x4096.size a}
    {v : (⟨2, ![256, w]⟩ : Shape).Idx → Elt F .f32} {hx hm}
    {α : Type} {Q : α → sProp 𝕄} {kk : PUnit → Prog (TpuEff nD τ sig (Elt F) Λ₀ .tc) α} :
    PFany (F := F) o w c
      ⊢ iprop((PF o w v c -∗ WP c (kk ⟨⟩) Q)
        -∗ WP c (.op (.store (Memref.whole cc0_scratch2 : Memref sig .tc .vmem S256x4096 .f32) (Rect.unit (s := S256x4096) off ![256, w] inb) v Finset.univ hx hm) kk) Q) := by
  subst hoff
  unfold PF PFany
  iintro ⟨%f, H⟩ Hk
  iapply (wp_store 𝒱₀ (c : Thread nD τ) none Set.univ (m := (Memref.whole cc0_scratch2 : Memref sig .tc .vmem S256x4096 .f32)) (r := Rect.unit (s := S256x4096) ![0, o] ![256, w] inb)
    (S := Box S256x4096 ![0, o] ![256, w]) (by rw [View.setOn_univ]; exact (slice_set cc0_scratch2 inb).subset)) $$ H
  iintro H
  iapply Hk
  iexists _
  isplitr
  rotate_left
  · iexact H
  · ipureintro
    intro inb2
    funext j
    exact View.write_emb_of_mem _ _ (Finset.mem_univ _)

end Cert.Gather

end
-- ==== Proof.Signals.lean ====
module

public import proofs.«01_k».proof.Proof.Relay

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The barrier before the first transfer, and the one at the end -/

/-- The signals still to give on barrier `b`, from the `k`-th on, owing `O₀` besides. -/
def SigSt (b : Bool) (O₀ : CellTallies nD τ sig Unit) (k : ℕ) (c : Dev nD) : sProp 𝕄 :=
  iprop((∃ W, owes (c : Thread nD τ) (O₀ + ∑ d ∈ Finset.univ.filter (fun d : D => k ≤ d.val), tallyAt (kcell (nbr d c, .inl b)) () 1) W)
    ∗ bigSep (Finset.univ.filter fun d : D => k ≤ d.val) fun d =>
        iprop(dutyTok ER (kcell (nbr d c, .inl b)) 0 d ∗ (gRd pf).payload (kcell (nbr d c, .inl b)) 0 d))

variable {c : Dev nD}

theorem sig_filter (d : D) : Finset.univ.filter (fun e : D => d.val ≤ e.val) = insert d (Finset.univ.filter fun e : D => d.val + 1 ≤ e.val) := by
  revert d; decide

theorem w_sig (b : Bool) (O₀ : CellTallies nD τ sig Unit) (d : D) {k k' : ℕ} (hk : d.val = k) (hk' : k + 1 = k') {m : Dev nD} (hm : m = nbr d c)
    {q : Sem sig} (hq : (SemLoc.reg q : SemLoc sig) = csem (.inl b))
    {α : Type} {Q : α → sProp 𝕄} {kk : PUnit → Prog (TpuEff nD τ sig (Elt F) Λ₀ .tc) α} :
    iprop(Recs pf K ∗ SigSt pf b O₀ k c)
      ⊢ iprop((SigSt pf b O₀ k' c -∗ WP c (kk ⟨⟩) Q) -∗ WP c (.op (.semSignal (m : Thread nD τ) q (1 : ℕ)) kk) Q) := by
  subst hk hk' hm
  have hinv := Recs_inv pf K (nbr d c, .inl b)
  have hrea := Recs_reached pf K (nbr d c, .inl b)
  have hd : d ∈ (gRd pf).duties (kcell (nbr d c, .inl b)) 0 := by rw [duties_inl]; exact Finset.mem_univ _
  have ha : (gRd pf).amount (kcell (nbr d c, .inl b)) 0 d = 1 := by dsimp only [gRd, kcell]; rw [decode_csem]
  unfold SigSt
  simp only [kcell, ← hq] at hinv hrea hd ha ⊢
  have hs : (bigSep (insert d (Finset.univ.filter fun e : D => d.val + 1 ≤ e.val)) fun d =>
        iprop(dutyTok ER ((nbr d c : Thread nD τ), SemLoc.reg q) 0 d ∗ (gRd pf).payload ((nbr d c : Thread nD τ), SemLoc.reg q) 0 d))
      ⊢ iprop((dutyTok ER ((nbr d c : Thread nD τ), SemLoc.reg q) 0 d ∗ (gRd pf).payload ((nbr d c : Thread nD τ), SemLoc.reg q) 0 d)
        ∗ bigSep (Finset.univ.filter fun e : D => d.val + 1 ≤ e.val) fun d =>
          iprop(dutyTok ER ((nbr d c : Thread nD τ), SemLoc.reg q) 0 d ∗ (gRd pf).payload ((nbr d c : Thread nD τ), SemLoc.reg q) 0 d)) := by
    rw [bigSep_insert (by simp)]
    exact .rfl
  rw [sig_filter d, Finset.sum_insert (by simp)]
  iintro ⟨#HR, ⟨%W, HO⟩, Hs⟩ Hk
  ihave Hs := hs $$ Hs
  icases Hs with ⟨⟨Ht, Hp⟩, Hrest⟩
  iapply (Rounds.wp_signal 𝒱₀ ER (gRd pf) (c : Thread nD τ) none (dst := (nbr d c : Thread nD τ)) (κ := K (nbr d c, .inl b)) (d := d) (r := 0)
    hd (k' := 1) ha ()
    (O₀ + ∑ d ∈ Finset.univ.filter (fun e : D => d.val + 1 ≤ e.val), tallyAt ((nbr d c : Thread nD τ), SemLoc.reg q) () 1)
    (O₀ := O₀ + (tallyAt ((nbr d c : Thread nD τ), SemLoc.reg q) () 1 + ∑ d ∈ Finset.univ.filter (fun e : D => d.val + 1 ≤ e.val), tallyAt ((nbr d c : Thread nD τ), SemLoc.reg q) () 1))
    (by rw [add_assoc]; congr 1; exact add_comm _ _)) $$ [HO Ht Hp]
  · isplitr
    · iapply hinv; iexact HR
    isplitl [HO]; · iexact HO
    isplitl [Ht]; · iexact Ht
    isplitl [Hp]; · iexact Hp
    iapply hrea; iexact HR
  iintro HO
  iapply Hk
  isplitl [HO]; · iexists W; iexact HO
  iexact Hrest

theorem sig_done (b : Bool) (O₀ : CellTallies nD τ sig Unit) : SigSt pf b O₀ 5 c ⊢ iprop(∃ W, owes (c : Thread nD τ) O₀ W) := by
  unfold SigSt
  rw [show Finset.univ.filter (fun d : D => 5 ≤ d.val) = ∅ from by decide, Finset.sum_empty, add_zero]
  iintro ⟨⟨%W, H⟩, -⟩
  iexists W; iexact H

/-- What a device holds of the transfers before the barrier. -/
def Rest0 (c : Dev nD) : sProp 𝕄 :=
  iprop((bigSep Finset.univ fun s : Slot => iprop(dutyTok ER (sendC s c) 0 0 ∗ dutyTok ER (recvC s (dst s c)) 0 0))
    ∗ bigSep Finset.univ (Sb (F := F) c) ∗ bigSep Finset.univ (Sc (F := F) c))

theorem St_zero : iprop((∃ W, owes (c : Thread nD τ) (Ow 0 c + Ox 0 c) W) ∗ (bigSep Finset.univ fun s : Slot => piece (F := F) s c) ∗ Rest0 c) ⊢ St pf 0 c := by
  have e : ∀ t : Slot → ℕ, (Finset.univ.filter fun s : Slot => 0 ≤ t s) = Finset.univ := fun t => Finset.filter_true_of_mem fun _ _ => Nat.zero_le _
  have e' : ∀ t u : Slot → ℕ, (Finset.univ.filter fun s : Slot => t s < 0 ∧ 0 ≤ u s) = ∅ := fun t u => Finset.filter_false_of_mem fun _ _ h => Nat.not_lt_zero _ h.1
  have e2 : ∀ t : Slot → ℕ, (Finset.univ.filter fun s : Slot => t s < 0) = ∅ := fun t => Finset.filter_false_of_mem fun _ _ h => Nat.not_lt_zero _ h
  have e3 : (Finset.univ.filter fun s : Slot => 2 ≤ s.val ∧ tRecv s < 0) = ∅ := Finset.filter_false_of_mem fun _ _ h => Nat.not_lt_zero _ h.2
  have e4 : (Finset.univ.filter fun s : Slot => 0 ≤ tStart s ∧ Fed 0 c s) = ∅ := Finset.filter_false_of_mem fun _ _ h => by
    obtain ⟨-, -, t, -, ht⟩ := h; exact Nat.not_lt_zero _ ht
  unfold St StA StB Rest0
  rw [e, e, e, e', e2, e2, e3, e4]
  simp only [bigSep_empty]
  iintro ⟨HO, Hp, Ht, Hb, Hc⟩
  isplitl
  · isplitl [HO]; · iexact HO
    isplitl [Hp Ht]
    · iapply (Entails.of_eq (bigSep_sep' Finset.univ (fun s : Slot => piece (F := F) s c) _).symm)
      isplitl [Hp]; · iexact Hp
      iexact Ht
    isplitl [Hb]; · iexact Hb
    isplitl [Hc]; · iexact Hc
    isplitr; · iempintro
    isplitr; · iempintro
    iempintro
  · isplitr; · iempintro
    iempintro

/-- The wait of the first barrier, and of the last. -/
def BarW (b : Bool) (c : Dev nD) : sProp 𝕄 := iprop(cred (tallyAt (kcell (c, .inl b)) () 5) ∗ atPos ER (kcell (c, .inl b)) 0 ∅ 0)

theorem w_barrier {q : Sem sig} (hq : (SemLoc.reg q : SemLoc sig) = csem (.inl false))
    {α : Type} {Q : α → sProp 𝕄} {kk : PUnit → Prog (TpuEff nD τ sig (Elt F) Λ₀ .tc) α} :
    iprop(Recs pf K ∗ SigSt pf false (Ow 0 c + Ox 0 c) 5 c ∗ BarW false c ∗ Rest0 c)
      ⊢ iprop((iprop(St pf 0 c ∗ semVal (barC c) 0) -∗ WP c (kk ⟨⟩) Q) -∗ WP c (.op (.semWait q (5 : ℕ)) kk) Q) := by
  obtain rfl : q = barS := SemLoc.reg.inj hq
  unfold BarW
  iintro ⟨#HR, HS, ⟨Hcr, Hat⟩, Hrest⟩ Hk
  ihave HS := (sig_done pf false (Ow 0 c + Ox 0 c)) $$ HS
  icases HS with ⟨%W, HO⟩
  iapply (Rounds.wp_wait_rest_token 𝒱₀ ER (gRd pf) (c : Thread nD τ) none (κ := K (c, .inl false))
      (wpE_semWait_eq 𝒱₀ (c : Thread nD τ) none Set.univ) (Set.mem_univ _) () (O := Ow 0 c + Ox 0 c) (W := W) (R := 0) (m := 0) (T := ∅)
      (by rw [Nat.zero_add]; exact (expect_inl pf c false).symm)) $$ [Hcr HO Hat]
  · isplitr; · iapply (Recs_inv pf K (c, .inl false)); iexact HR
    isplitl [Hcr]; · iexact Hcr
    isplitl [HO]; · iexact HO
    isplitr
    · iapply (Recs_mayWait_low pf K c (SemLoc.reg barS) 0 (by decide +kernel))
      iexact HR
    iexact Hat
  iintro ⟨HO, Hat, -, Hpay⟩
  ihave Hpay := (Entails.of_eq (show bigSep ((gRd pf).duties ((c : Thread nD τ), SemLoc.reg barS) 0 \ ∅) (fun d => (gRd pf).payload ((c : Thread nD τ), SemLoc.reg barS) 0 d) = _ from rest_bar pf c)) $$ Hpay
  imod (Rounds.cell_close ER (gRd pf) (Set.mem_univ (K (c, .inl false))) (fun h => h) (R := 0 + 1) (duties_later pf (barC c))) $$ [Hat] with Hz
  · isplitr; · iapply (Recs_inv pf K (c, .inl false)); iexact HR
    iexact Hat
  iapply Hk
  isplitr [Hz]
  · iapply (St_zero pf)
    isplitl [HO]; · iexists _; iexact HO
    isplitl [Hpay]; · iexact Hpay
    iexact Hrest
  · iexact Hz

theorem w_exit {q : Sem sig} (hq : (SemLoc.reg q : SemLoc sig) = csem (.inl true))
    {α : Type} {Q : α → sProp 𝕄} {kk : PUnit → Prog (TpuEff nD τ sig (Elt F) Λ₀ .tc) α} :
    iprop(Recs pf K ∗ SigSt pf true 0 5 c ∗ BarW true c)
      ⊢ iprop((iprop((∃ W, owes (c : Thread nD τ) 0 W) ∗ semVal (exitC c) 0) -∗ WP c (kk ⟨⟩) Q) -∗ WP c (.op (.semWait q (5 : ℕ)) kk) Q) := by
  obtain rfl : q = (1 : Fin 2) := SemLoc.reg.inj hq
  unfold BarW
  iintro ⟨#HR, HS, ⟨Hcr, Hat⟩⟩ Hk
  ihave HS := (sig_done pf true 0) $$ HS
  icases HS with ⟨%W, HO⟩
  iapply (Rounds.wp_wait_rest_token 𝒱₀ ER (gRd pf) (c : Thread nD τ) none (κ := K (c, .inl true))
      (wpE_semWait_eq 𝒱₀ (c : Thread nD τ) none Set.univ) (Set.mem_univ _) () (O := 0) (W := W) (R := 0) (m := 0) (T := ∅)
      (by rw [Nat.zero_add]; exact (expect_inl pf c true).symm)) $$ [Hcr HO Hat]
  · isplitr; · iapply (Recs_inv pf K (c, .inl true)); iexact HR
    isplitl [Hcr]; · iexact Hcr
    isplitl [HO]; · iexact HO
    isplitr; · rw [MayWait_zero]; iempintro
    iexact Hat
  iintro ⟨HO, Hat, -, -⟩
  imod (Rounds.cell_close ER (gRd pf) (Set.mem_univ (K (c, .inl true))) (fun h => h) (R := 0 + 1) (duties_later pf (exitC c))) $$ [Hat] with Hz
  · isplitr; · iapply (Recs_inv pf K (c, .inl true)); iexact HR
    iexact Hat
  iapply Hk
  isplitr [Hz]
  · iexists _; iexact HO
  · iexact Hz

/-- After every transfer a device owes the exit signals alone. -/
theorem Ow_last (c : Dev nD) (n : ℕ) (hn : 144 ≤ n) : Ow n c = 0 := by
  unfold Ow
  rw [Finset.filter_false_of_mem (fun s _ => by
    have : tStart s < 144 := by revert s; decide +kernel
    omega), Finset.sum_empty]

/-- The tokens of the exit signals. -/
def ExT (c : Dev nD) : sProp 𝕄 := bigSep Finset.univ fun d : D => dutyTok ER (exitC (nbr d c)) 0 d

theorem exit_start (c : Dev nD) (W : Waits sig Unit) : iprop(owes (c : Thread nD τ) (Ow 144 c + Ox 0 c) W ∗ ExT c) ⊢ SigSt pf true 0 0 c := by
  unfold SigSt ExT Ox
  rw [Ow_last c 144 (Nat.le_refl _)]
  rw [Finset.filter_true_of_mem (fun d _ => Nat.zero_le _)]
  iintro ⟨HO, Ht⟩
  isplitl [HO]; · iexists W; iexact HO
  have e : (bigSep Finset.univ fun d : D => dutyTok ER (exitC (nbr d c)) 0 d)
      ⊢ bigSep Finset.univ fun d : D => iprop(dutyTok ER (exitC (nbr d c)) 0 d ∗ (gRd pf).payload (exitC (nbr d c)) 0 d) :=
    bigSep_mono fun d _ => show dutyTok ER (exitC (nbr d c)) 0 d ⊢ iprop(dutyTok ER (exitC (nbr d c)) 0 d ∗ (gRd pf).payload (exitC (nbr d c)) 0 d) from by
      rw [payload_exit]
      iintro H
      isplitl [H]; · iexact H
      iempintro
  iapply e
  iexact Ht

theorem part80 (v2 : BitVec 32) (v5 : BitVec 32) (v8 : BitVec 32) (v16 : BitVec 32) (v27 : BitVec 32) (v38 : BitVec 32) (v49 : BitVec 32) (v60 : BitVec 32) {R : sProp 𝕄} {Q : _ → sProp 𝕄}
    (h : ∀ a, iprop(Recs pf K ∗ SigSt pf true 0 5 c ∗ R) ⊢ Q a) :
    iprop(Recs pf K ∗ SigSt pf true 0 0 c ∗ R) ⊢ WP c (k0_part80 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38 v49 v60) Q := by
  rw [k0_part80_eq_skeleton, k0_part80_skel]
  simp only [semSignalWord, Prog.lift, Prog.bind_op, Prog.bind_ret, Prog.pure_eq_ret]
  iintro ⟨#HR, HS, HQ⟩
  iapply (w_sig pf K true 0 0 rfl rfl (Fin.ext ((by decide +kernel : ∀ d : Dev nD, k0_dev54 d = (nbr 0 d).val) c)) rfl) $$ [HS]
  · isplitr; · iexact HR
    iexact HS
  iintro HS
  iapply (w_sig pf K true 0 1 rfl rfl (Fin.ext ((by decide +kernel : ∀ d : Dev nD, k0_dev55 d = (nbr 1 d).val) c)) rfl) $$ [HS]
  · isplitr; · iexact HR
    iexact HS
  iintro HS
  iapply (w_sig pf K true 0 2 rfl rfl (Fin.ext ((by decide +kernel : ∀ d : Dev nD, k0_dev56 d = (nbr 2 d).val) c)) rfl) $$ [HS]
  · isplitr; · iexact HR
    iexact HS
  iintro HS
  iapply (w_sig pf K true 0 3 rfl rfl (Fin.ext ((by decide +kernel : ∀ d : Dev nD, k0_dev57 d = (nbr 3 d).val) c)) rfl) $$ [HS]
  · isplitr; · iexact HR
    iexact HS
  iintro HS
  iapply (w_sig pf K true 0 4 rfl rfl (Fin.ext ((by decide +kernel : ∀ d : Dev nD, k0_dev58 d = (nbr 4 d).val) c)) rfl) $$ [HS]
  · isplitr; · iexact HR
    iexact HS
  iintro HS
  iapply (done (h _))
  isplitr; · iexact HR
  isplitl [HS]; · iexact HS
  iexact HQ

end Cert.Gather

end
-- ==== Proof.Products.lean ====
module

public import proofs.«01_k».proof.Proof.Tiles
public import proofs.«01_k».proof.Proof.Signals

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CellK → ℕ) (dym wm : Dev nD → DyB F)

/-! # The local product: what the parts before the transfers compute -/

/-- Where piece `k` of the local product starts, in columns. -/
def pcol (k : ℕ) (c : Dev nD) : ℕ := if k = 0 then 1152 * (1 - dx c) else if k = 1 then 1152 * (1 - dx c) + 1408 else 2944 * dx c

section
variable (c : Dev nD)
abbrev dyA (o : ℕ) (inb : ∀ a, ![0, o] a + S256x2048.size a ≤ S256x8192.size a) : S256x2048.Idx → Elt F .f32 := dyK dym o inb c
abbrev dy0 : S256x2048.Idx → Elt F .f32 := dyK dym 0 inb_S256x8192_S256x2048_0_0 c
abbrev dy1 : S256x2048.Idx → Elt F .f32 := dyK dym 2048 inb_S256x8192_S256x2048_0_2048 c
abbrev dy2 : S256x2048.Idx → Elt F .f32 := dyK dym 4096 inb_S256x8192_S256x2048_0_4096 c
abbrev dy3 : S256x2048.Idx → Elt F .f32 := dyK dym 6144 inb_S256x8192_S256x2048_0_6144 c

def accA0 : FVec F S256x1408 .f32 := k0_pay1 (dy0 dym c) (wT wm (k0_off2 c) 1408 (k0_off2_inb c) c)
def accA1 : FVec F S256x1408 .f32 := k0_pay2 (dy1 dym c) (wT wm (k0_off3 c) 1408 (k0_off3_inb c) c) (accA0 dym wm c)
def proA2 : FVec F S256x1408 .f32 := k0_pay3 (dy2 dym c) (wT wm (k0_off5 c) 1408 (k0_off5_inb c) c)
def accA2 : FVec F S256x1408 .f32 := k0_pay4 (proA2 dym wm c) (accA1 dym wm c)
def accA3 : FVec F S256x1408 .f32 := k0_pay5 (dy3 dym c) (wT wm (k0_off6 c) 1408 (k0_off6_inb c) c) (accA2 dym wm c)
def accB0 : FVec F S256x1536 .f32 := k0_pay6 (dy0 dym c) (wT wm (k0_off7 c) 1536 (k0_off7_inb c) c)
def accB1 : FVec F S256x1536 .f32 := k0_pay7 (dy1 dym c) (wT wm (k0_off9 c) 1536 (k0_off9_inb c) c) (accB0 dym wm c)
def accB2 : FVec F S256x1536 .f32 := k0_pay8 (dy2 dym c) (wT wm (k0_off11 c) 1536 (k0_off11_inb c) c) (accB1 dym wm c)
def accB3 : FVec F S256x1536 .f32 := k0_pay9 (dy3 dym c) (wT wm (k0_off12 c) 1536 (k0_off12_inb c) c) (accB2 dym wm c)
def accC0 : FVec F S256x1152 .f32 := k0_pay10 (dy0 dym c) (wT wm (k0_off13 c) 1152 (k0_off13_inb c) c)
def accC1 : FVec F S256x1152 .f32 := k0_pay11 (dy1 dym c) (wT wm (k0_off15 c) 1152 (k0_off15_inb c) c) (accC0 dym wm c)
def accC2 : FVec F S256x1152 .f32 := k0_pay12 (dy2 dym c) (wT wm (k0_off17 c) 1152 (k0_off17_inb c) c) (accC1 dym wm c)
def accC3 : FVec F S256x1152 .f32 := k0_pay13 (dy3 dym c) (wT wm (k0_off18 c) 1152 (k0_off18_inb c) c) (accC2 dym wm c)

/-- The place of an element inside a block of columns from `o`. -/
def inBlk (w : ℕ) [NeZero w] (o : ℕ) (i : S256x4096.Idx) : (⟨2, ![256, w]⟩ : Shape).Idx := fun a =>
  match a with
  | ⟨0, _⟩ => (Fin.ofNat 256 (i 0).val : Fin 256)
  | ⟨1, _⟩ => (Fin.ofNat w ((i 1).val - o) : Fin w)
end

/-- The local product of device `c`. -/
def pfOf (c : Dev nD) : SmallC F := fun i =>
  if pcol 0 c ≤ (i 1).val ∧ (i 1).val < pcol 0 c + 1408 then accA3 dym wm c (inBlk 1408 (pcol 0 c) i)
  else if pcol 1 c ≤ (i 1).val ∧ (i 1).val < pcol 1 c + 1536 then accB3 dym wm c (inBlk 1536 (pcol 1 c) i)
  else accC3 dym wm c (inBlk 1152 (pcol 2 c) i)

variable {c : Dev nD}

theorem inBlk_emb {w o : ℕ} [NeZero w] (inb) (j : (⟨2, ![256, w]⟩ : Shape).Idx) : inBlk w o ((pfV ![0, o] ![256, w] inb).view.emb j) = j := by
  have h0 : (((pfV ![0, o] ![256, w] inb).view.emb j) 0 : ℕ) = 0 + (j 0).val := by
    show 0 + 1 * (j 0).val = _; omega
  have h1 : (((pfV ![0, o] ![256, w] inb).view.emb j) 1 : ℕ) = o + (j 1).val := by
    show o + 1 * (j 1).val = _; omega
  funext a
  match a with
  | ⟨0, _⟩ =>
    refine Fin.ext ?_
    show (((pfV ![0, o] ![256, w] inb).view.emb j) 0 : ℕ) % 256 = _
    rw [h0, Nat.zero_add]; exact Nat.mod_eq_of_lt (j 0).isLt
  | ⟨1, _⟩ =>
    refine Fin.ext ?_
    show ((((pfV ![0, o] ![256, w] inb).view.emb j) 1 : ℕ) - o) % w = _
    rw [h1, Nat.add_sub_cancel_left]; exact Nat.mod_eq_of_lt (j 1).isLt

theorem pf_col {w o : ℕ} (inb) (j : (⟨2, ![256, w]⟩ : Shape).Idx) :
    o ≤ (((pfV ![0, o] ![256, w] inb).view.emb j) 1 : ℕ) ∧ (((pfV ![0, o] ![256, w] inb).view.emb j) 1 : ℕ) < o + w := by
  have h1 : (((pfV ![0, o] ![256, w] inb).view.emb j) 1 : ℕ) = o + (j 1).val := by
    show o + 1 * (j 1).val = _; omega
  have := (j 1).isLt
  have e : (j 1).val < w := this
  omega

theorem pf_A (inb) (j : (⟨2, ![256, 1408]⟩ : Shape).Idx) : pfOf dym wm c ((pfV ![0, pcol 0 c] ![256, 1408] inb).view.emb j) = accA3 dym wm c j := by
  unfold pfOf
  rw [if_pos (pf_col inb j), inBlk_emb]
theorem pf_B (inb) (j : (⟨2, ![256, 1536]⟩ : Shape).Idx) : pfOf dym wm c ((pfV ![0, pcol 1 c] ![256, 1536] inb).view.emb j) = accB3 dym wm c j := by
  have h := pf_col inb j
  unfold pfOf
  rw [if_neg (fun h' => by
    have e1 : pcol 1 c = pcol 0 c + 1408 := rfl
    omega), if_pos h, inBlk_emb]
theorem pf_C (inb) (j : (⟨2, ![256, 1152]⟩ : Shape).Idx) : pfOf dym wm c ((pfV ![0, pcol 2 c] ![256, 1152] inb).view.emb j) = accC3 dym wm c j := by
  have h := pf_col inb j
  have hx := dx_lt c
  have e0 : pcol 0 c = 1152 * (1 - dx c) := rfl
  have e1 : pcol 1 c = 1152 * (1 - dx c) + 1408 := rfl
  have e2 : pcol 2 c = 2944 * dx c := rfl
  unfold pfOf
  rw [if_neg (fun h' => by omega), if_neg (fun h' => by omega), inBlk_emb]

/-- A finished block of columns. -/
theorem PF_done {o w : ℕ} (inb0 : ∀ a, ![0, o] a + ![256, w] a ≤ S256x4096.size a) {v : (⟨2, ![256, w]⟩ : Shape).Idx → Elt F .f32} {pf : Dev nD → SmallC F}
    (hpf : ∀ inb j, pf c ((pfV ![0, o] ![256, w] inb).view.emb j) = v j) :
    PF o w v c ⊢ iprop(pfP c fullShare.left ![0, o] ![256, w] (pf c) ∗ pfP c fullShare.right ![0, o] ![256, w] (pf c)) := by
  unfold PF
  iintro ⟨%f, %hf, H⟩
  ihave H := (Entails.of_eq (pointsTo_congr (ℓ := (c : Thread nD τ).loc cc0_scratch2) (I := Box S256x4096 ![0, o] ![256, w]) (f := f) (g := pf c) (q := fullShare) (fun i hi => by
    have hset : (pfV ![0, o] ![256, w] inb0).view.set = Box S256x4096 ![0, o] ![256, w] := slice_set cc0_scratch2 inb0
    obtain ⟨j, -, rfl⟩ := Finset.mem_map.mp (hset ▸ hi)
    exact (congrFun (hf inb0) j).trans (hpf inb0 j).symm))) $$ H
  iapply (pointsTo_share (PosShare.mem_left_op_right fullShare)).1
  iexact H

theorem o4 (c : Dev nD) : k0_off4 c = ![0, pcol 0 c] := by revert c; decide +kernel
theorem o10 (c : Dev nD) : k0_off10 c = ![0, pcol 1 c] := by revert c; decide +kernel
theorem o16 (c : Dev nD) : k0_off16 c = ![0, pcol 2 c] := by revert c; decide +kernel
theorem d0 (c : Dev nD) : dOff 0 c = ![0, pcol 0 c] := by revert c; decide +kernel
theorem d1 (c : Dev nD) : dOff 1 c = ![0, pcol 1 c] := by revert c; decide +kernel

abbrev PR (k w : ℕ) (c : Dev nD) : sProp 𝕄 := pfP c fullShare.right ![0, pcol k c] ![256, w] (pfOf dym wm c)

theorem PF_A : PF (pcol 0 c) 1408 (accA3 dym wm c) c ⊢ iprop(srcRes (pfOf dym wm) 0 c ∗ PR dym wm 0 1408 c) := by
  have e : srcRes (pfOf dym wm) 0 c = pfP c fullShare.left ![0, pcol 0 c] ![256, 1408] (pfOf dym wm c) := by
    unfold srcRes; rw [if_pos (by decide), ← d0]; rfl
  rw [e]
  exact PF_done (fun a => by rw [← o4]; exact k0_off4_inb c a) (fun inb j => pf_A dym wm inb j)
theorem PF_B : PF (pcol 1 c) 1536 (accB3 dym wm c) c ⊢ iprop(srcRes (pfOf dym wm) 1 c ∗ PR dym wm 1 1536 c) := by
  have e : srcRes (pfOf dym wm) 1 c = pfP c fullShare.left ![0, pcol 1 c] ![256, 1536] (pfOf dym wm c) := by
    unfold srcRes; rw [if_pos (by decide), ← d1]; rfl
  rw [e]
  exact PF_done (fun a => by rw [← o10]; exact k0_off10_inb c a) (fun inb j => pf_B dym wm inb j)
theorem PF_C : PF (pcol 2 c) 1152 (accC3 dym wm c) c ⊢ iprop(pfP c fullShare.left ![0, pcol 2 c] ![256, 1152] (pfOf dym wm c) ∗ PR dym wm 2 1152 c) :=
  PF_done (fun a => by rw [← o16]; exact k0_off16_inb c a) (fun inb j => pf_C dym wm inb j)

/-! ## The parts -/

theorem part2 (v2 : BitVec 32) (v5 : BitVec 32) (v8 : BitVec 32) (v16 : BitVec 32) (v30 : BitVec 32) (v31 : BitVec 32) (v32 : BitVec 1) (c0_i32_17 : BitVec 32) {R : sProp 𝕄} {Q : _ → sProp 𝕄}
    (h : ∀ a1 a2 a3 a4 a5, iprop(Recs (pfOf dym wm) K ∗ SigSt (pfOf dym wm) false (Ow 0 c + Ox 0 c) 1 c ∗ R) ⊢ Q ⟨a1, a2, a3, SemArray.scalar (sig.barrier 0 rfl), a4, a5⟩) :
    iprop(Recs (pfOf dym wm) K ∗ SigSt (pfOf dym wm) false (Ow 0 c + Ox 0 c) 0 c ∗ R) ⊢ WP c (k0_part2 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v30 v31 v32 c0_i32_17) Q := by
  rw [k0_part2_eq_skeleton, k0_part2_skel]
  simp only [semSignalWord, Prog.lift, Prog.bind_op, Prog.bind_ret, Prog.pure_eq_ret]
  iintro ⟨#HR, HS, HQ⟩
  iapply (w_sig (pfOf dym wm) K false (Ow 0 c + Ox 0 c) 0 rfl rfl (Fin.ext ((by decide +kernel : ∀ d : Dev nD, k0_dev1 d = (nbr 0 d).val) c)) rfl) $$ [HS]
  · isplitr; · iexact HR
    iexact HS
  iintro HS
  iapply (done (h _ _ _ _ _))
  isplitr; · iexact HR
  isplitl [HS]; · iexact HS
  iexact HQ

theorem part3 (v2 : BitVec 32) (v5 : BitVec 32) (v8 : BitVec 32) (v10 : BitVec 32) (v15 : BitVec 32) (v27 : BitVec 32) (v38 : BitVec 32) (v49 : BitVec 32) (v60 : BitVec 32) (v68 : BitVec 32) (c0_i32_40 : BitVec 32) {R : sProp 𝕄} {Q : _ → sProp 𝕄}
    (h : ∀ a, iprop(Recs (pfOf dym wm) K ∗ St (pfOf dym wm) 0 c ∗ (DyFill dym c ∗ semVal (barC c) 0) ∗ R) ⊢ Q a) :
    iprop(Recs (pfOf dym wm) K ∗ SigSt (pfOf dym wm) false (Ow 0 c + Ox 0 c) 1 c ∗ (BarW false c ∗ Rest0 c ∗ Dw dym c ∗ (∃ g : S256x8192.Idx → Elt F .f32, ((c : Thread nD τ).loc cc0_scratch0) ↦[Finset.univ]{fullShare} g)
      ∗ semVal ((c : Thread nD τ), SemLoc.dma dS) 0) ∗ R) ⊢ WP c (k0_part3 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v10 v15 v27 v38 v49 v60 (SemArray.scalar (sig.barrier 0 rfl) : Sems sig S_) v68 c0_i32_40) Q := by
  rw [k0_part3_eq_skeleton, k0_part3_skel]
  simp only [semSignalWord, semWaitWord, Prog.lift, Prog.bind_op, Prog.bind_ret, Prog.pure_eq_ret]
  iintro ⟨#HR, HS, ⟨HB, HT, HD, ⟨%g, HY⟩, HV⟩, HQ⟩
  iapply (w_sig (pfOf dym wm) K false (Ow 0 c + Ox 0 c) 1 rfl rfl (Fin.ext ((by decide +kernel : ∀ d : Dev nD, k0_dev2 d = (nbr 1 d).val) c)) rfl) $$ [HS]
  · isplitr; · iexact HR
    iexact HS
  iintro HS
  iapply (w_sig (pfOf dym wm) K false (Ow 0 c + Ox 0 c) 2 rfl rfl (Fin.ext ((by decide +kernel : ∀ d : Dev nD, k0_dev3 d = (nbr 2 d).val) c)) rfl) $$ [HS]
  · isplitr; · iexact HR
    iexact HS
  iintro HS
  iapply (w_sig (pfOf dym wm) K false (Ow 0 c + Ox 0 c) 3 rfl rfl (Fin.ext ((by decide +kernel : ∀ d : Dev nD, k0_dev4 d = (nbr 3 d).val) c)) rfl) $$ [HS]
  · isplitr; · iexact HR
    iexact HS
  iintro HS
  iapply (w_sig (pfOf dym wm) K false (Ow 0 c + Ox 0 c) 4 rfl rfl (Fin.ext ((by decide +kernel : ∀ d : Dev nD, k0_dev5 d = (nbr 4 d).val) c)) rfl) $$ [HS]
  · isplitr; · iexact HR
    iexact HS
  iintro HS
  iapply (w_barrier (pfOf dym wm) K rfl) $$ [HS HB HT]
  · isplitr; · iexact HR
    isplitl [HS]; · iexact HS
    isplitl [HB]; · iexact HB
    iexact HT
  iintro ⟨HS, HZ⟩
  iapply (dy_start dym) $$ [HD HY HV]
  · isplitl [HD]; · iexact HD
    isplitl [HY]; · iexact HY
    iexact HV
  iintro HF
  iapply (done (h _))
  isplitr; · iexact HR
  isplitl [HS]; · iexact HS
  isplitr [HQ]
  · isplitl [HF]; · iexact HF
    iexact HZ
  · iexact HQ

theorem part4 (v15 : BitVec 32) {R : sProp 𝕄} {Q : _ → sProp 𝕄}
    (h : ∀ a, iprop(Recs (pfOf dym wm) K ∗ St (pfOf dym wm) 0 c ∗ (DyQ dym c ∗ Dw dym c ∗ semVal ((c : Thread nD τ), SemLoc.dma dS) 0 ∗ Ww wm c ∗ Idle 0 c ∗ Got 1 (wT wm (k0_off3 c) 1408 (k0_off3_inb c) c) c ∗ PF (pcol 0 c) 1408 (accA0 dym wm c) c) ∗ R) ⊢ Q a) :
    iprop(Recs (pfOf dym wm) K ∗ St (pfOf dym wm) 0 c ∗ (DyFill dym c ∗ Ww wm c ∗ Idle 0 c ∗ Idle 1 c ∗ PFany (F := F) (pcol 0 c) 1408 c) ∗ R) ⊢ WP c (k0_part4 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v15) Q := by
  rw [k0_part4_eq_skeleton, k0_part4_skel]
  simp only [Prog.lift, Prog.bind_op, Prog.bind_ret, Prog.pure_eq_ret]
  iintro ⟨#HR, HS, ⟨HY, HW, I0, I1, P⟩, HQ⟩
  iapply (tile_start wm 0 1408 (by decide) rfl) $$ [HW I0]
  · isplitl [HW]; · iexact HW
    iexact I0
  iintro F0
  iapply (dy_wait (pfOf dym wm) K dym rfl) $$ [HS HY]
  · isplitr; · iexact HR
    isplitl [HS]; · iexact HS
    iexact HY
  iintro ⟨HS, HDw, HD, HV⟩
  iapply (tile_wait (pfOf dym wm) K wm 0 rfl rfl) $$ [HS F0]
  · isplitr; · iexact HR
    isplitl [HS]; · iexact HS
    iexact F0
  iintro ⟨HS, HW, G0⟩
  iapply (tile_start wm 1 1408 (by decide) rfl) $$ [HW I1]
  · isplitl [HW]; · iexact HW
    iexact I1
  iintro F1
  iapply (ld_dy dym 0) $$ HD
  iintro HD
  iapply (ld_tile 0 1408 (by decide)) $$ G0
  iintro I0
  iapply (ld_PFany (w := 1408) (o4 c)) $$ P
  iintro %v P
  iapply (st_PF (w := 1408) (v := accA0 dym wm c) (o4 c)) $$ P
  iintro P
  iapply (tile_wait (pfOf dym wm) K wm 1 rfl rfl) $$ [HS F1]
  · isplitr; · iexact HR
    isplitl [HS]; · iexact HS
    iexact F1
  iintro ⟨HS, HW, G1⟩
  iapply (done (h _))
  isplitr; · iexact HR
  isplitl [HS]; · iexact HS
  isplitr [HQ]
  · isplitl [HD]; · iexact HD
    isplitl [HDw]; · iexact HDw
    isplitl [HV]; · iexact HV
    isplitl [HW]; · iexact HW
    isplitl [I0]; · iexact I0
    isplitl [G1]; · iexact G1
    iexact P
  · iexact HQ

theorem part5 (v15 : BitVec 32) {R : sProp 𝕄} {Q : _ → sProp 𝕄}
    (h : iprop(Recs (pfOf dym wm) K ∗ St (pfOf dym wm) 0 c ∗ (DyQ dym c ∗ Idle 0 c ∗ Filling wm 1 (k0_off6 c) 1408 (k0_off6_inb c) c ∗ PF (pcol 0 c) 1408 (accA1 dym wm c) c) ∗ R) ⊢ Q (proA2 dym wm c)) :
    iprop(Recs (pfOf dym wm) K ∗ St (pfOf dym wm) 0 c ∗ (DyQ dym c ∗ Ww wm c ∗ Idle 0 c ∗ Got 1 (wT wm (k0_off3 c) 1408 (k0_off3_inb c) c) c ∗ PF (pcol 0 c) 1408 (accA0 dym wm c) c) ∗ R) ⊢ WP c (k0_part5 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v15) Q := by
  rw [k0_part5_eq_skeleton, k0_part5_skel]
  simp only [Prog.lift, Prog.bind_op, Prog.bind_ret, Prog.pure_eq_ret]
  iintro ⟨#HR, HS, ⟨HD, HW, I0, G1, P⟩, HQ⟩
  iapply (tile_start wm 0 1408 (by decide) rfl) $$ [HW I0]
  · isplitl [HW]; · iexact HW
    iexact I0
  iintro F0
  iapply (ld_dy dym 2048) $$ HD
  iintro HD
  iapply (ld_tile 1 1408 (by decide)) $$ G1
  iintro I1
  iapply (ld_PF (w := 1408) (o4 c)) $$ P
  iintro P
  iapply (ld_PF (w := 1408) (o4 c)) $$ P
  iintro P
  ihave P := PF_any $$ P
  iapply (st_PF (w := 1408) (v := accA1 dym wm c) (o4 c)) $$ P
  iintro P
  iapply (tile_wait (pfOf dym wm) K wm 0 rfl rfl) $$ [HS F0]
  · isplitr; · iexact HR
    isplitl [HS]; · iexact HS
    iexact F0
  iintro ⟨HS, HW, G0⟩
  iapply (tile_start wm 1 1408 (by decide) rfl) $$ [HW I1]
  · isplitl [HW]; · iexact HW
    iexact I1
  iintro F1
  iapply (ld_dy dym 4096) $$ HD
  iintro HD
  iapply (ld_tile 0 1408 (by decide)) $$ G0
  iintro I0
  iapply (done (h))
  isplitr; · iexact HR
  isplitl [HS]; · iexact HS
  isplitr [HQ]
  · isplitl [HD]; · iexact HD
    isplitl [I0]; · iexact I0
    isplitl [F1]; · iexact F1
    iexact P
  · iexact HQ

theorem part6 (v5 : BitVec 32) (v15 : BitVec 32) (v16 : BitVec 32) {R : sProp 𝕄} {Q : _ → sProp 𝕄}
    (h : ∀ a, iprop(Recs (pfOf dym wm) K ∗ St (pfOf dym wm) 0 c ∗ (DyQ dym c ∗ Filling wm 0 (k0_off7 c) 1536 (k0_off7_inb c) c ∗ Idle 1 c ∗ PF (pcol 0 c) 1408 (accA3 dym wm c) c) ∗ R) ⊢ Q a) :
    iprop(Recs (pfOf dym wm) K ∗ St (pfOf dym wm) 0 c ∗ (DyQ dym c ∗ Idle 0 c ∗ Filling wm 1 (k0_off6 c) 1408 (k0_off6_inb c) c ∗ PF (pcol 0 c) 1408 (accA1 dym wm c) c) ∗ R) ⊢ WP c (k0_part6 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v15 v16 (proA2 dym wm c)) Q := by
  rw [k0_part6_eq_skeleton, k0_part6_skel]
  simp only [Prog.lift, Prog.bind_op, Prog.bind_ret, Prog.pure_eq_ret]
  iintro ⟨#HR, HS, ⟨HD, I0, F1, P⟩, HQ⟩
  iapply (ld_PF (w := 1408) (o4 c)) $$ P
  iintro P
  iapply (ld_PF (w := 1408) (o4 c)) $$ P
  iintro P
  ihave P := PF_any $$ P
  iapply (st_PF (w := 1408) (v := accA2 dym wm c) (o4 c)) $$ P
  iintro P
  iapply (tile_wait (pfOf dym wm) K wm 1 rfl rfl) $$ [HS F1]
  · isplitr; · iexact HR
    isplitl [HS]; · iexact HS
    iexact F1
  iintro ⟨HS, HW, G1⟩
  iapply (tile_start wm 0 1536 (by decide) rfl) $$ [HW I0]
  · isplitl [HW]; · iexact HW
    iexact I0
  iintro F0
  iapply (ld_dy dym 6144) $$ HD
  iintro HD
  iapply (ld_tile 1 1408 (by decide)) $$ G1
  iintro I1
  iapply (ld_PF (w := 1408) (o4 c)) $$ P
  iintro P
  iapply (ld_PF (w := 1408) (o4 c)) $$ P
  iintro P
  ihave P := PF_any $$ P
  iapply (st_PF (w := 1408) (v := accA3 dym wm c) (o4 c)) $$ P
  iintro P
  iapply (done (h _))
  isplitr; · iexact HR
  isplitl [HS]; · iexact HS
  isplitr [HQ]
  · isplitl [HD]; · iexact HD
    isplitl [F0]; · iexact F0
    isplitl [I1]; · iexact I1
    iexact P
  · iexact HQ

theorem part7 (v8 : BitVec 32) (v92 : BitVec 32) (v183 : BitVec 32) (v184 : BitVec 32) {R : sProp 𝕄} {Q : _ → sProp 𝕄}
    (h : ∀ a, iprop(Recs (pfOf dym wm) K ∗ St (pfOf dym wm) 1 c ∗ (DyQ dym c ∗ Idle 0 c ∗ Filling wm 1 (k0_off9 c) 1536 (k0_off9_inb c) c ∗ PR dym wm 0 1408 c ∗ PF (pcol 1 c) 1536 (accB0 dym wm c) c) ∗ R) ⊢ Q a) :
    iprop(Recs (pfOf dym wm) K ∗ St (pfOf dym wm) 0 c ∗ (DyQ dym c ∗ Filling wm 0 (k0_off7 c) 1536 (k0_off7_inb c) c ∗ Idle 1 c ∗ PF (pcol 0 c) 1408 (accA3 dym wm c) c ∗ PFany (F := F) (pcol 1 c) 1536 c) ∗ R) ⊢ WP c (k0_part7 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v8 v92 v183 v184) Q := by
  rw [k0_part7_eq_skeleton, k0_part7_skel]
  simp only [Prog.lift, Prog.bind_op, Prog.bind_ret, Prog.pure_eq_ret]
  iintro ⟨#HR, HS, ⟨HD, F0, I1, P, PB⟩, HQ⟩
  ihave P := (PF_A dym wm) $$ P
  icases P with ⟨HX, PR⟩
  iapply (w_part (pfOf dym wm) K 0 rfl (by decide) (Fin.ext ((by decide +kernel : ∀ d : Dev nD, k0_dev6 d = (dst 0 d).val) c)) (sem_send 0 _) (sem_recv 0 _) (off8_eq c) rfl) $$ [HS HX]
  · isplitr; · iexact HR
    isplitl [HS]; · iexact HS
    iexact HX
  iintro HS
  iapply (tile_wait (pfOf dym wm) K wm 0 rfl rfl) $$ [HS F0]
  · isplitr; · iexact HR
    isplitl [HS]; · iexact HS
    iexact F0
  iintro ⟨HS, HW, G0⟩
  iapply (tile_start wm 1 1536 (by decide) rfl) $$ [HW I1]
  · isplitl [HW]; · iexact HW
    iexact I1
  iintro F1
  iapply (ld_dy dym 0) $$ HD
  iintro HD
  iapply (ld_tile 0 1536 (by decide)) $$ G0
  iintro I0
  icases PB with P
  iapply (ld_PFany (w := 1536) (o10 c)) $$ P
  iintro %v P
  iapply (st_PF (w := 1536) (v := accB0 dym wm c) (o10 c)) $$ P
  iintro P
  iapply (done (h _))
  isplitr; · iexact HR
  isplitl [HS]; · iexact HS
  isplitr [HQ]
  · isplitl [HD]; · iexact HD
    isplitl [I0]; · iexact I0
    isplitl [F1]; · iexact F1
    isplitl [PR]; · iexact PR
    iexact P
  · iexact HQ

theorem part8 (v92 : BitVec 32) {R : sProp 𝕄} {Q : _ → sProp 𝕄}
    (h : iprop(Recs (pfOf dym wm) K ∗ St (pfOf dym wm) 1 c ∗ (DyQ dym c ∗ Got 0 (wT wm (k0_off11 c) 1536 (k0_off11_inb c) c) c ∗ Filling wm 1 (k0_off12 c) 1536 (k0_off12_inb c) c ∗ PF (pcol 1 c) 1536 (accB1 dym wm c) c) ∗ R) ⊢ Q (dy2 dym c)) :
    iprop(Recs (pfOf dym wm) K ∗ St (pfOf dym wm) 1 c ∗ (DyQ dym c ∗ Idle 0 c ∗ Filling wm 1 (k0_off9 c) 1536 (k0_off9_inb c) c ∗ PF (pcol 1 c) 1536 (accB0 dym wm c) c) ∗ R) ⊢ WP c (k0_part8 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v92) Q := by
  rw [k0_part8_eq_skeleton, k0_part8_skel]
  simp only [Prog.lift, Prog.bind_op, Prog.bind_ret, Prog.pure_eq_ret]
  iintro ⟨#HR, HS, ⟨HD, I0, F1, P⟩, HQ⟩
  iapply (tile_wait (pfOf dym wm) K wm 1 rfl rfl) $$ [HS F1]
  · isplitr; · iexact HR
    isplitl [HS]; · iexact HS
    iexact F1
  iintro ⟨HS, HW, G1⟩
  iapply (tile_start wm 0 1536 (by decide) rfl) $$ [HW I0]
  · isplitl [HW]; · iexact HW
    iexact I0
  iintro F0
  iapply (ld_dy dym 2048) $$ HD
  iintro HD
  iapply (ld_tile 1 1536 (by decide)) $$ G1
  iintro I1
  iapply (ld_PF (w := 1536) (o10 c)) $$ P
  iintro P
  iapply (ld_PF (w := 1536) (o10 c)) $$ P
  iintro P
  ihave P := PF_any $$ P
  iapply (st_PF (w := 1536) (v := accB1 dym wm c) (o10 c)) $$ P
  iintro P
  iapply (tile_wait (pfOf dym wm) K wm 0 rfl rfl) $$ [HS F0]
  · isplitr; · iexact HR
    isplitl [HS]; · iexact HS
    iexact F0
  iintro ⟨HS, HW, G0⟩
  iapply (tile_start wm 1 1536 (by decide) rfl) $$ [HW I1]
  · isplitl [HW]; · iexact HW
    iexact I1
  iintro F1
  iapply (ld_dy dym 4096) $$ HD
  iintro HD
  iapply (done (h))
  isplitr; · iexact HR
  isplitl [HS]; · iexact HS
  isplitr [HQ]
  · isplitl [HD]; · iexact HD
    isplitl [G0]; · iexact G0
    isplitl [F1]; · iexact F1
    iexact P
  · iexact HQ

theorem part9 (v92 : BitVec 32) {R : sProp 𝕄} {Q : _ → sProp 𝕄}
    (h : ∀ a, iprop(Recs (pfOf dym wm) K ∗ St (pfOf dym wm) 1 c ∗ (DyQ dym c ∗ Idle 1 c ∗ Filling wm 0 (k0_off13 c) 1152 (k0_off13_inb c) c ∗ PF (pcol 1 c) 1536 (accB3 dym wm c) c) ∗ R) ⊢ Q a) :
    iprop(Recs (pfOf dym wm) K ∗ St (pfOf dym wm) 1 c ∗ (DyQ dym c ∗ Got 0 (wT wm (k0_off11 c) 1536 (k0_off11_inb c) c) c ∗ Filling wm 1 (k0_off12 c) 1536 (k0_off12_inb c) c ∗ PF (pcol 1 c) 1536 (accB1 dym wm c) c) ∗ R) ⊢ WP c (k0_part9 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v92 (dy2 dym c)) Q := by
  rw [k0_part9_eq_skeleton, k0_part9_skel]
  simp only [Prog.lift, Prog.bind_op, Prog.bind_ret, Prog.pure_eq_ret]
  iintro ⟨#HR, HS, ⟨HD, G0, F1, P⟩, HQ⟩
  iapply (ld_tile 0 1536 (by decide)) $$ G0
  iintro I0
  iapply (ld_PF (w := 1536) (o10 c)) $$ P
  iintro P
  iapply (ld_PF (w := 1536) (o10 c)) $$ P
  iintro P
  ihave P := PF_any $$ P
  iapply (st_PF (w := 1536) (v := accB2 dym wm c) (o10 c)) $$ P
  iintro P
  iapply (tile_wait (pfOf dym wm) K wm 1 rfl rfl) $$ [HS F1]
  · isplitr; · iexact HR
    isplitl [HS]; · iexact HS
    iexact F1
  iintro ⟨HS, HW, G1⟩
  iapply (tile_start wm 0 1152 (by decide) rfl) $$ [HW I0]
  · isplitl [HW]; · iexact HW
    iexact I0
  iintro F0
  iapply (ld_dy dym 6144) $$ HD
  iintro HD
  iapply (ld_tile 1 1536 (by decide)) $$ G1
  iintro I1
  iapply (ld_PF (w := 1536) (o10 c)) $$ P
  iintro P
  iapply (ld_PF (w := 1536) (o10 c)) $$ P
  iintro P
  ihave P := PF_any $$ P
  iapply (st_PF (w := 1536) (v := accB3 dym wm c) (o10 c)) $$ P
  iintro P
  iapply (done (h _))
  isplitr; · iexact HR
  isplitl [HS]; · iexact HS
  isplitr [HQ]
  · isplitl [HD]; · iexact HD
    isplitl [I1]; · iexact I1
    isplitl [F0]; · iexact F0
    iexact P
  · iexact HQ

theorem part10 (v5 : BitVec 32) (v8 : BitVec 32) (v13 : BitVec 32) (v16 : BitVec 32) (c16_i32_209 : BitVec 32) {R : sProp 𝕄} {Q : _ → sProp 𝕄}
    (h : ∀ a, iprop(Recs (pfOf dym wm) K ∗ St (pfOf dym wm) 2 c ∗ (DyQ dym c ∗ Idle 0 c ∗ Filling wm 1 (k0_off15 c) 1152 (k0_off15_inb c) c ∗ PR dym wm 1 1536 c ∗ PF (pcol 2 c) 1152 (accC0 dym wm c) c) ∗ R) ⊢ Q a) :
    iprop(Recs (pfOf dym wm) K ∗ St (pfOf dym wm) 1 c ∗ (DyQ dym c ∗ Idle 1 c ∗ Filling wm 0 (k0_off13 c) 1152 (k0_off13_inb c) c ∗ PF (pcol 1 c) 1536 (accB3 dym wm c) c ∗ PFany (F := F) (pcol 2 c) 1152 c) ∗ R) ⊢ WP c (k0_part10 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v13 v16 c16_i32_209) Q := by
  rw [k0_part10_eq_skeleton, k0_part10_skel]
  simp only [Prog.lift, Prog.bind_op, Prog.bind_ret, Prog.pure_eq_ret]
  iintro ⟨#HR, HS, ⟨HD, I1, F0, P, PC⟩, HQ⟩
  ihave P := (PF_B dym wm) $$ P
  icases P with ⟨HX, PR⟩
  iapply (w_part (pfOf dym wm) K 1 rfl (by decide) (Fin.ext ((by decide +kernel : ∀ d : Dev nD, k0_dev7 d = (dst 1 d).val) c)) (sem_send 1 _) (sem_recv 1 _) (off14_eq c) rfl) $$ [HS HX]
  · isplitr; · iexact HR
    isplitl [HS]; · iexact HS
    iexact HX
  iintro HS
  iapply (tile_wait (pfOf dym wm) K wm 0 rfl rfl) $$ [HS F0]
  · isplitr; · iexact HR
    isplitl [HS]; · iexact HS
    iexact F0
  iintro ⟨HS, HW, G0⟩
  iapply (tile_start wm 1 1152 (by decide) rfl) $$ [HW I1]
  · isplitl [HW]; · iexact HW
    iexact I1
  iintro F1
  iapply (ld_dy dym 0) $$ HD
  iintro HD
  iapply (ld_tile 0 1152 (by decide)) $$ G0
  iintro I0
  icases PC with P
  iapply (ld_PFany (w := 1152) (o16 c)) $$ P
  iintro %v P
  iapply (st_PF (w := 1152) (v := accC0 dym wm c) (o16 c)) $$ P
  iintro P
  iapply (done (h _))
  isplitr; · iexact HR
  isplitl [HS]; · iexact HS
  isplitr [HQ]
  · isplitl [HD]; · iexact HD
    isplitl [I0]; · iexact I0
    isplitl [F1]; · iexact F1
    isplitl [PR]; · iexact PR
    iexact P
  · iexact HQ

theorem part11 (v13 : BitVec 32) {R : sProp 𝕄} {Q : _ → sProp 𝕄}
    (h : ∀ a, iprop(Recs (pfOf dym wm) K ∗ St (pfOf dym wm) 2 c ∗ (DyQ dym c ∗ Got 0 (wT wm (k0_off17 c) 1152 (k0_off17_inb c) c) c ∗ Filling wm 1 (k0_off18 c) 1152 (k0_off18_inb c) c ∗ PF (pcol 2 c) 1152 (accC1 dym wm c) c) ∗ R) ⊢ Q a) :
    iprop(Recs (pfOf dym wm) K ∗ St (pfOf dym wm) 2 c ∗ (DyQ dym c ∗ Idle 0 c ∗ Filling wm 1 (k0_off15 c) 1152 (k0_off15_inb c) c ∗ PF (pcol 2 c) 1152 (accC0 dym wm c) c) ∗ R) ⊢ WP c (k0_part11 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v13) Q := by
  rw [k0_part11_eq_skeleton, k0_part11_skel]
  simp only [Prog.lift, Prog.bind_op, Prog.bind_ret, Prog.pure_eq_ret]
  iintro ⟨#HR, HS, ⟨HD, I0, F1, P⟩, HQ⟩
  iapply (tile_wait (pfOf dym wm) K wm 1 rfl rfl) $$ [HS F1]
  · isplitr; · iexact HR
    isplitl [HS]; · iexact HS
    iexact F1
  iintro ⟨HS, HW, G1⟩
  iapply (tile_start wm 0 1152 (by decide) rfl) $$ [HW I0]
  · isplitl [HW]; · iexact HW
    iexact I0
  iintro F0
  iapply (ld_dy dym 2048) $$ HD
  iintro HD
  iapply (ld_tile 1 1152 (by decide)) $$ G1
  iintro I1
  iapply (ld_PF (w := 1152) (o16 c)) $$ P
  iintro P
  iapply (ld_PF (w := 1152) (o16 c)) $$ P
  iintro P
  ihave P := PF_any $$ P
  iapply (st_PF (w := 1152) (v := accC1 dym wm c) (o16 c)) $$ P
  iintro P
  iapply (tile_wait (pfOf dym wm) K wm 0 rfl rfl) $$ [HS F0]
  · isplitr; · iexact HR
    isplitl [HS]; · iexact HS
    iexact F0
  iintro ⟨HS, HW, G0⟩
  iapply (tile_start wm 1 1152 (by decide) rfl) $$ [HW I1]
  · isplitl [HW]; · iexact HW
    iexact I1
  iintro F1
  iapply (done (h _))
  isplitr; · iexact HR
  isplitl [HS]; · iexact HS
  isplitr [HQ]
  · isplitl [HD]; · iexact HD
    isplitl [G0]; · iexact G0
    isplitl [F1]; · iexact F1
    iexact P
  · iexact HQ

theorem part12 (v5 : BitVec 32) (v13 : BitVec 32) {R : sProp 𝕄} {Q : _ → sProp 𝕄}
    (h : ∀ a, iprop(Recs (pfOf dym wm) K ∗ St (pfOf dym wm) 2 c ∗ (DyQ dym c ∗ Ww wm c ∗ Idle 0 c ∗ Idle 1 c ∗ PF (pcol 2 c) 1152 (accC3 dym wm c) c) ∗ R) ⊢ Q a) :
    iprop(Recs (pfOf dym wm) K ∗ St (pfOf dym wm) 2 c ∗ (DyQ dym c ∗ Got 0 (wT wm (k0_off17 c) 1152 (k0_off17_inb c) c) c ∗ Filling wm 1 (k0_off18 c) 1152 (k0_off18_inb c) c ∗ PF (pcol 2 c) 1152 (accC1 dym wm c) c) ∗ R) ⊢ WP c (k0_part12 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v13) Q := by
  rw [k0_part12_eq_skeleton, k0_part12_skel]
  simp only [Prog.lift, Prog.bind_op, Prog.bind_ret, Prog.pure_eq_ret]
  iintro ⟨#HR, HS, ⟨HD, G0, F1, P⟩, HQ⟩
  iapply (ld_dy dym 4096) $$ HD
  iintro HD
  iapply (ld_tile 0 1152 (by decide)) $$ G0
  iintro I0
  iapply (ld_PF (w := 1152) (o16 c)) $$ P
  iintro P
  iapply (ld_PF (w := 1152) (o16 c)) $$ P
  iintro P
  ihave P := PF_any $$ P
  iapply (st_PF (w := 1152) (v := accC2 dym wm c) (o16 c)) $$ P
  iintro P
  iapply (tile_wait (pfOf dym wm) K wm 1 rfl rfl) $$ [HS F1]
  · isplitr; · iexact HR
    isplitl [HS]; · iexact HS
    iexact F1
  iintro ⟨HS, HW, G1⟩
  iapply (ld_dy dym 6144) $$ HD
  iintro HD
  iapply (ld_tile 1 1152 (by decide)) $$ G1
  iintro I1
  iapply (ld_PF (w := 1152) (o16 c)) $$ P
  iintro P
  iapply (ld_PF (w := 1152) (o16 c)) $$ P
  iintro P
  ihave P := PF_any $$ P
  iapply (st_PF (w := 1152) (v := accC3 dym wm c) (o16 c)) $$ P
  iintro P
  iapply (done (h _))
  isplitr; · iexact HR
  isplitl [HS]; · iexact HS
  isplitr [HQ]
  · isplitl [HD]; · iexact HD
    isplitl [HW]; · iexact HW
    isplitl [I0]; · iexact I0
    isplitl [I1]; · iexact I1
    iexact P
  · iexact HQ

end Cert.Gather

end
-- ==== Proof.Cover.lean ====
module

public import proofs.«01_k».proof.Proof.Products
public import proofs.«01_k».proof.Proof.Sums

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The buffers cut into the blocks the transfers move, and put together again -/

/-! ## Sums over the transfers -/

theorem bs01 (Φ : Slot → sProp 𝕄) : bigSep Finset.univ Φ = iprop(Φ 0 ∗ Φ 1 ∗ bigSep (Finset.univ.filter fun s : Slot => 2 ≤ s.val) Φ) := by
  have h1 : (Finset.univ : Finset Slot) = insert 0 (insert 1 (Finset.univ.filter fun s : Slot => 2 ≤ s.val)) := by decide +kernel
  conv_lhs => rw [h1]
  rw [bigSep_insert (by decide +kernel), bigSep_insert (by decide +kernel)]
  rfl

/-! ## The result array -/

/-- First column of the three column ranges a device receives, in the result array. -/
def kcol (k : ℕ) (c : Dev nD) : ℕ := if k = 2 then 2944 * (1 - dx c) else col k c

/-- Which block of the result array transfer `s` lands in; the first two stand for the blocks a device writes itself. -/
def tag (c : Dev nD) (s : Slot) : Fin 16 × Fin 3 :=
  (Fin.ofNat 16 (if s.val < 2 then 4 * dy c + dz c else rOff s c 0 / 256), Fin.ofNat 3 (colKind s))

/-- The transfer that lands in a given block. -/
def slotAt (c : Dev nD) (p : Fin 16 × Fin 3) : Slot :=
  let i := (dy c + 4 - p.1.val / 4) % 4
  let j := (dz c + 4 - p.1.val % 4) % 4
  Fin.ofNat 48 (if p.2.val = 0 then (if i = 0 ∧ j = 0 then 0 else blkA i j)
    else if p.2.val = 1 then (if i = 0 ∧ j = 0 then 1 else blkB i j) else 32 + 4 * i + j)

theorem slotAt_tag (c : Dev nD) (s : Slot) : slotAt c (tag c s) = s := by revert c s; decide +kernel
theorem tag_slotAt (c : Dev nD) (p : Fin 16 × Fin 3) : tag c (slotAt c p) = p := by
  have h : ∀ (c : Dev nD) (a : Fin 16) (b : Fin 3), tag c (slotAt c (a, b)) = (a, b) := by decide +kernel
  exact h c p.1 p.2
def tagEquiv (c : Dev nD) : Slot ≃ Fin 16 × Fin 3 := ⟨tag c, slotAt c, slotAt_tag c, tag_slotAt c⟩

/-- The blocks of the result array. -/
def blkO (c : Dev nD) (p : Fin 16 × Fin 3) : Finset S4096x4096.Idx := Box S4096x4096 ![256 * p.1.val, kcol p.2.val c] ![256, wid p.2.val]

theorem mem_blkO {c : Dev nD} {p : Fin 16 × Fin 3} {i : S4096x4096.Idx} :
    i ∈ blkO c p ↔ (256 * p.1.val ≤ (i 0).val ∧ (i 0).val < 256 * p.1.val + 256) ∧ (kcol p.2.val c ≤ (i 1).val ∧ (i 1).val < kcol p.2.val c + wid p.2.val) := by
  unfold blkO; rw [mem_Box]
  exact Fin.forall_fin_two

theorem kcol_disj (x : ℕ) (hx : x < 2) (k k' : Fin 3) (h : k ≠ k') :
    (if k.val = 2 then 2944 * (1 - x) else if k.val = 0 then 1152 * x else if k.val = 1 then 1152 * x + 1408 else 2944 * x) + wid k.val
        ≤ (if k'.val = 2 then 2944 * (1 - x) else if k'.val = 0 then 1152 * x else if k'.val = 1 then 1152 * x + 1408 else 2944 * x)
      ∨ (if k'.val = 2 then 2944 * (1 - x) else if k'.val = 0 then 1152 * x else if k'.val = 1 then 1152 * x + 1408 else 2944 * x) + wid k'.val
        ≤ (if k.val = 2 then 2944 * (1 - x) else if k.val = 0 then 1152 * x else if k.val = 1 then 1152 * x + 1408 else 2944 * x) := by
  revert x k k'; decide +kernel

theorem blkO_disj (c : Dev nD) (p p' : Fin 16 × Fin 3) (h : p ≠ p') : Disjoint (blkO c p) (blkO c p') := by
  refine Finset.disjoint_left.mpr fun i hi hi' => ?_
  rw [mem_blkO] at hi hi'
  have h1 : p.1 = p'.1 := Fin.ext (by omega)
  have h2 : p.2 ≠ p'.2 := fun h2 => h (Prod.ext h1 h2)
  have h3 : kcol p.2.val c + wid p.2.val ≤ kcol p'.2.val c ∨ kcol p'.2.val c + wid p'.2.val ≤ kcol p.2.val c := kcol_disj (dx c) (dx_lt c) p.2 p'.2 h2
  omega

theorem kcol_cover (c : Dev nD) (q : ℕ) (hq : q < 4096) : ∃ k : Fin 3, kcol k.val c ≤ q ∧ q < kcol k.val c + wid k.val := by
  have hx := dx_lt c
  have e0 : kcol 0 c = 1152 * dx c := rfl
  have e1 : kcol 1 c = 1152 * dx c + 1408 := rfl
  have e2 : kcol 2 c = 2944 * (1 - dx c) := rfl
  have w0 : wid 0 = 1408 := rfl
  have w1 : wid 1 = 1536 := rfl
  have w2 : wid 2 = 1152 := rfl
  rcases (by omega : (kcol 0 c ≤ q ∧ q < kcol 0 c + wid 0) ∨ (kcol 1 c ≤ q ∧ q < kcol 1 c + wid 1) ∨ (kcol 2 c ≤ q ∧ q < kcol 2 c + wid 2)) with h | h | h
  · exact ⟨0, h⟩
  · exact ⟨1, h⟩
  · exact ⟨2, h⟩

theorem blkO_cover (c : Dev nD) : Finset.univ.biUnion (fun s : Slot => blkO c (tag c s)) = Finset.univ := by
  refine Finset.eq_univ_iff_forall.mpr fun i => ?_
  have h0 : (i 0).val < 4096 := (i 0).isLt
  obtain ⟨k, hk⟩ := kcol_cover c (i 1).val (i 1).isLt
  refine Finset.mem_biUnion.mpr ⟨slotAt c (⟨(i 0).val / 256, by omega⟩, k), Finset.mem_univ _, ?_⟩
  rw [tag_slotAt, mem_blkO]
  refine ⟨?_, hk⟩
  show 256 * ((i 0).val / 256) ≤ (i 0).val ∧ (i 0).val < 256 * ((i 0).val / 256) + 256
  omega

theorem out_blocks (c : Dev nD) (q : PosShare TreeShare) (f : BigC F) :
    ((((c : Thread nD τ).loc main_v1) ↦[Finset.univ]{q} f) : sProp 𝕄) = bigSep Finset.univ fun s : Slot => (((c : Thread nD τ).loc main_v1) ↦[blkO c (tag c s)]{q} f) := by
  have h := pointsTo_biUnion (Val := Elt F) (ℓ := (c : Thread nD τ).loc main_v1) (q := q) (f := f) (Ix := Unit) (Name := ℕ) (U := UU) (Lvl := ℕ) Finset.univ (fun s : Slot => blkO c (tag c s))
    (fun s _ s' _ h => blkO_disj c _ _ fun e => h (by rw [← slotAt_tag c s, e, slotAt_tag]))
  rw [blkO_cover] at h
  exact h

theorem blk_own (c : Dev nD) : blkO c (tag c 0) = Box S4096x4096 ![1024 * dy c + 256 * dz c, col 0 c] ![256, wid 0]
    ∧ blkO c (tag c 1) = Box S4096x4096 ![1024 * dy c + 256 * dz c, col 1 c] ![256, wid 1] := by
  have h : ∀ c : Dev nD, (256 * (tag c 0).1.val = 1024 * dy c + 256 * dz c ∧ (tag c 0).2 = 0) ∧ (256 * (tag c 1).1.val = 1024 * dy c + 256 * dz c ∧ (tag c 1).2 = 1) := by decide +kernel
  obtain ⟨⟨h1, h2⟩, h3, h4⟩ := h c
  unfold blkO
  rw [h1, h2, h3, h4]
  exact ⟨rfl, rfl⟩

theorem blk_recv (c : Dev nD) (s : Slot) (hs : 2 ≤ s.val) : blkO c (tag c s) = Box S4096x4096 (rOff s c) (sz s) := by
  have h : ∀ (c : Dev nD) (s : Slot), 2 ≤ s.val → (∀ a, rOff s c a = ![256 * (tag c s).1.val, kcol (tag c s).2.val c] a) ∧ (tag c s).2.val = colKind s := by decide +kernel
  obtain ⟨h1, h2⟩ := h c s hs
  unfold blkO
  rw [show rOff s c = ![256 * (tag c s).1.val, kcol (tag c s).2.val c] from funext h1]
  unfold sz
  rw [← h2]

/-- The result array cut into the blocks the device writes and those the transfers land in. -/
theorem out_split (c : Dev nD) (f : BigC F) : ((((c : Thread nD τ).loc main_v1) ↦[Finset.univ]{fullShare} f) : sProp 𝕄)
    ⊢ iprop((∃ f, outO 0 c f) ∗ (∃ f, outO 1 c f) ∗ bigSep (Finset.univ.filter fun s : Slot => 2 ≤ s.val) fun s => piece (F := F) s (src s c)) := by
  rw [out_blocks, bs01, (blk_own c).1, (blk_own c).2]
  have e : (bigSep (Finset.univ.filter fun s : Slot => 2 ≤ s.val) fun s => (((c : Thread nD τ).loc main_v1) ↦[blkO c (tag c s)]{fullShare} f) : sProp 𝕄)
      ⊢ bigSep (Finset.univ.filter fun s : Slot => 2 ≤ s.val) fun s => piece (F := F) s (src s c) :=
    bigSep_mono fun s hs => by
      have h2 := (Finset.mem_filter.mp hs).2
      unfold piece
      rw [if_neg (by omega), dst_src, blk_recv c s h2]
      show _ ⊢ (iprop(∃ f : BigC F, outP c fullShare (dOff s (src s c)) (sz s) f) : sProp 𝕄)
      iintro H; iexists f; iexact H
  iintro ⟨H0, H1, H⟩
  isplitl [H0]
  · iexists f; iexact H0
  isplitl [H1]
  · iexists f; iexact H1
  iapply e; iexact H

/-- The same blocks, each at its final values, are the result. -/
theorem out_join (c : Dev nD) : iprop(outP c qG ![1024 * dy c + 256 * dz c, col 0 c] ![256, wid 0] (OUT pf c) ∗ outP c qG ![1024 * dy c + 256 * dz c, col 1 c] ![256, wid 1] (OUT pf c)
      ∗ bigSep (Finset.univ.filter fun s : Slot => 2 ≤ s.val) (Sg pf c))
    ⊢ ((((c : Thread nD τ).loc main_v1) ↦[Finset.univ]{qG} (OUT pf c)) : sProp 𝕄) := by
  rw [out_blocks, bs01, (blk_own c).1, (blk_own c).2]
  have e : (bigSep (Finset.univ.filter fun s : Slot => 2 ≤ s.val) (Sg pf c) : sProp 𝕄)
      = bigSep (Finset.univ.filter fun s : Slot => 2 ≤ s.val) fun s => (((c : Thread nD τ).loc main_v1) ↦[blkO c (tag c s)]{qG} (OUT pf c)) :=
    bigSep_congr fun s hs => by rw [blk_recv c s (Finset.mem_filter.mp hs).2]; rfl
  rw [e]

theorem outO_share (k : ℕ) (c : Dev nD) (f : BigC F) : outO k c f ⊢ outP c qG ![1024 * dy c + 256 * dz c, col k c] ![256, wid k] f := by
  iintro H
  ihave H := (four_shares (F := F)) $$ H
  icases H with ⟨-, -, -, H⟩
  iexact H

/-! ## The buffer the partner writes -/

/-- What is left of it when the two landing boxes are given away. -/
abbrev xrS (c : Dev nD) : Finset S256x4096.Idx := (Finset.univ \ bxO 0 c) \ bxO 1 c
abbrev xrRest (c : Dev nD) : sProp 𝕄 := iprop(∃ f : SmallC F, ((c : Thread nD τ).loc cc0_scratch3) ↦[xrS c]{fullShare} f)

theorem xr_split (c : Dev nD) (f : SmallC F) : ((((c : Thread nD τ).loc cc0_scratch3) ↦[Finset.univ]{fullShare} f) : sProp 𝕄)
    ⊢ iprop(piece (F := F) 0 (src 0 c) ∗ piece (F := F) 1 (src 1 c) ∗ xrRest c) := by
  have h0 : dOff 0 (src 0 c) = ![0, col 0 c] := by revert c; decide +kernel
  have h1 : dOff 1 (src 1 c) = ![0, col 1 c] := by revert c; decide +kernel
  have e0 : piece (F := F) 0 (src 0 c) = iprop(∃ f : SmallC F, ((c : Thread nD τ).loc cc0_scratch3) ↦[bxO 0 c]{fullShare} f) := by
    unfold piece; rw [if_pos (by decide), dst_src, h0]; rfl
  have e1 : piece (F := F) 1 (src 1 c) = iprop(∃ f : SmallC F, ((c : Thread nD τ).loc cc0_scratch3) ↦[bxO 1 c]{fullShare} f) := by
    unfold piece; rw [if_pos (by decide), dst_src, h1]; rfl
  rw [e0, e1]
  refine (pointsTo_split_subset (Finset.subset_univ (bxO 0 c))).1.trans ?_
  iintro ⟨H0, H⟩
  isplitl [H0]
  · iexists f; iexact H0
  ihave H := (pointsTo_split_subset (bx_disj c)).1 $$ H
  icases H with ⟨H1, H⟩
  isplitl [H1]
  · iexists f; iexact H1
  iexists f; iexact H

/-- A buffer in three disjoint parts is whole again. -/
theorem three_join {ℓ : Loc nD τ sig} {S T : Finset (Idx ℓ)} (hT : T ⊆ Finset.univ \ S) {q : PosShare TreeShare} (f g h : Buf (Elt F) ℓ) :
    iprop((ℓ ↦[S]{q} f) ∗ (ℓ ↦[T]{q} g) ∗ (ℓ ↦[(Finset.univ \ S) \ T]{q} h)) ⊢ (iprop(∃ f, ℓ ↦[Finset.univ]{q} f) : sProp 𝕄) := by
  iintro ⟨H0, H1, H⟩
  ihave H := (pointsTo_join_subset hT) $$ [H1 H]
  · isplitl [H1]
    · iexact H1
    iexact H
  ihave H := (pointsTo_join_subset (Finset.subset_univ S)) $$ [H0 H]
  · isplitl [H0]
    · iexact H0
    iexact H
  iexists _; iexact H

theorem xr_join (c : Dev nD) : iprop(landed pf 0 c ∗ landed pf 1 c ∗ xrRest c) ⊢ iprop(∃ f : SmallC F, ((c : Thread nD τ).loc cc0_scratch3) ↦[Finset.univ]{fullShare} f) := by
  rw [landed_X0, landed_X1]
  iintro ⟨H0, H1, ⟨%f, H⟩⟩
  iapply (three_join (ℓ := (c : Thread nD τ).loc cc0_scratch3) (S := bxO 0 c) (T := bxO 1 c) (bx_disj c) _ _ f)
  isplitl [H0]
  · iexact H0
  isplitl [H1]
  · iexact H1
  iexact H

/-! ## The product buffer -/

abbrev pbx (k w : ℕ) (c : Dev nD) : Finset S256x4096.Idx := Box S256x4096 ![0, pcol k c] ![256, w]

theorem mem_pbx {k w : ℕ} {c : Dev nD} {i : S256x4096.Idx} : i ∈ pbx k w c ↔ pcol k c ≤ (i 1).val ∧ (i 1).val < pcol k c + w := by
  rw [mem_Box]
  refine Fin.forall_fin_two.trans (and_iff_right ?_)
  have h0 : (i 0).val < 256 := (i 0).isLt
  exact ⟨Nat.zero_le _, by show (i 0).val < 0 + 256; omega⟩

theorem pcol_0 (c : Dev nD) : pcol 0 c = 1152 * (1 - dx c) := rfl
theorem pcol_1 (c : Dev nD) : pcol 1 c = 1152 * (1 - dx c) + 1408 := rfl
theorem pcol_2 (c : Dev nD) : pcol 2 c = 2944 * dx c := rfl

theorem pbx_sub (c : Dev nD) : pbx 1 1536 c ⊆ Finset.univ \ pbx 0 1408 c := fun i hi => by
  refine Finset.mem_sdiff.mpr ⟨Finset.mem_univ _, fun h => ?_⟩
  rw [mem_pbx] at hi h
  rw [pcol_1] at hi; rw [pcol_0] at h
  omega

theorem pbx_rest (c : Dev nD) : (Finset.univ \ pbx 0 1408 c) \ pbx 1 1536 c = pbx 2 1152 c := by
  ext i
  have hx := dx_lt c
  have h1 : (i 1).val < 4096 := (i 1).isLt
  simp only [Finset.mem_sdiff, Finset.mem_univ, true_and, mem_pbx, pcol_0, pcol_1, pcol_2]
  omega

theorem pf_split (c : Dev nD) (f : SmallC F) : ((((c : Thread nD τ).loc cc0_scratch2) ↦[Finset.univ]{fullShare} f) : sProp 𝕄)
    ⊢ iprop(PFany (F := F) (pcol 0 c) 1408 c ∗ PFany (F := F) (pcol 1 c) 1536 c ∗ PFany (F := F) (pcol 2 c) 1152 c) := by
  unfold PFany
  refine (pointsTo_split_subset (Finset.subset_univ (pbx 0 1408 c))).1.trans ?_
  iintro ⟨H0, H⟩
  isplitl [H0]
  · iexists f; iexact H0
  ihave H := (pointsTo_split_subset (pbx_sub c)).1 $$ H
  icases H with ⟨H1, H⟩
  isplitl [H1]
  · iexists f; iexact H1
  iexists f
  rw [pbx_rest]
  iexact H

theorem pf_join (c : Dev nD) (q : PosShare TreeShare) (f : SmallC F) :
    iprop((((c : Thread nD τ).loc cc0_scratch2) ↦[pbx 0 1408 c]{q} f) ∗ (((c : Thread nD τ).loc cc0_scratch2) ↦[pbx 1 1536 c]{q} f) ∗ (((c : Thread nD τ).loc cc0_scratch2) ↦[pbx 2 1152 c]{q} f))
      ⊢ ((((c : Thread nD τ).loc cc0_scratch2) ↦[Finset.univ]{q} f) : sProp 𝕄) := by
  rw [← pbx_rest]
  iintro ⟨H0, H1, H⟩
  iapply (pointsTo_split_subset (Finset.subset_univ (pbx 0 1408 c))).2
  isplitl [H0]
  · iexact H0
  iapply (pointsTo_split_subset (pbx_sub c)).2
  isplitl [H1]
  · iexact H1
  iexact H

variable (dym wm : Dev nD → DyB F)

theorem PR_join (c : Dev nD) : iprop(PR dym wm 0 1408 c ∗ PR dym wm 1 1536 c ∗ PR dym wm 2 1152 c) ⊢ pfR (pfOf dym wm) c := by
  unfold PR
  exact pf_join c _ _

/-- The three sources in the product buffer, back, with the share that stayed: the buffer. -/
theorem pf_whole (c : Dev nD) : iprop(srcRes (pfOf dym wm) 0 c ∗ srcRes (pfOf dym wm) 1 c ∗ pfP c fullShare.left ![0, pcol 2 c] ![256, 1152] (pfOf dym wm c) ∗ pfR (pfOf dym wm) c)
    ⊢ ((((c : Thread nD τ).loc cc0_scratch2) ↦[Finset.univ]{fullShare} (pfOf dym wm c)) : sProp 𝕄) := by
  have e0 : srcRes (pfOf dym wm) 0 c = (((c : Thread nD τ).loc cc0_scratch2) ↦[pbx 0 1408 c]{fullShare.left} (pfOf dym wm c)) := by
    unfold srcRes; rw [if_pos (by decide), show sOff 0 c = ![0, pcol 0 c] from d0 c]; rfl
  have e1 : srcRes (pfOf dym wm) 1 c = (((c : Thread nD τ).loc cc0_scratch2) ↦[pbx 1 1536 c]{fullShare.left} (pfOf dym wm c)) := by
    unfold srcRes; rw [if_pos (by decide), show sOff 1 c = ![0, pcol 1 c] from d1 c]; rfl
  rw [e0, e1]
  iintro ⟨H0, H1, H2, HR⟩
  iapply (pointsTo_share (PosShare.mem_left_op_right fullShare)).2
  isplitl [H0 H1 H2]
  · iapply (pf_join c _ _)
    isplitl [H0]
    · iexact H0
    isplitl [H1]
    · iexact H1
    iexact H2
  iexact HR

/-! ## The sum buffer -/

/-- The four shares of the two boxes of the sum buffer with its rest: the buffer. -/
theorem sm_whole (c : Dev nD) :
    iprop(bigSep Finset.univ (fun s => srcRes pf s c) ∗ (srcRes pf 32 c -∗ iprop(smO pf qF 0 c ∗ smO pf qF 1 c)) ∗ smO pf qG 0 c ∗ smO pf qG 1 c ∗ smRest (F := F) ((Finset.univ \ bxO 0 c) \ bxO 1 c) c)
      ⊢ iprop((∃ f : SmallC F, ((c : Thread nD τ).loc cc0_scratch4) ↦[Finset.univ]{fullShare} f) ∗ srcRes pf 0 c ∗ srcRes pf 1 c) := by
  have e : (bigSep Finset.univ (fun s => srcRes pf s c) : sProp 𝕄)
      ⊢ iprop(srcRes pf 0 c ∗ srcRes pf 1 c ∗ srcRes pf 2 c ∗ srcRes pf 5 c ∗ srcRes pf 8 c ∗ srcRes pf 20 c ∗ srcRes pf 32 c) := by
    have h : (bigSep Finset.univ (fun s => srcRes pf s c) : sProp 𝕄) ⊢ bigSep ({0, 1, 2, 5, 8, 20, 32} : Finset Slot) (fun s => srcRes pf s c) := bigSep_subset (Finset.subset_univ _)
    refine h.trans (Entails.of_eq ?_)
    rw [bigSep_eq_bigSepL_of_eq [0, 1, 2, 5, 8, 20, 32] (by decide) (by decide)]
    rfl
  iintro ⟨H, HF, HG0, HG1, ⟨%g, HM⟩⟩
  ihave H := e $$ H
  icases H with ⟨H0, H1, H2, H5, H8, H20, H32⟩
  ihave HF := HF $$ H32
  icases HF with ⟨HF0, HF1⟩
  ihave H2 := (Entails.of_eq (src_2 pf)) $$ H2
  ihave H5 := (Entails.of_eq (src_5 pf)) $$ H5
  ihave H8 := (Entails.of_eq (src_8 pf)) $$ H8
  ihave H20 := (Entails.of_eq (src_20 pf)) $$ H20
  isplitr [H0 H1]
  · ihave HA := (four_shares_join (F := F)) $$ [H8 H2 HF0 HG0]
    · isplitl [H8]
      · iexact H8
      isplitl [H2]
      · iexact H2
      isplitl [HF0]
      · iexact HF0
      iexact HG0
    ihave HB := (four_shares_join (F := F)) $$ [H5 H20 HF1 HG1]
    · isplitl [H5]
      · iexact H5
      isplitl [H20]
      · iexact H20
      isplitl [HF1]
      · iexact HF1
      iexact HG1
    iapply (three_join (ℓ := (c : Thread nD τ).loc cc0_scratch4) (S := bxO 0 c) (T := bxO 1 c) (bx_disj c) _ _ g)
    isplitl [HA]
    · iexact HA
    isplitl [HB]
    · iexact HB
    iexact HM
  isplitl [H0]
  · iexact H0
  iexact H1

/-! ## The two slots of the tile buffer -/

theorem slot_cover : Finset.univ \ slot 0 = slot 1 := by
  ext i
  have h0 : (i 0).val < 2 := (i 0).isLt
  have h1 : (i 1).val < 1536 := (i 1).isLt
  have h2 : (i 2).val < 2048 := (i 2).isLt
  have key : ∀ b : ℕ, i ∈ slot b ↔ (i 0).val = b := fun b => by
    rw [mem_Box]
    constructor
    · intro h
      have := h 0
      have e1 : b ≤ (i 0).val := this.1
      have e2 : (i 0).val < b + 1 := this.2
      omega
    · intro h a
      match a with
      | ⟨0, _⟩ => exact ⟨by show b ≤ (i 0).val; omega, by show (i 0).val < b + 1; omega⟩
      | ⟨1, _⟩ => exact ⟨Nat.zero_le _, by show (i 1).val < 0 + 1536; omega⟩
      | ⟨2, _⟩ => exact ⟨Nat.zero_le _, by show (i 2).val < 0 + 2048; omega⟩
  rw [Finset.mem_sdiff, key, key]
  simp only [Finset.mem_univ, true_and]
  omega

theorem tiles_split (c : Dev nD) (g : S2x1536x2048.Idx → Elt F .f32) :
    iprop((((c : Thread nD τ).loc cc0_scratch1) ↦[Finset.univ]{fullShare} g) ∗ semVal ((c : Thread nD τ), SemLoc.dma (ws 0)) 0 ∗ semVal ((c : Thread nD τ), SemLoc.dma (ws 1)) 0)
      ⊢ (iprop(Idle 0 c ∗ Idle 1 c) : sProp 𝕄) := by
  unfold Idle
  iintro ⟨H, H0, H1⟩
  ihave H := (pointsTo_split_subset (Finset.subset_univ (slot 0))).1 $$ H
  icases H with ⟨HA, HB⟩
  isplitl [HA H0]
  · isplitl [HA]
    · iexists g; iexact HA
    iexact H0
  isplitl [HB]
  · iexists g
    ihave HB := (Entails.of_eq (congrArg (fun S => ((((c : Thread nD τ).loc cc0_scratch1) ↦[S]{fullShare} g) : sProp 𝕄)) slot_cover)) $$ HB
    iexact HB
  iexact H1

theorem tiles_join (c : Dev nD) : (iprop(Idle (F := F) 0 c ∗ Idle 1 c) : sProp 𝕄)
    ⊢ iprop((∃ g : S2x1536x2048.Idx → Elt F .f32, ((c : Thread nD τ).loc cc0_scratch1) ↦[Finset.univ]{fullShare} g) ∗ semVal ((c : Thread nD τ), SemLoc.dma (ws 0)) 0 ∗ semVal ((c : Thread nD τ), SemLoc.dma (ws 1)) 0) := by
  unfold Idle
  rw [show slot (1 : Fin 2).val = Finset.univ \ slot 0 from slot_cover.symm]
  iintro ⟨⟨⟨%g, HA⟩, H0⟩, ⟨%g', HB⟩, H1⟩
  isplitl [HA HB]
  · ihave H := (pointsTo_join_subset (ℓ := (c : Thread nD τ).loc cc0_scratch1) (q := fullShare) (Finset.subset_univ (slot 0))) $$ [HA HB]
    · isplitl [HA]
      · iexact HA
      iexact HB
    iexists _; iexact H
  isplitl [H0]
  · iexact H0
  iexact H1

/-! ## What the barrier signals hand over -/

theorem grant_src (c : Dev nD) (s : Slot) : nbr (grant s) c = src s c := by
  have h : ∀ (c : Dev nD) (s : Slot), nbr (grant s) c = src s c := by decide +kernel
  exact h c s

/-- The landing boxes on device `c` are what it hands its neighbours with the barrier signals. -/
theorem give (c : Dev nD) : (bigSep Finset.univ fun s : Slot => piece (F := F) s (src s c) : sProp 𝕄)
    = bigSep Finset.univ fun d : D => (gRd pf).payload (kcell (nbr d c, .inl false)) 0 d := by
  rw [bigSep_congr (Φ := fun d : D => (gRd pf).payload (kcell (nbr d c, .inl false)) 0 d)
    (Ψ := fun d : D => bigSep (Finset.univ.filter fun s : Slot => grant s = d) fun s => piece (F := F) s (src s c)) (fun d _ => by
      refine (payload_bar pf (nbr d c) 0 d).trans ?_
      unfold barPay
      exact bigSep_congr fun s hs => by rw [← grant_src, (Finset.mem_filter.mp hs).2])]
  rw [← bigSep_biUnion_eq Finset.univ (fun d => Finset.univ.filter fun s : Slot => grant s = d) (fun s => piece (F := F) s (src s c))
    (fun d _ d' _ hne => Finset.disjoint_filter.mpr fun s _ h h' => hne (h.symm.trans h'))]
  congr 1
  ext s; simp

end Cert.Gather

end
-- ==== Proof.Drain.lean ====
module

public import proofs.«01_k».proof.Proof.Relay

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The exchange, part by part: waiting for the rest -/

theorem part69 (c : Dev nD) (v5 : BitVec 32) (v8 : BitVec 32) (v16 : BitVec 32) (v2410 : BitVec 32) :
    Thru (F := F) pf K 81 85 c (k0_part69 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16 v2410) := by
  rw [k0_part69_eq_skeleton, k0_part69_skel]
  simp only [Prog.lift, Prog.bind_op, Prog.bind_ret, Prog.pure_eq_ret]
  intro R Q h
  refine step_fwd pf K 47 rfl (by decide) (Fin.ext ((by decide +kernel : ∀ d : Dev nD, k0_dev53 d = (dst 47 d).val) c)) (sem_send 47 _) (sem_recv 47 _) (off26_eq c 3 3) rfl ?_
  refine step_sent pf K 32 rfl (sem_send 32 _) rfl ?_
  refine step_recv pf K 32 rfl (by decide) (sem_recv 32 _) rfl ?_
  refine step_sent pf K 33 rfl (sem_send 33 _) rfl ?_
  exact done (h _)

theorem part70 (c : Dev nD) (v5 : BitVec 32) (v8 : BitVec 32) (v16 : BitVec 32) :
    Thru (F := F) pf K 85 91 c (k0_part70 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16) := by
  rw [k0_part70_eq_skeleton, k0_part70_skel]
  simp only [Prog.lift, Prog.bind_op, Prog.bind_ret, Prog.pure_eq_ret]
  intro R Q h
  refine step_recv pf K 33 rfl (by decide) (sem_recv 33 _) rfl ?_
  refine step_sent pf K 34 rfl (sem_send 34 _) rfl ?_
  refine step_recv pf K 34 rfl (by decide) (sem_recv 34 _) rfl ?_
  refine step_sent pf K 35 rfl (sem_send 35 _) rfl ?_
  refine step_recv pf K 35 rfl (by decide) (sem_recv 35 _) rfl ?_
  refine step_sent pf K 36 rfl (sem_send 36 _) rfl ?_
  exact done (h _)

theorem part71 (c : Dev nD) (v5 : BitVec 32) (v8 : BitVec 32) (v16 : BitVec 32) :
    Thru (F := F) pf K 91 95 c (k0_part71 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16) := by
  rw [k0_part71_eq_skeleton, k0_part71_skel]
  simp only [Prog.lift, Prog.bind_op, Prog.bind_ret, Prog.pure_eq_ret]
  intro R Q h
  refine step_recv pf K 36 rfl (by decide) (sem_recv 36 _) rfl ?_
  refine step_sent pf K 37 rfl (sem_send 37 _) rfl ?_
  refine step_recv pf K 37 rfl (by decide) (sem_recv 37 _) rfl ?_
  refine step_sent pf K 38 rfl (sem_send 38 _) rfl ?_
  exact done (h _)

theorem part72 (c : Dev nD) (v5 : BitVec 32) (v8 : BitVec 32) (v16 : BitVec 32) (v2510 : BitVec 32) (c1_i32_1540 : BitVec 32) :
    Thru (F := F) pf K 95 100 c (k0_part72 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16 v2510 c1_i32_1540) := by
  rw [k0_part72_eq_skeleton, k0_part72_skel]
  simp only [Prog.lift, Prog.bind_op, Prog.bind_ret, Prog.pure_eq_ret]
  intro R Q h
  refine step_recv pf K 38 rfl (by decide) (sem_recv 38 _) rfl ?_
  refine step_sent pf K 39 rfl (sem_send 39 _) rfl ?_
  refine step_recv pf K 39 rfl (by decide) (sem_recv 39 _) rfl ?_
  refine step_sent pf K 40 rfl (sem_send 40 _) rfl ?_
  refine step_recv pf K 40 rfl (by decide) (sem_recv 40 _) rfl ?_
  exact done (h _)

theorem part73 (c : Dev nD) (v5 : BitVec 32) (v8 : BitVec 32) (v16 : BitVec 32) :
    Thru (F := F) pf K 100 105 c (k0_part73 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16) := by
  rw [k0_part73_eq_skeleton, k0_part73_skel]
  simp only [Prog.lift, Prog.bind_op, Prog.bind_ret, Prog.pure_eq_ret]
  intro R Q h
  refine step_sent pf K 41 rfl (sem_send 41 _) rfl ?_
  refine step_recv pf K 41 rfl (by decide) (sem_recv 41 _) rfl ?_
  refine step_sent pf K 42 rfl (sem_send 42 _) rfl ?_
  refine step_recv pf K 42 rfl (by decide) (sem_recv 42 _) rfl ?_
  refine step_sent pf K 43 rfl (sem_send 43 _) rfl ?_
  exact done (h _)

theorem part74 (c : Dev nD) (v5 : BitVec 32) (v8 : BitVec 32) (v16 : BitVec 32) (v2577 : BitVec 32) (c0_i32_1583 : BitVec 32) :
    Thru (F := F) pf K 105 109 c (k0_part74 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v5 v8 v16 v2577 c0_i32_1583) := by
  rw [k0_part74_eq_skeleton, k0_part74_skel]
  simp only [Prog.lift, Prog.bind_op, Prog.bind_ret, Prog.pure_eq_ret]
  intro R Q h
  refine step_recv pf K 43 rfl (by decide) (sem_recv 43 _) rfl ?_
  refine step_sent pf K 44 rfl (sem_send 44 _) rfl ?_
  refine step_recv pf K 44 rfl (by decide) (sem_recv 44 _) rfl ?_
  refine step_sent pf K 45 rfl (sem_send 45 _) rfl ?_
  exact done (h _)

theorem part76 (c : Dev nD)  :
    Thru (F := F) pf K 114 121 c (k0_part76 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c) := by
  rw [k0_part76_eq_skeleton, k0_part76_skel]
  simp only [Prog.lift, Prog.bind_op, Prog.bind_ret, Prog.pure_eq_ret]
  intro R Q h
  refine step_sent pf K 2 rfl (sem_send 2 _) rfl ?_
  refine step_sent pf K 3 rfl (sem_send 3 _) rfl ?_
  refine step_sent pf K 4 rfl (sem_send 4 _) rfl ?_
  refine step_sent pf K 5 rfl (sem_send 5 _) rfl ?_
  refine step_sent pf K 6 rfl (sem_send 6 _) rfl ?_
  refine step_sent pf K 7 rfl (sem_send 7 _) rfl ?_
  refine step_sent pf K 8 rfl (sem_send 8 _) rfl ?_
  exact done (h _)

theorem part77 (c : Dev nD)  :
    Thru (F := F) pf K 121 129 c (k0_part77 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c) := by
  rw [k0_part77_eq_skeleton, k0_part77_skel]
  simp only [Prog.lift, Prog.bind_op, Prog.bind_ret, Prog.pure_eq_ret]
  intro R Q h
  refine step_sent pf K 20 rfl (sem_send 20 _) rfl ?_
  refine step_sent pf K 9 rfl (sem_send 9 _) rfl ?_
  refine step_sent pf K 21 rfl (sem_send 21 _) rfl ?_
  refine step_sent pf K 10 rfl (sem_send 10 _) rfl ?_
  refine step_sent pf K 22 rfl (sem_send 22 _) rfl ?_
  refine step_sent pf K 11 rfl (sem_send 11 _) rfl ?_
  refine step_sent pf K 23 rfl (sem_send 23 _) rfl ?_
  refine step_sent pf K 12 rfl (sem_send 12 _) rfl ?_
  exact done (h _)

theorem part78 (c : Dev nD)  :
    Thru (F := F) pf K 129 136 c (k0_part78 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c) := by
  rw [k0_part78_eq_skeleton, k0_part78_skel]
  simp only [Prog.lift, Prog.bind_op, Prog.bind_ret, Prog.pure_eq_ret]
  intro R Q h
  refine step_sent pf K 24 rfl (sem_send 24 _) rfl ?_
  refine step_sent pf K 13 rfl (sem_send 13 _) rfl ?_
  refine step_sent pf K 25 rfl (sem_send 25 _) rfl ?_
  refine step_sent pf K 14 rfl (sem_send 14 _) rfl ?_
  refine step_sent pf K 26 rfl (sem_send 26 _) rfl ?_
  refine step_sent pf K 15 rfl (sem_send 15 _) rfl ?_
  refine step_sent pf K 27 rfl (sem_send 27 _) rfl ?_
  exact done (h _)

theorem part79 (c : Dev nD)  :
    Thru (F := F) pf K 136 144 c (k0_part79 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c) := by
  rw [k0_part79_eq_skeleton, k0_part79_skel]
  simp only [Prog.lift, Prog.bind_op, Prog.bind_ret, Prog.pure_eq_ret]
  intro R Q h
  refine step_sent pf K 16 rfl (sem_send 16 _) rfl ?_
  refine step_sent pf K 28 rfl (sem_send 28 _) rfl ?_
  refine step_sent pf K 17 rfl (sem_send 17 _) rfl ?_
  refine step_sent pf K 29 rfl (sem_send 29 _) rfl ?_
  refine step_sent pf K 18 rfl (sem_send 18 _) rfl ?_
  refine step_sent pf K 30 rfl (sem_send 30 _) rfl ?_
  refine step_sent pf K 19 rfl (sem_send 19 _) rfl ?_
  refine step_sent pf K 31 rfl (sem_send 31 _) rfl ?_
  exact done (h _)

end Cert.Gather

end
-- ==== Proof.Relay2.lean ====
module

public import proofs.«01_k».proof.Proof.Relay

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

/-! # The exchange, part by part: the last forwarding -/

theorem part60 (c : Dev nD) (v2 : BitVec 32) (v5 : BitVec 32) (v8 : BitVec 32) (v16 : BitVec 32) (v38 : BitVec 32) (v2078 : BitVec 32) (v2079 : BitVec 32) :
    Thru (F := F) pf K 51 54 c (k0_part60 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v38 v2078 v2079) := by
  rw [k0_part60_eq_skeleton, k0_part60_skel]
  simp only [Prog.lift, Prog.bind_op, Prog.bind_ret, Prog.pure_eq_ret]
  intro R Q h
  refine step_fwd pf K 34 rfl (by decide) (Fin.ext ((by decide +kernel : ∀ d : Dev nD, k0_dev37 d = (dst 34 d).val) c)) (sem_send 34 _) (sem_recv 34 _) (off26_eq c 0 2) rfl ?_
  refine step_recv pf K 13 rfl (by decide) (sem_recv 13 _) rfl ?_
  refine step_fwd pf K 17 rfl (by decide) (Fin.ext ((by decide +kernel : ∀ d : Dev nD, k0_dev38 d = (dst 17 d).val) c)) (sem_send 17 _) (sem_recv 17 _) (off20_eq c 2 1) rfl ?_
  exact done (h _)

theorem part61 (c : Dev nD) (v2 : BitVec 32) (v5 : BitVec 32) (v8 : BitVec 32) (v16 : BitVec 32) (v27 : BitVec 32) :
    Thru (F := F) pf K 54 58 c (k0_part61 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27) := by
  rw [k0_part61_eq_skeleton, k0_part61_skel]
  simp only [Prog.lift, Prog.bind_op, Prog.bind_ret, Prog.pure_eq_ret]
  intro R Q h
  refine step_fwd pf K 41 rfl (by decide) (Fin.ext ((by decide +kernel : ∀ d : Dev nD, k0_dev39 d = (dst 41 d).val) c)) (sem_send 41 _) (sem_recv 41 _) (off26_eq c 2 1) rfl ?_
  refine step_recv pf K 25 rfl (by decide) (sem_recv 25 _) rfl ?_
  refine step_fwd pf K 29 rfl (by decide) (Fin.ext ((by decide +kernel : ∀ d : Dev nD, k0_dev40 d = (dst 29 d).val) c)) (sem_send 29 _) (sem_recv 29 _) (off24_eq c 1 2) rfl ?_
  refine step_fwd pf K 38 rfl (by decide) (Fin.ext ((by decide +kernel : ∀ d : Dev nD, k0_dev41 d = (dst 38 d).val) c)) (sem_send 38 _) (sem_recv 38 _) (off26_eq c 1 2) rfl ?_
  exact done (h _)

theorem part62 (c : Dev nD) (v2 : BitVec 32) (v5 : BitVec 32) (v8 : BitVec 32) (v27 : BitVec 32) (v38 : BitVec 32) :
    Thru (F := F) pf K 58 61 c (k0_part62 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38) := by
  rw [k0_part62_eq_skeleton, k0_part62_skel]
  simp only [Prog.lift, Prog.bind_op, Prog.bind_ret, Prog.pure_eq_ret]
  intro R Q h
  refine step_recv pf K 14 rfl (by decide) (sem_recv 14 _) rfl ?_
  refine step_fwd pf K 18 rfl (by decide) (Fin.ext ((by decide +kernel : ∀ d : Dev nD, k0_dev42 d = (dst 18 d).val) c)) (sem_send 18 _) (sem_recv 18 _) (off20_eq c 2 2) rfl ?_
  refine step_recv pf K 26 rfl (by decide) (sem_recv 26 _) rfl ?_
  exact done (h _)

theorem part63 (c : Dev nD) (v2 : BitVec 32) (v5 : BitVec 32) (v8 : BitVec 32) (v16 : BitVec 32) (v27 : BitVec 32) (v38 : BitVec 32) (v2190 : BitVec 32) :
    Thru (F := F) pf K 61 64 c (k0_part63 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38 v2190) := by
  rw [k0_part63_eq_skeleton, k0_part63_skel]
  simp only [Prog.lift, Prog.bind_op, Prog.bind_ret, Prog.pure_eq_ret]
  intro R Q h
  refine step_fwd pf K 30 rfl (by decide) (Fin.ext ((by decide +kernel : ∀ d : Dev nD, k0_dev43 d = (dst 30 d).val) c)) (sem_send 30 _) (sem_recv 30 _) (off24_eq c 2 2) rfl ?_
  refine step_fwd pf K 42 rfl (by decide) (Fin.ext ((by decide +kernel : ∀ d : Dev nD, k0_dev44 d = (dst 42 d).val) c)) (sem_send 42 _) (sem_recv 42 _) (off26_eq c 2 2) rfl ?_
  refine step_recv pf K 15 rfl (by decide) (sem_recv 15 _) rfl ?_
  exact done (h _)

theorem part64 (c : Dev nD) (v2 : BitVec 32) (v5 : BitVec 32) (v8 : BitVec 32) (v27 : BitVec 32) (v38 : BitVec 32) :
    Thru (F := F) pf K 64 68 c (k0_part64 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v27 v38) := by
  rw [k0_part64_eq_skeleton, k0_part64_skel]
  simp only [Prog.lift, Prog.bind_op, Prog.bind_ret, Prog.pure_eq_ret]
  intro R Q h
  refine step_fwd pf K 19 rfl (by decide) (Fin.ext ((by decide +kernel : ∀ d : Dev nD, k0_dev45 d = (dst 19 d).val) c)) (sem_send 19 _) (sem_recv 19 _) (off20_eq c 2 3) rfl ?_
  refine step_recv pf K 27 rfl (by decide) (sem_recv 27 _) rfl ?_
  refine step_fwd pf K 31 rfl (by decide) (Fin.ext ((by decide +kernel : ∀ d : Dev nD, k0_dev46 d = (dst 31 d).val) c)) (sem_send 31 _) (sem_recv 31 _) (off24_eq c 3 2) rfl ?_
  refine step_recv pf K 16 rfl (by decide) (sem_recv 16 _) rfl ?_
  exact done (h _)

theorem part65 (c : Dev nD) (v2 : BitVec 32) (v5 : BitVec 32) (v8 : BitVec 32) (v16 : BitVec 32) (v27 : BitVec 32) :
    Thru (F := F) pf K 68 71 c (k0_part65 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27) := by
  rw [k0_part65_eq_skeleton, k0_part65_skel]
  simp only [Prog.lift, Prog.bind_op, Prog.bind_ret, Prog.pure_eq_ret]
  intro R Q h
  refine step_fwd pf K 44 rfl (by decide) (Fin.ext ((by decide +kernel : ∀ d : Dev nD, k0_dev47 d = (dst 44 d).val) c)) (sem_send 44 _) (sem_recv 44 _) (off26_eq c 3 0) rfl ?_
  refine step_recv pf K 28 rfl (by decide) (sem_recv 28 _) rfl ?_
  refine step_fwd pf K 35 rfl (by decide) (Fin.ext ((by decide +kernel : ∀ d : Dev nD, k0_dev48 d = (dst 35 d).val) c)) (sem_send 35 _) (sem_recv 35 _) (off26_eq c 0 3) rfl ?_
  exact done (h _)

theorem part66 (c : Dev nD) (v2 : BitVec 32) (v5 : BitVec 32) (v8 : BitVec 32) (v16 : BitVec 32) (v27 : BitVec 32) (v38 : BitVec 32) (v2300 : BitVec 32) (c4_i32_1419 : BitVec 32) :
    Thru (F := F) pf K 71 74 c (k0_part66 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38 v2300 c4_i32_1419) := by
  rw [k0_part66_eq_skeleton, k0_part66_skel]
  simp only [Prog.lift, Prog.bind_op, Prog.bind_ret, Prog.pure_eq_ret]
  intro R Q h
  refine step_recv pf K 17 rfl (by decide) (sem_recv 17 _) rfl ?_
  refine step_fwd pf K 45 rfl (by decide) (Fin.ext ((by decide +kernel : ∀ d : Dev nD, k0_dev49 d = (dst 45 d).val) c)) (sem_send 45 _) (sem_recv 45 _) (off26_eq c 3 1) rfl ?_
  refine step_recv pf K 29 rfl (by decide) (sem_recv 29 _) rfl ?_
  exact done (h _)

theorem part67 (c : Dev nD) (v2 : BitVec 32) (v5 : BitVec 32) (v8 : BitVec 32) (v16 : BitVec 32) (v27 : BitVec 32) (v38 : BitVec 32) :
    Thru (F := F) pf K 74 78 c (k0_part67 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38) := by
  rw [k0_part67_eq_skeleton, k0_part67_skel]
  simp only [Prog.lift, Prog.bind_op, Prog.bind_ret, Prog.pure_eq_ret]
  intro R Q h
  refine step_fwd pf K 39 rfl (by decide) (Fin.ext ((by decide +kernel : ∀ d : Dev nD, k0_dev50 d = (dst 39 d).val) c)) (sem_send 39 _) (sem_recv 39 _) (off26_eq c 1 3) rfl ?_
  refine step_recv pf K 18 rfl (by decide) (sem_recv 18 _) rfl ?_
  refine step_fwd pf K 46 rfl (by decide) (Fin.ext ((by decide +kernel : ∀ d : Dev nD, k0_dev51 d = (dst 46 d).val) c)) (sem_send 46 _) (sem_recv 46 _) (off26_eq c 3 2) rfl ?_
  refine step_recv pf K 30 rfl (by decide) (sem_recv 30 _) rfl ?_
  exact done (h _)

theorem part68 (c : Dev nD) (v2 : BitVec 32) (v5 : BitVec 32) (v8 : BitVec 32) (v16 : BitVec 32) (v27 : BitVec 32) (v38 : BitVec 32) :
    Thru (F := F) pf K 78 81 c (k0_part68 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 c v2 v5 v8 v16 v27 v38) := by
  rw [k0_part68_eq_skeleton, k0_part68_skel]
  simp only [Prog.lift, Prog.bind_op, Prog.bind_ret, Prog.pure_eq_ret]
  intro R Q h
  refine step_fwd pf K 43 rfl (by decide) (Fin.ext ((by decide +kernel : ∀ d : Dev nD, k0_dev52 d = (dst 43 d).val) c)) (sem_send 43 _) (sem_recv 43 _) (off26_eq c 2 3) rfl ?_
  refine step_recv pf K 19 rfl (by decide) (sem_recv 19 _) rfl ?_
  refine step_recv pf K 31 rfl (by decide) (sem_recv 31 _) rfl ?_
  exact done (h _)

end Cert.Gather

end
-- ==== Proof.Body.lean ====
module

public import proofs.«01_k».proof.Proof.Cover
public import proofs.«01_k».proof.Proof.Drain
public import proofs.«01_k».proof.Proof.Relay2
public import proofs.«01_k».proof.Proof.Sums

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pf : Dev nD → SmallC F) (K : Dev nD × CellK → ℕ)

variable (dym wm : Dev nD → DyB F) {c : Dev nD}

/-! # The whole body on one device -/

theorem ent {P P' X : sProp 𝕄} (h : P ⊢ P') (h' : P' ⊢ X) : P ⊢ X := h.trans h'

/-- What runs the first part of a program and then the rest of it runs the program. -/
theorem bindT {α β : Type} {p : Prog (TpuEff nD τ sig (Elt F) Λ₀ .tc) α} {k : α → Prog (TpuEff nD τ sig (Elt F) Λ₀ .tc) β} {Q : β → sProp 𝕄} {P : sProp 𝕄}
    (h : P ⊢ WP c p fun a => WP c (k a) Q) : P ⊢ WP c (p >>= k) Q := by
  unfold WP at *; rw [wp_bind]; exact h

theorem thruB {α β : Type} {n m : ℕ} {p : Prog (TpuEff nD τ sig (Elt F) Λ₀ .tc) α} {k : α → Prog (TpuEff nD τ sig (Elt F) Λ₀ .tc) β} {Q : β → sProp 𝕄} {R : sProp 𝕄}
    (hT : Thru pf K n m c p) (h : ∀ a, iprop(Recs pf K ∗ St pf m c ∗ R) ⊢ WP c (k a) Q) : iprop(Recs pf K ∗ St pf n c ∗ R) ⊢ WP c (p >>= k) Q :=
  bindT (hT R _ h)

/-- A part that only computes. -/
theorem pureB {α β : Type} {p : Prog (TpuEff nD τ sig (Elt F) Λ₀ .tc) α} {k : α → Prog (TpuEff nD τ sig (Elt F) Λ₀ .tc) β} {Q : β → sProp 𝕄} {P : sProp 𝕄}
    (hp : ∃ v, p = Prog.ret v) (h : ∀ a, P ⊢ WP c (k a) Q) : P ⊢ WP c (p >>= k) Q := by
  obtain ⟨v, rfl⟩ := hp; exact bindT (done (h v))

/-- The first part asks which device this is, and computes. -/
theorem part1 {Q : _ → sProp 𝕄} {P : sProp 𝕄}
    (h : ∀ a1 a2 a3 a4 a5 a6 a7 a8 a9 a10 a11 a12 a13 a14, P ⊢ Q ⟨c, a1, a2, a3, a4, a5, a6, a7, a8, a9, a10, a11, a12, a13, a14⟩) :
    P ⊢ WP c (k0_part1 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0) Q := by
  rw [k0_part1_eq_skeleton, k0_part1_skel]
  simp only [Prog.lift, Prog.bind_op, Prog.bind_ret, Prog.pure_eq_ret]
  unfold WP
  rw [wp_deviceId]
  exact done (h _ _ _ _ _ _ _ _ _ _ _ _ _ _)

/-- What the exchange leaves: its semaphores at zero, the sources back, the arrivals kept. -/
def StEnd (c : Dev nD) : sProp 𝕄 :=
  iprop(bigSep Finset.univ (Se c) ∗ bigSep Finset.univ (Sf pf c) ∗ bigSep (Finset.univ.filter fun s : Slot => 2 ≤ s.val) (Sg pf c))

theorem St_end (c : Dev nD) : St pf 144 c ⊢ iprop((∃ W, owes (c : Thread nD τ) (Ow 144 c + Ox 0 c) W) ∗ StEnd pf c) := by
  have h1 : ∀ s : Slot, tRecv s < 144 ∧ tSent s < 144 := by decide +kernel
  unfold St StA StB StEnd
  rw [show (Finset.univ.filter fun s : Slot => tRecv s < 144) = Finset.univ from Finset.filter_true_of_mem fun s _ => (h1 s).1,
    show (Finset.univ.filter fun s : Slot => tSent s < 144) = Finset.univ from Finset.filter_true_of_mem fun s _ => (h1 s).2,
    show (Finset.univ.filter fun s : Slot => 2 ≤ s.val ∧ tRecv s < 144) = Finset.univ.filter fun s : Slot => 2 ≤ s.val from
      Finset.filter_congr fun s _ => and_iff_left (h1 s).1]
  iintro ⟨⟨HO, -, -, -, -, He, Hf⟩, ⟨Hg, -⟩⟩
  isplitl [HO]
  · iexact HO
  isplitl [He]
  · iexact He
  isplitl [Hf]
  · iexact Hf
  iexact Hg

set_option maxHeartbeats 4000000 in
/-- The first sixty parts: the barrier, the partial product, the two sums and the start of the exchange. -/
theorem part81 {R : sProp 𝕄} {Q : _ → sProp 𝕄}
    (h : ∀ a1 a2 a3 a4 a5 a6 a7 a8, iprop(Recs (pfOf dym wm) K ∗ St (pfOf dym wm) 54 c ∗ ((srcRes (pfOf dym wm) 32 c -∗ iprop(smO (pfOf dym wm) qF 0 c ∗ smO (pfOf dym wm) qF 1 c)) ∗ outO 0 c (OUT (pfOf dym wm) c) ∗ smO (pfOf dym wm) qG 0 c ∗ FlightC (pfOf dym wm) 1 c) ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ R) ⊢ Q ⟨c, a1, a2, a3, a4, a5, a6, a7, a8⟩) :
    iprop(Recs (pfOf dym wm) K ∗ SigSt (pfOf dym wm) false (Ow 0 c + Ox 0 c) 0 c ∗ (BarW false c ∗ Rest0 c ∗ Dw dym c ∗ (∃ g : S256x8192.Idx → Elt F .f32, ((c : Thread nD τ).loc cc0_scratch0 ↦[Finset.univ]{fullShare} g)) ∗ semVal ((c : Thread nD τ), SemLoc.dma dS) 0) ∗ Ww wm c ∗ Idle 0 c ∗ Idle 1 c ∗ PFany (F := F) (pcol 0 c) 1408 c ∗ PFany (F := F) (pcol 1 c) 1536 c ∗ PFany (F := F) (pcol 2 c) 1152 c ∗ semVal ((c : Thread nD τ), SemLoc.dma cpS) 0 ∗ (∃ f, outO 0 c f) ∗ (∃ f, outO 1 c f) ∗ smRest Finset.univ c ∗ R) ⊢ WP c (k0_part81 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0) Q := by
  rw [k0_part81_eq_skeleton, k0_part81_skel]
  refine bindT (part1 ?_)
  intro _ _ _ _ _ _ _ _ _ _ _ _ _ _
  refine bindT (part2 K dym wm _ _ _ _ _ _ _ _ ?_)
  intro _ _ _ _ _
  refine bindT (part3 K dym wm _ _ _ _ _ _ _ _ _ _ _ ?_)
  intro _
  refine ent (P' := iprop(Recs (pfOf dym wm) K ∗ St (pfOf dym wm) 0 c ∗ (DyFill dym c ∗ Ww wm c ∗ Idle 0 c ∗ Idle 1 c ∗ PFany (F := F) (pcol 0 c) 1408 c) ∗ semVal (barC c) 0 ∗ PFany (F := F) (pcol 1 c) 1536 c ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hfill, Hbarv⟩, Hww, Hi0, Hi1, HanyA, HanyB, HanyC, Hcps, Hoe0, Hoe1, HsmU, HREST⟩
    isplitr
    · iexact HR
    isplitl [HS]
    · iexact HS
    isplitl [Hfill Hww Hi0 Hi1 HanyA]
    · isplitl [Hfill]
      · iexact Hfill
      isplitl [Hww]
      · iexact Hww
      isplitl [Hi0]
      · iexact Hi0
      isplitl [Hi1]
      · iexact Hi1
      iexact HanyA
    isplitl [Hbarv]
    · iexact Hbarv
    isplitl [HanyB]
    · iexact HanyB
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part4 K dym wm _ ?_)
  intro _
  refine ent (P' := iprop(Recs (pfOf dym wm) K ∗ St (pfOf dym wm) 0 c ∗ (DyQ dym c ∗ Ww wm c ∗ Idle 0 c ∗ Got 1 (wT wm (k0_off3 c) 1408 (k0_off3_inb c) c) c ∗ PF (pcol 0 c) 1408 (accA0 dym wm c) c) ∗ Dw dym c ∗ semVal ((c : Thread nD τ), SemLoc.dma dS) 0 ∗ semVal (barC c) 0 ∗ PFany (F := F) (pcol 1 c) 1536 c ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hdq, Hdw, Hds, Hww, Hi0, Hgot3, HA0⟩, Hbarv, HanyB, HanyC, Hcps, Hoe0, Hoe1, HsmU, HREST⟩
    isplitr
    · iexact HR
    isplitl [HS]
    · iexact HS
    isplitl [Hdq Hww Hi0 Hgot3 HA0]
    · isplitl [Hdq]
      · iexact Hdq
      isplitl [Hww]
      · iexact Hww
      isplitl [Hi0]
      · iexact Hi0
      isplitl [Hgot3]
      · iexact Hgot3
      iexact HA0
    isplitl [Hdw]
    · iexact Hdw
    isplitl [Hds]
    · iexact Hds
    isplitl [Hbarv]
    · iexact Hbarv
    isplitl [HanyB]
    · iexact HanyB
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part5 K dym wm _ ?_)
  refine ent (P' := iprop(Recs (pfOf dym wm) K ∗ St (pfOf dym wm) 0 c ∗ (DyQ dym c ∗ Idle 0 c ∗ Filling wm 1 (k0_off6 c) 1408 (k0_off6_inb c) c ∗ PF (pcol 0 c) 1408 (accA1 dym wm c) c) ∗ Dw dym c ∗ semVal ((c : Thread nD τ), SemLoc.dma dS) 0 ∗ semVal (barC c) 0 ∗ PFany (F := F) (pcol 1 c) 1536 c ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hdq, Hi0, Hfil6, HA1⟩, Hdw, Hds, Hbarv, HanyB, HanyC, Hcps, Hoe0, Hoe1, HsmU, HREST⟩
    isplitr
    · iexact HR
    isplitl [HS]
    · iexact HS
    isplitl [Hdq Hi0 Hfil6 HA1]
    · isplitl [Hdq]
      · iexact Hdq
      isplitl [Hi0]
      · iexact Hi0
      isplitl [Hfil6]
      · iexact Hfil6
      iexact HA1
    isplitl [Hdw]
    · iexact Hdw
    isplitl [Hds]
    · iexact Hds
    isplitl [Hbarv]
    · iexact Hbarv
    isplitl [HanyB]
    · iexact HanyB
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part6 K dym wm _ _ _ ?_)
  rintro ⟨_, _⟩
  refine ent (P' := iprop(Recs (pfOf dym wm) K ∗ St (pfOf dym wm) 0 c ∗ (DyQ dym c ∗ Filling wm 0 (k0_off7 c) 1536 (k0_off7_inb c) c ∗ Idle 1 c ∗ PF (pcol 0 c) 1408 (accA3 dym wm c) c ∗ PFany (F := F) (pcol 1 c) 1536 c) ∗ Dw dym c ∗ semVal ((c : Thread nD τ), SemLoc.dma dS) 0 ∗ semVal (barC c) 0 ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hdq, Hfil7, Hi1, HA3⟩, Hdw, Hds, Hbarv, HanyB, HanyC, Hcps, Hoe0, Hoe1, HsmU, HREST⟩
    isplitr
    · iexact HR
    isplitl [HS]
    · iexact HS
    isplitl [Hdq Hfil7 Hi1 HA3 HanyB]
    · isplitl [Hdq]
      · iexact Hdq
      isplitl [Hfil7]
      · iexact Hfil7
      isplitl [Hi1]
      · iexact Hi1
      isplitl [HA3]
      · iexact HA3
      iexact HanyB
    isplitl [Hdw]
    · iexact Hdw
    isplitl [Hds]
    · iexact Hds
    isplitl [Hbarv]
    · iexact Hbarv
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part7 K dym wm _ _ _ _ ?_)
  intro _
  refine ent (P' := iprop(Recs (pfOf dym wm) K ∗ St (pfOf dym wm) 1 c ∗ (DyQ dym c ∗ Idle 0 c ∗ Filling wm 1 (k0_off9 c) 1536 (k0_off9_inb c) c ∗ PF (pcol 1 c) 1536 (accB0 dym wm c) c) ∗ PR dym wm 0 1408 c ∗ Dw dym c ∗ semVal ((c : Thread nD τ), SemLoc.dma dS) 0 ∗ semVal (barC c) 0 ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hdq, Hi0, Hfil9, Hpr0, HB0⟩, Hdw, Hds, Hbarv, HanyC, Hcps, Hoe0, Hoe1, HsmU, HREST⟩
    isplitr
    · iexact HR
    isplitl [HS]
    · iexact HS
    isplitl [Hdq Hi0 Hfil9 HB0]
    · isplitl [Hdq]
      · iexact Hdq
      isplitl [Hi0]
      · iexact Hi0
      isplitl [Hfil9]
      · iexact Hfil9
      iexact HB0
    isplitl [Hpr0]
    · iexact Hpr0
    isplitl [Hdw]
    · iexact Hdw
    isplitl [Hds]
    · iexact Hds
    isplitl [Hbarv]
    · iexact Hbarv
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part8 K dym wm _ ?_)
  refine ent (P' := iprop(Recs (pfOf dym wm) K ∗ St (pfOf dym wm) 1 c ∗ (DyQ dym c ∗ Got 0 (wT wm (k0_off11 c) 1536 (k0_off11_inb c) c) c ∗ Filling wm 1 (k0_off12 c) 1536 (k0_off12_inb c) c ∗ PF (pcol 1 c) 1536 (accB1 dym wm c) c) ∗ PR dym wm 0 1408 c ∗ Dw dym c ∗ semVal ((c : Thread nD τ), SemLoc.dma dS) 0 ∗ semVal (barC c) 0 ∗ PFany (F := F) (pcol 2 c) 1152 c ∗ semVal ((c : Thread nD τ), SemLoc.dma cpS) 0 ∗ (∃ f, outO 0 c f) ∗ (∃ f, outO 1 c f) ∗ smRest Finset.univ c ∗ R)) (by
    iintro ⟨#HR, HS, ⟨Hdq, Hgot11, Hfil12, HB1⟩, Hpr0, Hdw, Hds, Hbarv, HanyC, Hcps, Hoe0, Hoe1, HsmU, HREST⟩
    isplitr
    · iexact HR
    isplitl [HS]
    · iexact HS
    isplitl [Hdq Hgot11 Hfil12 HB1]
    · isplitl [Hdq]
      · iexact Hdq
      isplitl [Hgot11]
      · iexact Hgot11
      isplitl [Hfil12]
      · iexact Hfil12
      iexact HB1
    isplitl [Hpr0]
    · iexact Hpr0
    isplitl [Hdw]
    · iexact Hdw
    isplitl [Hds]
    · iexact Hds
    isplitl [Hbarv]
    · iexact Hbarv
    isplitl [HanyC]
    · iexact HanyC
    isplitl [Hcps]
    · iexact Hcps
    isplitl [Hoe0]
    · iexact Hoe0
    isplitl [Hoe1]
    · iexact Hoe1
    isplitl [HsmU]
    · iexact HsmU
    iexact HREST) ?_
  refine bindT (part9 K dym wm _ ?_)
  intro _
  refine ent (P' := iprop(Recs (pfOf dym wm) K ∗ St (pfOf dym wm) 1 c ∗ (DyQ dym c ∗ Idle 1 c ∗ Filling wm 0 (k0_off13 c) 1152 (k0_off13_inb c) c ∗ PF (pcol 1 c) 1536 (accB3 dym wm c) c ∗ PFany (F := F) (pcol 2 c) 1152 c) ∗ PR dym wm 0 1408 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, ⟨Hdq, Hi1, Hfil13, HB3⟩, Hpr0, Hdw, Hds, Hbarv, HanyC, Hcps, Hoe0, Hoe1, HsmU, HREST⟩
    isplitr
    · iexact HR
    isplitl [HS]
    · iexact HS
    isplitl [Hdq Hi1 Hfil13 HB3 HanyC]
    · isplitl [Hdq]
      · iexact Hdq
      isplitl [Hi1]
      · iexact Hi1
      isplitl [Hfil13]
      · iexact Hfil13
      isplitl [HB3]
      · iexact HB3
      iexact HanyC
    isplitl [Hpr0]
    · iexact Hpr0
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine bindT (part10 K dym wm _ _ _ _ _ ?_)
  intro _
  refine ent (P' := iprop(Recs (pfOf dym wm) K ∗ St (pfOf dym wm) 2 c ∗ (DyQ dym c ∗ Idle 0 c ∗ Filling wm 1 (k0_off15 c) 1152 (k0_off15_inb c) c ∗ PF (pcol 2 c) 1152 (accC0 dym wm c) c) ∗ PR dym wm 1 1536 c ∗ PR dym wm 0 1408 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, ⟨Hdq, Hi0, Hfil15, Hpr1, HC0⟩, Hpr0, Hdw, Hds, Hbarv, Hcps, Hoe0, Hoe1, HsmU, HREST⟩
    isplitr
    · iexact HR
    isplitl [HS]
    · iexact HS
    isplitl [Hdq Hi0 Hfil15 HC0]
    · isplitl [Hdq]
      · iexact Hdq
      isplitl [Hi0]
      · iexact Hi0
      isplitl [Hfil15]
      · iexact Hfil15
      iexact HC0
    isplitl [Hpr1]
    · iexact Hpr1
    isplitl [Hpr0]
    · iexact Hpr0
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine bindT (part11 K dym wm _ ?_)
  intro _
  refine ent (P' := iprop(Recs (pfOf dym wm) K ∗ St (pfOf dym wm) 2 c ∗ (DyQ dym c ∗ Got 0 (wT wm (k0_off17 c) 1152 (k0_off17_inb c) c) c ∗ Filling wm 1 (k0_off18 c) 1152 (k0_off18_inb c) c ∗ PF (pcol 2 c) 1152 (accC1 dym wm c) c) ∗ PR dym wm 1 1536 c ∗ PR dym wm 0 1408 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, ⟨Hdq, Hgot17, Hfil18, HC1⟩, Hpr1, Hpr0, Hdw, Hds, Hbarv, Hcps, Hoe0, Hoe1, HsmU, HREST⟩
    isplitr
    · iexact HR
    isplitl [HS]
    · iexact HS
    isplitl [Hdq Hgot17 Hfil18 HC1]
    · isplitl [Hdq]
      · iexact Hdq
      isplitl [Hgot17]
      · iexact Hgot17
      isplitl [Hfil18]
      · iexact Hfil18
      iexact HC1
    isplitl [Hpr1]
    · iexact Hpr1
    isplitl [Hpr0]
    · iexact Hpr0
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine bindT (part12 K dym wm _ _ ?_)
  rintro ⟨_, _, _⟩
  refine pureB ⟨_, rfl⟩ ?_
  rintro ⟨_, _, _⟩
  refine pureB ⟨_, rfl⟩ ?_
  rintro ⟨_, _, _, _⟩
  refine pureB ⟨_, rfl⟩ ?_
  rintro ⟨_, _, _, _⟩
  refine pureB ⟨_, rfl⟩ ?_
  rintro ⟨_, _⟩
  refine pureB ⟨_, rfl⟩ ?_
  rintro ⟨_, _⟩
  refine pureB ⟨_, rfl⟩ ?_
  intro _
  refine pureB ⟨_, rfl⟩ ?_
  rintro ⟨_, _⟩
  refine pureB ⟨_, rfl⟩ ?_
  rintro ⟨_, _⟩
  refine pureB ⟨_, rfl⟩ ?_
  rintro ⟨_, _, _⟩
  refine pureB ⟨_, rfl⟩ ?_
  rintro ⟨_, _, _, _, _⟩
  refine pureB ⟨_, rfl⟩ ?_
  rintro ⟨_, _, _, _, _⟩
  refine pureB ⟨_, rfl⟩ ?_
  rintro ⟨_, _, _, _, _⟩
  refine pureB ⟨_, rfl⟩ ?_
  rintro ⟨_, _, _⟩
  refine pureB ⟨_, rfl⟩ ?_
  rintro ⟨_, _, _, _⟩
  refine pureB ⟨_, rfl⟩ ?_
  rintro ⟨_, _⟩
  refine pureB ⟨_, rfl⟩ ?_
  rintro ⟨_, _, _, _, _⟩
  refine pureB ⟨_, rfl⟩ ?_
  rintro ⟨_, _, _⟩
  refine pureB ⟨_, rfl⟩ ?_
  rintro ⟨_, _, _⟩
  refine pureB ⟨_, rfl⟩ ?_
  intro _
  refine pureB ⟨_, rfl⟩ ?_
  intro _
  refine pureB ⟨_, rfl⟩ ?_
  rintro ⟨_, _, _⟩
  refine pureB ⟨_, rfl⟩ ?_
  rintro ⟨_, _, _⟩
  refine pureB ⟨_, rfl⟩ ?_
  rintro ⟨_, _, _, _⟩
  refine pureB ⟨_, rfl⟩ ?_
  rintro ⟨_, _, _, _, _⟩
  refine pureB ⟨_, rfl⟩ ?_
  rintro ⟨_, _, _, _, _, _⟩
  refine pureB ⟨_, rfl⟩ ?_
  rintro ⟨_, _, _, _⟩
  refine pureB ⟨_, rfl⟩ ?_
  rintro ⟨_, _, _, _⟩
  refine pureB ⟨_, rfl⟩ ?_
  rintro ⟨_, _⟩
  refine pureB ⟨_, rfl⟩ ?_
  rintro ⟨_, _, _⟩
  refine pureB ⟨_, rfl⟩ ?_
  rintro ⟨_, _, _⟩
  refine pureB ⟨_, rfl⟩ ?_
  rintro ⟨_, _, _, _⟩
  refine ent (P' := iprop(Recs (pfOf dym wm) K ∗ St (pfOf dym wm) 2 c ∗ (PF (pcol 2 c) 1152 (accC3 dym wm c) c) ∗ DyQ dym c ∗ Ww wm c ∗ Idle 0 c ∗ Idle 1 c ∗ PR dym wm 1 1536 c ∗ PR dym wm 0 1408 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, ⟨Hdq, Hww, Hi0, Hi1, HC3⟩, Hpr1, Hpr0, Hdw, Hds, Hbarv, Hcps, Hoe0, Hoe1, HsmU, HREST⟩
    isplitr
    · iexact HR
    isplitl [HS]
    · iexact HS
    isplitl [HC3]
    · iexact HC3
    isplitl [Hdq]
    · iexact Hdq
    isplitl [Hww]
    · iexact Hww
    isplitl [Hi0]
    · iexact Hi0
    isplitl [Hi1]
    · iexact Hi1
    isplitl [Hpr1]
    · iexact Hpr1
    isplitl [Hpr0]
    · iexact Hpr0
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine ent (P' := iprop(Recs (pfOf dym wm) K ∗ St (pfOf dym wm) 2 c ∗ (pfP c fullShare.left ![0, pcol 2 c] ![256, 1152] (pfOf dym wm c) ∗ PR dym wm 2 1152 c) ∗ DyQ dym c ∗ Ww wm c ∗ Idle 0 c ∗ Idle 1 c ∗ PR dym wm 1 1536 c ∗ PR dym wm 0 1408 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, HC3, Hdq, Hww, Hi0, Hi1, Hpr1, Hpr0, Hdw, Hds, Hbarv, Hcps, Hoe0, Hoe1, HsmU, HREST⟩
    isplitr
    · iexact HR
    isplitl [HS]
    · iexact HS
    isplitl [HC3]
    · iapply (PF_C dym wm); iexact HC3
    isplitl [Hdq]
    · iexact Hdq
    isplitl [Hww]
    · iexact Hww
    isplitl [Hi0]
    · iexact Hi0
    isplitl [Hi1]
    · iexact Hi1
    isplitl [Hpr1]
    · iexact Hpr1
    isplitl [Hpr0]
    · iexact Hpr0
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine ent (P' := iprop(Recs (pfOf dym wm) K ∗ St (pfOf dym wm) 2 c ∗ (PR dym wm 0 1408 c ∗ PR dym wm 1 1536 c ∗ PR dym wm 2 1152 c) ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, ⟨HleftC, Hpr2⟩, Hdq, Hww, Hi0, Hi1, Hpr1, Hpr0, Hdw, Hds, Hbarv, Hcps, Hoe0, Hoe1, HsmU, HREST⟩
    isplitr
    · iexact HR
    isplitl [HS]
    · iexact HS
    isplitl [Hpr0 Hpr1 Hpr2]
    · isplitl [Hpr0]
      · iexact Hpr0
      isplitl [Hpr1]
      · iexact Hpr1
      iexact Hpr2
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    isplitl [HsmU]
    · iexact HsmU
    iexact HREST) ?_
  refine ent (P' := iprop(Recs (pfOf dym wm) K ∗ St (pfOf dym wm) 2 c ∗ pfR (pfOf dym wm) c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ smRest Finset.univ c ∗ R)) (by
    iintro ⟨#HR, HS, HP, HX⟩
    isplitr
    · iexact HR
    isplitl [HS]
    · iexact HS
    isplitl [HP]
    · iapply (PR_join dym wm c); iexact HP
    iexact HX) ?_
  refine ent (P' := iprop(Recs (pfOf dym wm) K ∗ St (pfOf dym wm) 2 c ∗ (pfR (pfOf dym wm) c ∗ smRest Finset.univ c) ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ semVal ((c : Thread nD τ), SemLoc.dma cpS) 0 ∗ (∃ f, outO 0 c f) ∗ (∃ f, outO 1 c f) ∗ R)) (by
    iintro ⟨#HR, HS, Hpfr, HleftC, Hdq, Hww, Hi0, Hi1, Hdw, Hds, Hbarv, Hcps, Hoe0, Hoe1, HsmU, HREST⟩
    isplitr
    · iexact HR
    isplitl [HS]
    · iexact HS
    isplitl [Hpfr HsmU]
    · isplitl [Hpfr]
      · iexact Hpfr
      iexact HsmU
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hcps]
    · iexact Hcps
    isplitl [Hoe0]
    · iexact Hoe0
    isplitl [Hoe1]
    · iexact Hoe1
    iexact HREST) ?_
  refine bindT (part44 (pfOf dym wm) K c _ _ _ _ _ _ _ _ ?_)
  intro _
  refine ent (P' := iprop(Recs (pfOf dym wm) K ∗ St (pfOf dym wm) 4 c ∗ (smO (pfOf dym wm) qY 0 c ∗ smO (pfOf dym wm) qZ 0 c ∗ smO (pfOf dym wm) qG 0 c ∗ (∃ f, outO 0 c f) ∗ semVal ((c : Thread nD τ), SemLoc.dma cpS) 0) ∗ pfR (pfOf dym wm) c ∗ landed (pfOf dym wm) 0 c ∗ smRest (Finset.univ \ bxO 0 c) c ∗ smO (pfOf dym wm) qF 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ (∃ f, outO 1 c f) ∗ R)) (by
    iintro ⟨#HR, HS, ⟨Hpfr, Hl0, Hsm0, HY0, HZ0, HF0, HG0⟩, HleftC, Hdq, Hww, Hi0, Hi1, Hdw, Hds, Hbarv, Hcps, Hoe0, Hoe1, HREST⟩
    isplitr
    · iexact HR
    isplitl [HS]
    · iexact HS
    isplitl [HY0 HZ0 HG0 Hoe0 Hcps]
    · isplitl [HY0]
      · iexact HY0
      isplitl [HZ0]
      · iexact HZ0
      isplitl [HG0]
      · iexact HG0
      isplitl [Hoe0]
      · iexact Hoe0
      iexact Hcps
    isplitl [Hpfr]
    · iexact Hpfr
    isplitl [Hl0]
    · iexact Hl0
    isplitl [Hsm0]
    · iexact Hsm0
    isplitl [HF0]
    · iexact HF0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hoe1]
    · iexact Hoe1
    iexact HREST) ?_
  refine bindT (part45 (pfOf dym wm) K c _ _ _ _ _ _ _ ?_)
  rintro ⟨_, _⟩
  refine ent (P' := iprop(Recs (pfOf dym wm) K ∗ St (pfOf dym wm) 7 c ∗ (pfR (pfOf dym wm) c ∗ smRest (Finset.univ \ bxO 0 c) c) ∗ FlightC (pfOf dym wm) 0 c ∗ landed (pfOf dym wm) 0 c ∗ smO (pfOf dym wm) qF 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ (∃ f, outO 1 c f) ∗ R)) (by
    iintro ⟨#HR, HS, Hf0, Hpfr, Hl0, Hsm0, HF0, HleftC, Hdq, Hww, Hi0, Hi1, Hdw, Hds, Hbarv, Hoe1, HREST⟩
    isplitr
    · iexact HR
    isplitl [HS]
    · iexact HS
    isplitl [Hpfr Hsm0]
    · isplitl [Hpfr]
      · iexact Hpfr
      iexact Hsm0
    isplitl [Hf0]
    · iexact Hf0
    isplitl [Hl0]
    · iexact Hl0
    isplitl [HF0]
    · iexact HF0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hoe1]
    · iexact Hoe1
    iexact HREST) ?_
  refine bindT (part46 (pfOf dym wm) K c _ _ _ _ _ _ _ _ ?_)
  intro _
  refine ent (P' := iprop(Recs (pfOf dym wm) K ∗ St (pfOf dym wm) 9 c ∗ (smO (pfOf dym wm) qZ 1 c ∗ smO (pfOf dym wm) qG 1 c ∗ smO (pfOf dym wm) qF 0 c ∗ smO (pfOf dym wm) qF 1 c ∗ (∃ f, outO 1 c f) ∗ FlightC (pfOf dym wm) 0 c) ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ R)) (by
    iintro ⟨#HR, HS, ⟨Hpfr, Hl1, Hsm01, HZ1, HF1, HG1⟩, Hf0, Hl0, HF0, HleftC, Hdq, Hww, Hi0, Hi1, Hdw, Hds, Hbarv, Hoe1, HREST⟩
    isplitr
    · iexact HR
    isplitl [HS]
    · iexact HS
    isplitl [HZ1 HG1 HF0 HF1 Hoe1 Hf0]
    · isplitl [HZ1]
      · iexact HZ1
      isplitl [HG1]
      · iexact HG1
      isplitl [HF0]
      · iexact HF0
      isplitl [HF1]
      · iexact HF1
      isplitl [Hoe1]
      · iexact Hoe1
      iexact Hf0
    isplitl [Hpfr]
    · iexact Hpfr
    isplitl [Hl1]
    · iexact Hl1
    isplitl [Hsm01]
    · iexact Hsm01
    isplitl [Hl0]
    · iexact Hl0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    iexact HREST) ?_
  refine bindT (part47 (pfOf dym wm) K c _ _ _ _ _ _ ?_)
  rintro ⟨_, _⟩
  refine thruB (pfOf dym wm) K (part48 (pfOf dym wm) K c _ _ _ _ _ _ _) ?_
  intro _
  refine thruB (pfOf dym wm) K (part49 (pfOf dym wm) K c _ _ _ _ _) ?_
  intro _
  refine thruB (pfOf dym wm) K (part50 (pfOf dym wm) K c _ _ _) ?_
  intro _
  refine thruB (pfOf dym wm) K (part51 (pfOf dym wm) K c _ _ _ _ _) ?_
  rintro ⟨_, _⟩
  refine thruB (pfOf dym wm) K (part52 (pfOf dym wm) K c _ _ _ _ _ _ _) ?_
  rintro ⟨_, _⟩
  refine thruB (pfOf dym wm) K (part53 (pfOf dym wm) K c _ _ _ _ _ _ _) ?_
  intro _
  refine thruB (pfOf dym wm) K (part54 (pfOf dym wm) K c _ _ _ _ _) ?_
  intro _
  refine thruB (pfOf dym wm) K (part55 (pfOf dym wm) K c _ _ _ _ _) ?_
  intro _
  refine thruB (pfOf dym wm) K (part56 (pfOf dym wm) K c _ _ _ _ _ _) ?_
  intro _
  refine thruB (pfOf dym wm) K (part57 (pfOf dym wm) K c _ _ _ _ _) ?_
  intro _
  refine thruB (pfOf dym wm) K (part58 (pfOf dym wm) K c _ _ _ _ _ _) ?_
  intro _
  refine thruB (pfOf dym wm) K (part59 (pfOf dym wm) K c _ _ _ _ _ _) ?_
  rintro ⟨_, _⟩
  refine thruB (pfOf dym wm) K (part60 (pfOf dym wm) K c _ _ _ _ _ _ _) ?_
  intro _
  exact done (h _ _ _ _ _ _ _ _)

set_option maxHeartbeats 4000000 in
/-- The body on device `c`, from what the launch gives it to what it leaves. -/
theorem body_wp {R : sProp 𝕄} {Q : _ → sProp 𝕄}
    (h : iprop(Recs (pfOf dym wm) K ∗ ((∃ W, owes (c : Thread nD τ) 0 W) ∗ semVal (exitC c) 0) ∗ StEnd (pfOf dym wm) c ∗ outO 1 c (OUT (pfOf dym wm) c) ∗ smO (pfOf dym wm) qG 1 c ∗ semVal ((c : Thread nD τ), SemLoc.dma cpS) 0 ∗ (srcRes (pfOf dym wm) 32 c -∗ iprop(smO (pfOf dym wm) qF 0 c ∗ smO (pfOf dym wm) qF 1 c)) ∗ outO 0 c (OUT (pfOf dym wm) c) ∗ smO (pfOf dym wm) qG 0 c ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ R) ⊢ Q ⟨⟩) :
    iprop(Recs (pfOf dym wm) K ∗ SigSt (pfOf dym wm) false (Ow 0 c + Ox 0 c) 0 c ∗ (BarW false c ∗ Rest0 c ∗ Dw dym c ∗ (∃ g : S256x8192.Idx → Elt F .f32, ((c : Thread nD τ).loc cc0_scratch0 ↦[Finset.univ]{fullShare} g)) ∗ semVal ((c : Thread nD τ), SemLoc.dma dS) 0) ∗ Ww wm c ∗ Idle 0 c ∗ Idle 1 c ∗ PFany (F := F) (pcol 0 c) 1408 c ∗ PFany (F := F) (pcol 1 c) 1536 c ∗ PFany (F := F) (pcol 2 c) 1152 c ∗ semVal ((c : Thread nD τ), SemLoc.dma cpS) 0 ∗ (∃ f, outO 0 c f) ∗ (∃ f, outO 1 c f) ∗ smRest Finset.univ c ∗ ExT c ∗ BarW true c ∗ R) ⊢ WP c (cc0_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0) Q := by
  rw [cc0_body_eq_skeleton, cc0_body_skel]
  refine bindT (part81 K dym wm ?_)
  intro _ _ _ _ _ _ _ _
  refine thruB (pfOf dym wm) K (part61 (pfOf dym wm) K c _ _ _ _ _) ?_
  intro _
  refine thruB (pfOf dym wm) K (part62 (pfOf dym wm) K c _ _ _ _ _) ?_
  intro _
  refine thruB (pfOf dym wm) K (part63 (pfOf dym wm) K c _ _ _ _ _ _ _) ?_
  intro _
  refine thruB (pfOf dym wm) K (part64 (pfOf dym wm) K c _ _ _ _ _) ?_
  intro _
  refine thruB (pfOf dym wm) K (part65 (pfOf dym wm) K c _ _ _ _ _) ?_
  rintro ⟨_, _⟩
  refine thruB (pfOf dym wm) K (part66 (pfOf dym wm) K c _ _ _ _ _ _ _ _) ?_
  intro _
  refine thruB (pfOf dym wm) K (part67 (pfOf dym wm) K c _ _ _ _ _ _) ?_
  intro _
  refine thruB (pfOf dym wm) K (part68 (pfOf dym wm) K c _ _ _ _ _ _) ?_
  intro _
  refine thruB (pfOf dym wm) K (part69 (pfOf dym wm) K c _ _ _ _) ?_
  intro _
  refine thruB (pfOf dym wm) K (part70 (pfOf dym wm) K c _ _ _) ?_
  intro _
  refine thruB (pfOf dym wm) K (part71 (pfOf dym wm) K c _ _ _) ?_
  rintro ⟨_, _⟩
  refine thruB (pfOf dym wm) K (part72 (pfOf dym wm) K c _ _ _ _ _) ?_
  intro _
  refine thruB (pfOf dym wm) K (part73 (pfOf dym wm) K c _ _ _) ?_
  rintro ⟨_, _⟩
  refine thruB (pfOf dym wm) K (part74 (pfOf dym wm) K c _ _ _ _ _) ?_
  intro _
  refine ent (P' := iprop(Recs (pfOf dym wm) K ∗ St (pfOf dym wm) 109 c ∗ (FlightC (pfOf dym wm) 1 c) ∗ (srcRes (pfOf dym wm) 32 c -∗ iprop(smO (pfOf dym wm) qF 0 c ∗ smO (pfOf dym wm) qF 1 c)) ∗ outO 0 c (OUT (pfOf dym wm) c) ∗ smO (pfOf dym wm) qG 0 c ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ ExT c ∗ BarW true c ∗ R)) (by
    iintro ⟨#HR, HS, ⟨Hwand, Ho0, HG0, Hf1⟩, Hpfr, Hl1, Hsm01, Hl0, HleftC, Hdq, Hww, Hi0, Hi1, Hdw, Hds, Hbarv, Hext, Hbarx, HREST⟩
    isplitr
    · iexact HR
    isplitl [HS]
    · iexact HS
    isplitl [Hf1]
    · iexact Hf1
    isplitl [Hwand]
    · iexact Hwand
    isplitl [Ho0]
    · iexact Ho0
    isplitl [HG0]
    · iexact HG0
    isplitl [Hpfr]
    · iexact Hpfr
    isplitl [Hl1]
    · iexact Hl1
    isplitl [Hsm01]
    · iexact Hsm01
    isplitl [Hl0]
    · iexact Hl0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hext]
    · iexact Hext
    isplitl [Hbarx]
    · iexact Hbarx
    iexact HREST) ?_
  refine bindT (part75 (pfOf dym wm) K c _ _ _ ?_)
  intro _
  refine thruB (pfOf dym wm) K (part76 (pfOf dym wm) K c ) ?_
  intro _
  refine thruB (pfOf dym wm) K (part77 (pfOf dym wm) K c ) ?_
  intro _
  refine thruB (pfOf dym wm) K (part78 (pfOf dym wm) K c ) ?_
  intro _
  refine thruB (pfOf dym wm) K (part79 (pfOf dym wm) K c ) ?_
  intro _
  refine ent (P' := iprop(Recs (pfOf dym wm) K ∗ St (pfOf dym wm) 144 c ∗ (ExT c) ∗ outO 1 c (OUT (pfOf dym wm) c) ∗ smO (pfOf dym wm) qG 1 c ∗ semVal ((c : Thread nD τ), SemLoc.dma cpS) 0 ∗ (srcRes (pfOf dym wm) 32 c -∗ iprop(smO (pfOf dym wm) qF 0 c ∗ smO (pfOf dym wm) qF 1 c)) ∗ outO 0 c (OUT (pfOf dym wm) c) ∗ smO (pfOf dym wm) qG 0 c ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ BarW true c ∗ R)) (by
    iintro ⟨#HR, HS, ⟨Ho1, HG1, Hcps⟩, Hwand, Ho0, HG0, Hpfr, Hl1, Hsm01, Hl0, HleftC, Hdq, Hww, Hi0, Hi1, Hdw, Hds, Hbarv, Hext, Hbarx, HREST⟩
    isplitr
    · iexact HR
    isplitl [HS]
    · iexact HS
    isplitl [Hext]
    · iexact Hext
    isplitl [Ho1]
    · iexact Ho1
    isplitl [HG1]
    · iexact HG1
    isplitl [Hcps]
    · iexact Hcps
    isplitl [Hwand]
    · iexact Hwand
    isplitl [Ho0]
    · iexact Ho0
    isplitl [HG0]
    · iexact HG0
    isplitl [Hpfr]
    · iexact Hpfr
    isplitl [Hl1]
    · iexact Hl1
    isplitl [Hsm01]
    · iexact Hsm01
    isplitl [Hl0]
    · iexact Hl0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    isplitl [Hbarx]
    · iexact Hbarx
    iexact HREST) ?_
  refine ent (P' := iprop(Recs (pfOf dym wm) K ∗ SigSt (pfOf dym wm) true 0 0 c ∗ StEnd (pfOf dym wm) c ∗ outO 1 c (OUT (pfOf dym wm) c) ∗ smO (pfOf dym wm) qG 1 c ∗ semVal ((c : Thread nD τ), SemLoc.dma cpS) 0 ∗ (srcRes (pfOf dym wm) 32 c -∗ iprop(smO (pfOf dym wm) qF 0 c ∗ smO (pfOf dym wm) qF 1 c)) ∗ outO 0 c (OUT (pfOf dym wm) c) ∗ smO (pfOf dym wm) qG 0 c ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ BarW true c ∗ R)) (by
    iintro ⟨#HR, HS, HE, HX⟩
    ihave HS := (St_end (pfOf dym wm) c) $$ HS
    icases HS with ⟨⟨%W, HO⟩, HS⟩
    isplitr
    · iexact HR
    isplitl [HO HE]
    · iapply (exit_start (pfOf dym wm) c W)
      isplitl [HO]
      · iexact HO
      iexact HE
    isplitl [HS]
    · iexact HS
    iexact HX) ?_
  refine bindT (part80 (pfOf dym wm) K _ _ _ _ _ _ _ _ ?_)
  intro _
  refine ent (P' := iprop(Recs (pfOf dym wm) K ∗ SigSt (pfOf dym wm) true 0 5 c ∗ (BarW true c) ∗ StEnd (pfOf dym wm) c ∗ outO 1 c (OUT (pfOf dym wm) c) ∗ smO (pfOf dym wm) qG 1 c ∗ semVal ((c : Thread nD τ), SemLoc.dma cpS) 0 ∗ (srcRes (pfOf dym wm) 32 c -∗ iprop(smO (pfOf dym wm) qF 0 c ∗ smO (pfOf dym wm) qF 1 c)) ∗ outO 0 c (OUT (pfOf dym wm) c) ∗ smO (pfOf dym wm) qG 0 c ∗ pfR (pfOf dym wm) c ∗ landed (pfOf dym wm) 1 c ∗ smRest ((Finset.univ \ bxO 0 c) \ bxO 1 c) c ∗ landed (pfOf dym wm) 0 c ∗ pfP c fullShare.left ![0, pcol 2 c] ![256, 1152] (pfOf dym wm c) ∗ DyQ dym c ∗ Ww wm c ∗ Idle 0 c ∗ Idle 1 c ∗ Dw dym c ∗ semVal ((c : Thread nD τ), SemLoc.dma dS) 0 ∗ semVal (barC c) 0 ∗ R)) (by
    iintro ⟨#HR, HS, Hstend, Ho1, HG1, Hcps, Hwand, Ho0, HG0, Hpfr, Hl1, Hsm01, Hl0, HleftC, Hdq, Hww, Hi0, Hi1, Hdw, Hds, Hbarv, Hbarx, HREST⟩
    isplitr
    · iexact HR
    isplitl [HS]
    · iexact HS
    isplitl [Hbarx]
    · iexact Hbarx
    isplitl [Hstend]
    · iexact Hstend
    isplitl [Ho1]
    · iexact Ho1
    isplitl [HG1]
    · iexact HG1
    isplitl [Hcps]
    · iexact Hcps
    isplitl [Hwand]
    · iexact Hwand
    isplitl [Ho0]
    · iexact Ho0
    isplitl [HG0]
    · iexact HG0
    isplitl [Hpfr]
    · iexact Hpfr
    isplitl [Hl1]
    · iexact Hl1
    isplitl [Hsm01]
    · iexact Hsm01
    isplitl [Hl0]
    · iexact Hl0
    isplitl [HleftC]
    · iexact HleftC
    isplitl [Hdq]
    · iexact Hdq
    isplitl [Hww]
    · iexact Hww
    isplitl [Hi0]
    · iexact Hi0
    isplitl [Hi1]
    · iexact Hi1
    isplitl [Hdw]
    · iexact Hdw
    isplitl [Hds]
    · iexact Hds
    isplitl [Hbarv]
    · iexact Hbarv
    iexact HREST) ?_
  simp only [semWaitWord, Prog.lift, Prog.bind_op, Prog.bind_ret, Prog.pure_eq_ret]
  iintro ⟨#HR, HS, HB, HX⟩
  iapply (w_exit (pfOf dym wm) K (c := c) (q := cc0_scoped0.sem) rfl) $$ [HS HB]
  · isplitr
    · iexact HR
    isplitl [HS]
    · iexact HS
    iexact HB
  iintro HO
  iapply (done (h := h))
  isplitr
  · iexact HR
  isplitl [HO]
  · iexact HO
  iexact HX

end Cert.Gather

end
-- ==== Proof.Ends.lean ====
module

public import proofs.«01_k».proof.Proof.Body
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! # What a device starts with and ends with -/

/-- The two arguments of device `c`, as launched, and the partial product it forms of them. -/
abbrev dyM (c : Dev nD) : DyB F := m ((c : Thread nD τ).loc main_arg0)
abbrev wM (c : Dev nD) : DyB F := m ((c : Thread nD τ).loc main_arg1)
abbrev pfM : Dev nD → SmallC F := pfOf (dyM m) (wM m)

/-- The four semaphores of a device's own copies. -/
def xS : Fin 4 → DmaSem sig := ![cpS, ws 0, ws 1, dS]
/-- The semaphores of the kernel: the exit semaphore, those of the transfers, those of its own copies. -/
abbrev OwnK : Type := (Unit ⊕ (Slot ⊕ Slot)) ⊕ Fin 4
def osem : OwnK → SemLoc sig
  | .inl (.inl _) => csem (.inl true)
  | .inl (.inr k) => csem (.inr k)
  | .inr i => .dma (xS i)

def spare (c : Dev nD) : sProp 𝕄 := bigSep Finset.univ fun i : Fin 4 => semVal ((c : Thread nD τ), SemLoc.dma (xS i)) 0
theorem spare_eq (c : Dev nD) : (spare c : sProp 𝕄) = iprop(semVal ((c : Thread nD τ), SemLoc.dma cpS) 0 ∗ semVal ((c : Thread nD τ), SemLoc.dma (ws 0)) 0
    ∗ semVal ((c : Thread nD τ), SemLoc.dma (ws 1)) 0 ∗ semVal ((c : Thread nD τ), SemLoc.dma dS) 0) := by
  unfold spare
  rw [bigSep_univ_eq_bigSepL [0, 1, 2, 3] (by decide) (by decide)]
  rfl

/-- The kernel's own semaphores, sorted. -/
theorem ownSems_eq (c : Dev nD) : (Pipeline.ownSems0 (Ix := Unit) (Name := ℕ) (U := UU) (Lvl := ℕ) (Val := Elt F) (τ := τ) osem c : sProp 𝕄)
    = iprop((semVal (exitC c) 0 ∗ (bigSep Finset.univ fun s : Slot => semVal (sendC s c) 0) ∗ bigSep Finset.univ fun s : Slot => semVal (recvC s c) 0) ∗ spare c) := by
  unfold Pipeline.ownSems0 spare
  rw [bigSep_univ_sum, bigSep_univ_sum, bigSep_univ_sum, Finset.univ_unique, bigSep_singleton]
  rfl

theorem unscopedSems_eq (c : Dev nD) : (unscopedSems0 c : sProp 𝕄) = semVal (barC c) 0 := by
  unfold unscopedSems0; rw [bigSep_eq_bigSepL_of_eq [SemLoc.reg barS] (by decide +kernel) (by decide)]; rfl

/-- One thing per semaphore the devices talk over. -/
theorem cells_eq (Φ : CellK → sProp 𝕄) : bigSep Finset.univ Φ
    = iprop((Φ (.inl false) ∗ Φ (.inl true)) ∗ (bigSep Finset.univ fun s : Slot => Φ (.inr (.inl s))) ∗ bigSep Finset.univ fun s : Slot => Φ (.inr (.inr s))) := by
  rw [bigSep_univ_sum, bigSep_univ_sum, bigSep_univ_eq_bigSepL [false, true] (by decide) (by decide)]
  rfl

/-- The tokens of the signals and arrivals device `c` brings about. -/
def payToks (c : Dev nD) : sProp 𝕄 :=
  iprop((bigSep Finset.univ fun d : D => dutyTok ER (barC (nbr d c)) 0 d) ∗ ExT c
    ∗ bigSep Finset.univ fun s : Slot => iprop(dutyTok ER (sendC s c) 0 0 ∗ dutyTok ER (recvC s (dst s c)) 0 0))
/-- What only device `c` holds of the protocol. -/
def linear (c : Dev nD) : sProp 𝕄 :=
  iprop((bigSep Finset.univ fun k : CellK => atPos ER (kcell (c, k)) 0 ∅ 0) ∗ payToks c ∗ spare c)
/-- What every device may use. -/
def records (pf : Dev nD → SmallC F) (K : Dev nD × CellK → ℕ) : sProp 𝕄 :=
  iprop((bigSep Finset.univ fun ck => cellInv ER (gRd pf) (K ck) (kcell ck))
    ∗ bigSep Finset.univ fun ck : Dev nD × CellK => reached ER (kcell ck) 0)
instance records_persistent (pf : Dev nD → SmallC F) (K : Dev nD × CellK → ℕ) : BI.Persistent (records pf K) := by unfold records; infer_instance

def G' (c : Dev nD) : sProp 𝕄 := iprop(∃ K, records (pfM m) K ∗ linear c)

/-- What the others owe device `c`. -/
def credsOf (c : Dev nD) : sProp 𝕄 :=
  iprop(cred (tallyAt (barC c) () 5) ∗ cred (tallyAt (exitC c) () 5) ∗ bigSep Finset.univ fun s : Slot => cred (tallyAt (recvC s c) () (amt s)))

def start (c : Dev nD) : sProp 𝕄 :=
  iprop(G' m c ∗ credsOf c ∗ levAts L lv ∗ Dw (dyM m) c ∗ Ww (wM m) c ∗ (((c : Thread nD τ).loc main_v1) ↦[Finset.univ]{fullShare} (m ((c : Thread nD τ).loc main_v1))))

/-- The kernel's buffers, at any contents. -/
def scratch (c : Dev nD) : sProp 𝕄 :=
  iprop((∃ f : Buf (Elt F) ((c : Thread nD τ).loc cc0_scratch0), ((c : Thread nD τ).loc cc0_scratch0) ↦[Finset.univ]{fullShare} f)
    ∗ (∃ f : Buf (Elt F) ((c : Thread nD τ).loc cc0_scratch1), ((c : Thread nD τ).loc cc0_scratch1) ↦[Finset.univ]{fullShare} f)
    ∗ (∃ f : Buf (Elt F) ((c : Thread nD τ).loc cc0_scratch2), ((c : Thread nD τ).loc cc0_scratch2) ↦[Finset.univ]{fullShare} f)
    ∗ (∃ f : Buf (Elt F) ((c : Thread nD τ).loc cc0_scratch3), ((c : Thread nD τ).loc cc0_scratch3) ↦[Finset.univ]{fullShare} f)
    ∗ (∃ f : Buf (Elt F) ((c : Thread nD τ).loc cc0_scratch4), ((c : Thread nD τ).loc cc0_scratch4) ↦[Finset.univ]{fullShare} f))

theorem scratch_eq (c : Dev nD) : (Pipeline.scopedRest cfg0.spec c : sProp 𝕄) = scratch c := by
  rw [scopedRest0_eq]; rfl

def O₀ (c : Dev nD) : CellTallies nD τ sig Unit := (Ow 0 c + Ox 0 c) + Ob 0 c

/-- What a device holds of its arrays when it is done: the arguments as launched, the result in place. -/
def arrays (c : Dev nD) : sProp 𝕄 :=
  iprop(Dw (dyM m) c ∗ Ww (wM m) c ∗ (((c : Thread nD τ).loc main_v1) ↦[Finset.univ]{qG} (OUT (pfM m) c)))

def Φ₀ (c : Dev nD) : sProp 𝕄 := iprop(start m c ∗ scratch c)
def Φ₁ (c : Dev nD) : sProp 𝕄 :=
  iprop((arrays m c ∗ unscopedSems0 c) ∗ Pipeline.ownSems0 (Ix := Unit) (Name := ℕ) (U := UU) (Lvl := ℕ) (Val := Elt F) (τ := τ) osem c ∗ scratch c)

variable {c : Dev nD}

/-- The landing boxes of a device, all together. -/
theorem boxes_give : iprop(piece (F := F) 0 (src 0 c) ∗ piece (F := F) 1 (src 1 c) ∗ bigSep (Finset.univ.filter fun s : Slot => 2 ≤ s.val) fun s => piece (F := F) s (src s c))
    ⊢ bigSep Finset.univ fun d : D => (gRd (pfM m)).payload (kcell (nbr d c, .inl false)) 0 d := by
  rw [← give (pfM m) c, bs01]

/-- Before the first signal. -/
theorem sig_start (W : Waits sig Unit) : iprop(owes (c : Thread nD τ) (O₀ c) W ∗ (bigSep Finset.univ fun d : D => dutyTok ER (barC (nbr d c)) 0 d)
      ∗ bigSep Finset.univ fun d : D => (gRd (pfM m)).payload (kcell (nbr d c, .inl false)) 0 d)
    ⊢ SigSt (pfM m) false (Ow 0 c + Ox 0 c) 0 c := by
  unfold SigSt O₀ Ob
  rw [Finset.filter_true_of_mem (fun d _ => Nat.zero_le _), bigSep_sep']
  iintro ⟨HO, H⟩
  isplitl [HO]
  · iexists W; iexact HO
  iexact H

set_option maxHeartbeats 1000000 in
/-- What the body leaves, put back together. -/
theorem body_end (Q : PUnit → sProp 𝕄) (K : Dev nD × CellK → ℕ) :
    iprop(Recs (pfM m) K ∗ ((∃ W, owes (c : Thread nD τ) 0 W) ∗ semVal (exitC c) 0) ∗ StEnd (pfM m) c ∗ outO 1 c (OUT (pfM m) c) ∗ smO (pfM m) qG 1 c ∗ semVal ((c : Thread nD τ), SemLoc.dma cpS) 0 ∗ (srcRes (pfM m) 32 c -∗ iprop(smO (pfM m) qF 0 c ∗ smO (pfM m) qF 1 c)) ∗ outO 0 c (OUT (pfM m) c) ∗ smO (pfM m) qG 0 c ∗ pfR (pfM m) c ∗ landed (pfM m) 1 c ∗ smRest ((Finset.univ \ bxO 0 c) \ bxO 1 c) c ∗ landed (pfM m) 0 c ∗ pfP c fullShare.left ![0, pcol 2 c] ![256, 1152] (pfM m c) ∗ DyQ (dyM m) c ∗ Ww (wM m) c ∗ Idle 0 c ∗ Idle 1 c ∗ Dw (dyM m) c ∗ semVal ((c : Thread nD τ), SemLoc.dma dS) 0 ∗ semVal (barC c) 0
        ∗ xrRest c ∗ (iprop(Φ₁ m c ∗ ∃ W, owes (c : Thread nD τ) 0 W) -∗ Q ⟨⟩)) ⊢ Q ⟨⟩ := by
  unfold StEnd Sf Se
  rw [bigSep_sep']
  iintro ⟨-, ⟨HO, Hex⟩, ⟨Hrv, ⟨Hsv, Hsrc⟩, Hg⟩, Ho1, HG1, Hcp, Hwand, Ho0, HG0, Hpfr, Hl1, Hsm, Hl0, HlC, Hdq, Hww, Hi0, Hi1, Hdw, Hds, Hbar, Hxr, HQ⟩
  iapply HQ
  isplitr [HO]
  · ihave Hsm := (sm_whole (pfM m) c) $$ [Hsrc Hwand HG0 HG1 Hsm]
    · isplitl [Hsrc]
      · iexact Hsrc
      isplitl [Hwand]
      · iexact Hwand
      isplitl [HG0]
      · iexact HG0
      isplitl [HG1]
      · iexact HG1
      iexact Hsm
    icases Hsm with ⟨H4, Hs0, Hs1⟩
    ihave H2 := (pf_whole (dyM m) (wM m) c) $$ [Hs0 Hs1 HlC Hpfr]
    · isplitl [Hs0]
      · iexact Hs0
      isplitl [Hs1]
      · iexact Hs1
      isplitl [HlC]
      · iexact HlC
      iexact Hpfr
    ihave H3 := (xr_join (pfM m) c) $$ [Hl0 Hl1 Hxr]
    · isplitl [Hl0]
      · iexact Hl0
      isplitl [Hl1]
      · iexact Hl1
      iexact Hxr
    ihave Hi := (tiles_join c) $$ [Hi0 Hi1]
    · isplitl [Hi0]
      · iexact Hi0
      iexact Hi1
    icases Hi with ⟨H1, Hw0, Hw1⟩
    ihave Ho0 := (outO_share 0 c _) $$ Ho0
    ihave Ho1 := (outO_share 1 c _) $$ Ho1
    ihave Hout := (out_join (pfM m) c) $$ [Ho0 Ho1 Hg]
    · isplitl [Ho0]
      · iexact Ho0
      isplitl [Ho1]
      · iexact Ho1
      iexact Hg
    unfold Φ₁ arrays scratch
    rw [ownSems_eq, unscopedSems_eq, spare_eq]
    isplitl [Hdw Hww Hout Hbar]
    · isplitl [Hdw Hww Hout]
      · isplitl [Hdw]
        · iexact Hdw
        isplitl [Hww]
        · iexact Hww
        iexact Hout
      iexact Hbar
    isplitl [Hex Hsv Hrv Hcp Hw0 Hw1 Hds]
    · isplitl [Hex Hsv Hrv]
      · isplitl [Hex]
        · iexact Hex
        isplitl [Hsv]
        · iexact Hsv
        iexact Hrv
      isplitl [Hcp]
      · iexact Hcp
      isplitl [Hw0]
      · iexact Hw0
      isplitl [Hw1]
      · iexact Hw1
      iexact Hds
    isplitl [Hdq]
    · iexists _; iexact Hdq
    isplitl [H1]
    · iexact H1
    isplitl [H2]
    · iexists _; iexact H2
    isplitl [H3]
    · iexact H3
    iexact H4
  iexact HO

set_option maxHeartbeats 1000000 in
theorem body_from (Q : PUnit → sProp 𝕄) (W : Waits sig Unit) :
    iprop(Φ₀ m c ∗ owes (c : Thread nD τ) (O₀ c) W ∗ (iprop(Φ₁ m c ∗ ∃ W, owes (c : Thread nD τ) 0 W) -∗ Q ⟨⟩)) ⊢ WP c (bodyAt0 t0_0) Q := by
  unfold Φ₀ start G' records linear payToks credsOf scratch
  rw [cells_eq, spare_eq]
  iintro ⟨⟨⟨⟨%K, ⟨#HI, #HR⟩, ⟨⟨Hab, Hax⟩, Has, Har⟩, ⟨Htb, Htx, Hts⟩, Hcp, Hw0, Hw1, Hds⟩, ⟨Hcb, Hcx, Hcr⟩, #Hlev, Hdw, Hww, Hout⟩, ⟨H0, ⟨%f1, H1⟩, ⟨%f2, H2⟩, ⟨%f3, H3⟩, H4⟩⟩, HO, HQ⟩
  ihave Hout := (out_split c _) $$ Hout
  icases Hout with ⟨Ho0, Ho1, Hpc⟩
  ihave H3 := (xr_split c f3) $$ H3
  icases H3 with ⟨Hp0, Hp1, Hxr⟩
  ihave H2 := (pf_split c f2) $$ H2
  icases H2 with ⟨HA, HB, HC⟩
  ihave Hi := (tiles_split c f1) $$ [H1 Hw0 Hw1]
  · isplitl [H1]
    · iexact H1
    isplitl [Hw0]
    · iexact Hw0
    iexact Hw1
  icases Hi with ⟨Hi0, Hi1⟩
  ihave Hgive := (boxes_give m) $$ [Hp0 Hp1 Hpc]
  · isplitl [Hp0]
    · iexact Hp0
    isplitl [Hp1]
    · iexact Hp1
    iexact Hpc
  ihave Hsig := (sig_start m W) $$ [HO Htb Hgive]
  · isplitl [HO]
    · iexact HO
    isplitl [Htb]
    · iexact Htb
    iexact Hgive
  iapply (body_wp K (dyM m) (wM m) (c := c) (R := iprop(xrRest c ∗ (iprop(Φ₁ m c ∗ ∃ W, owes (c : Thread nD τ) 0 W) -∗ Q ⟨⟩))) (Q := Q) (body_end m Q K))
  isplitr
  · unfold Recs
    isplitr
    · iexact HI
    isplitr
    · iexact HR
    iexact Hlev
  isplitl [Hsig]
  · iexact Hsig
  isplitl [Hcb Hab Hts Hcr Har Has Hdw H0 Hds]
  · isplitl [Hcb Hab]
    · unfold BarW
      isplitl [Hcb]
      · iexact Hcb
      iexact Hab
    isplitl [Hts Hcr Har Has]
    · unfold Rest0 Sb Sc
      isplitl [Hts]
      · iexact Hts
      isplitl [Hcr Har]
      · rw [bigSep_sep']
        isplitl [Har]
        · iexact Har
        iexact Hcr
      iexact Has
    isplitl [Hdw]
    · iexact Hdw
    isplitl [H0]
    · iexact H0
    iexact Hds
  isplitl [Hww]
  · iexact Hww
  isplitl [Hi0]
  · iexact Hi0
  isplitl [Hi1]
  · iexact Hi1
  isplitl [HA]
  · iexact HA
  isplitl [HB]
  · iexact HB
  isplitl [HC]
  · iexact HC
  isplitl [Hcp]
  · iexact Hcp
  isplitl [Ho0]
  · iexact Ho0
  isplitl [Ho1]
  · iexact Ho1
  isplitl [H4]
  · iexact H4
  isplitl [Htx]
  · iexact Htx
  isplitl [Hcx Hax]
  · unfold BarW
    isplitl [Hcx]
    · iexact Hcx
    iexact Hax
  isplitl [Hxr]
  · iexact Hxr
  iexact HQ

end Cert.Gather

end
-- ==== Proof.Launch.lean ====
module

public import proofs.«01_k».proof.Proof.Ends
public import Idealize.ShloMosaic.Lib.Pipeline.CollectiveSegs
public import Idealize.ShloMosaic.Lib.Quiescent

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The launch -/

theorem kcell_injective : Function.Injective (kcell : Dev nD × CellK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The duties of one device's semaphores. -/
abbrev TokK : Type := (D ⊕ D) ⊕ (Slot ⊕ Slot)
def tokC : TokK → CellK × D
  | .inl (.inl d) => (.inl false, d)
  | .inl (.inr d) => (.inl true, d)
  | .inr k => (.inr k, 0)
theorem tokC_injective : Function.Injective tokC := by
  rintro ((d | d) | k) ((d' | d') | k') h <;> simp_all [tokC]
def tokOf (ct : Dev nD × TokK) : GSem nD τ sig × ℕ × D := (kcell (ct.1, (tokC ct.2).1), 0, (tokC ct.2).2)
theorem tokOf_injective : Function.Injective tokOf := by
  rintro ⟨c, t⟩ ⟨c', t'⟩ h
  have h1 := kcell_injective (congrArg Prod.fst h)
  have h2 : (tokC t).2 = (tokC t').2 := congrArg (fun x => x.2.2) h
  have h3 : t = t' := tokC_injective (Prod.ext (congrArg Prod.snd h1) h2)
  rw [h3, show c = c' from congrArg Prod.fst h1]

def allCells : Finset (GSem nD τ sig) := Finset.univ.map ⟨kcell, kcell_injective⟩
def allToks : Finset (GSem nD τ sig × ℕ × D) := Finset.univ.map ⟨tokOf, tokOf_injective⟩

def u₀ : UU := (initOf (Pipeline.cells cfgs cellOf_inj) (Pipeline.launchToks cfgs cellOf_inj), (initOf allCells allToks, 1))

/-- The tokens of the duties of device `c`'s own semaphores. -/
def toks (c : Dev nD) : sProp 𝕄 :=
  bigSep Finset.univ fun t : TokK => dutyTok ER (kcell (c, (tokC t).1)) 0 (tokC t).2

def G (c : Dev nD) : sProp 𝕄 :=
  iprop((bigSep Finset.univ fun k : CellK => roundState ER (gRd (pfM m)) (kcell (c, k)) 0)
    ∗ (bigSep Finset.univ fun k : CellK => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CellK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (gRd (pfM m)) allCells allToks) $$ HX with ⟨Hst, Hr, Hat, Htok⟩
  imodintro
  ihave Hst := (Entails.of_eq (hX fun g => roundState ER (gRd (pfM m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]
  · iexact Hst
  isplitl [Hat Hr]
  · isplitl [Hat]
    · iexact Hat
    iexact Hr
  iexact Htok

theorem cells_zero (c : Dev nD) : iprop(Pipeline.ownSems0 (Ix := Unit) (Name := ℕ) (U := UU) (Lvl := ℕ) (Val := Elt F) (τ := τ) osem c ∗ unscopedSems0 c)
    ⊢ (iprop((bigSep Finset.univ fun k : CellK => semVal (kcell (c, k)) 0) ∗ spare c) : sProp 𝕄) := by
  rw [ownSems_eq, unscopedSems_eq, cells_eq]
  iintro ⟨⟨⟨Hx, Hs, Hr⟩, Hsp⟩, Hb⟩
  isplitr [Hsp]
  · isplitl [Hb Hx]
    · isplitl [Hb]
      · iexact Hb
      iexact Hx
    isplitl [Hs]
    · iexact Hs
    iexact Hr
  iexact Hsp

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellK => iprop(∃ κ : ℕ, cellInv ER (gRd (pfM m)) κ (kcell (c, k))))
          ∗ (bigSep Finset.univ fun k : CellK => iprop(atPos ER (kcell (c, k)) 0 ∅ 0 ∗ reached ER (kcell (c, k)) 0)) ∗ toks c ∗ spare c) := by
  unfold G
  iintro ⟨Hos, Hus, Hst, Hat, Htok⟩
  ihave Hv := (cells_zero (F := F) c) $$ [Hos Hus]
  · isplitl [Hos]
    · iexact Hos
    iexact Hus
  icases Hv with ⟨Hv, Hsp⟩
  have h : iprop((bigSep Finset.univ fun k : CellK => semVal (kcell (c, k)) 0) ∗ bigSep Finset.univ fun k : CellK => roundState ER (gRd (pfM m)) (kcell (c, k)) 0)
      ⊢ (|={Set.univ}=> bigSep Finset.univ fun k : CellK => iprop(∃ κ : ℕ, cellInv ER (gRd (pfM m)) κ (kcell (c, k))) : sProp 𝕄) := by
    rw [← bigSep_sep']
    exact (bigSep_mono fun k _ => (Rounds.body_intro ER (gRd (pfM m)) (kcell (c, k))).trans inv_alloc).trans (bigSep_fupd _ _)
  imod h $$ [Hv Hst] with Hinv
  · isplitl [Hv]
    · iexact Hv
    iexact Hst
  imodintro
  isplitl [Hinv]
  · iexact Hinv
  isplitl [Hat]
  · iexact Hat
  isplitl [Htok]
  · iexact Htok
  iexact Hsp

/-- What every device holds for each of several indices, dealt out along a bijection of the devices for each. -/
theorem around {I : Type} [Fintype I] [DecidableEq I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [← bigSep_univ_prod (fun ci : Dev nD × I => Φ ci.1 ci.2), ← bigSep_univ_prod (fun ci : Dev nD × I => Φ (e ci.2 ci.1) ci.2)]
  exact bigSep_univ_equiv (⟨fun ci => (e ci.2 ci.1, ci.2), fun ci => ((e ci.2).symm ci.1, ci.2),
    fun ci => Prod.ext ((e ci.2).symm_apply_apply _) rfl, fun ci => Prod.ext ((e ci.2).apply_symm_apply _) rfl⟩ : Dev nD × I ≃ Dev nD × I) _

theorem peel {I : Type} [DecidableEq I] {S : Finset I} {i : I} (hi : i ∉ S) (Φ : I → sProp 𝕄) : bigSep (insert i S) Φ = iprop(Φ i ∗ bigSep S Φ) :=
  bigSep_insert hi

theorem toks_eq (c : Dev nD) : (toks c : sProp 𝕄) = iprop(((bigSep Finset.univ fun d : D => dutyTok ER (barC c) 0 d) ∗ bigSep Finset.univ fun d : D => dutyTok ER (exitC c) 0 d)
    ∗ (bigSep Finset.univ fun s : Slot => dutyTok ER (sendC s c) 0 0) ∗ bigSep Finset.univ fun s : Slot => dutyTok ER (recvC s c) 0 0) := by
  unfold toks
  rw [bigSep_univ_sum, bigSep_univ_sum, bigSep_univ_sum]
  rfl

/-- Every token to the device that will bring it about. -/
theorem toks_around : (bigSep Finset.univ fun c : Dev nD => (toks c : sProp 𝕄)) ⊢ bigSep Finset.univ fun c : Dev nD => payToks c := by
  unfold payToks ExT
  rw [bigSep_congr fun c _ => toks_eq c, bigSep_sep', bigSep_sep', bigSep_sep', bigSep_sep', bigSep_sep',
    around nbrEquiv (fun c d => dutyTok ER (barC c) 0 d), around nbrEquiv (fun c d => dutyTok ER (exitC c) 0 d),
    around dstEquiv (fun c s => dutyTok ER (recvC s c) 0 0)]
  rw [bigSep_congr (Φ := fun c : Dev nD => bigSep Finset.univ fun s : Slot => iprop(dutyTok ER (sendC s c) 0 0 ∗ dutyTok ER (recvC s (dst s c)) 0 0)) fun c _ => bigSep_sep' _ _ _, bigSep_sep']
  iintro ⟨⟨H1, H2⟩, H3, H4⟩
  isplitl [H1]
  · iexact H1
  isplitl [H2]
  · iexact H2
  isplitl [H3]
  · iexact H3
  iexact H4

theorem ghost_intro (K : Dev nD × CellK → ℕ) (c : Dev nD) : iprop(records (pfM m) K ∗ linear c) ⊢ G' m c := by
  unfold G'
  iintro ⟨H, H'⟩
  iexists K
  isplitl [H]
  · iexact H
  iexact H'

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellK => iprop(∃ κ : ℕ, cellInv ER (gRd (pfM m)) κ (kcell (c, k))))
          ∗ (bigSep Finset.univ fun k : CellK => iprop(atPos ER (kcell (c, k)) 0 ∅ 0 ∗ reached ER (kcell (c, k)) 0)) ∗ toks c ∗ spare c) : sProp 𝕄)
      ⊢ bigSep Finset.univ (G' m) := by
  rw [bigSep_sep', bigSep_sep', bigSep_sep', ← bigSep_univ_prod (fun ck : Dev nD × CellK => iprop(∃ κ : ℕ, cellInv ER (gRd (pfM m)) κ (kcell ck))),
    bigSep_congr (s := Finset.univ) (fun (c : Dev nD) _ => bigSep_sep' Finset.univ (fun k : CellK => (atPos ER (kcell (c, k)) 0 ∅ 0 : sProp 𝕄)) (fun k => reached ER (kcell (c, k)) 0)),
    bigSep_sep', ← bigSep_univ_prod (fun ck : Dev nD × CellK => (reached ER (kcell ck) 0 : sProp 𝕄))]
  iintro ⟨HI, ⟨Hat, #HR⟩, Htok, Hsp⟩
  ihave HK := (BI.bigSep_exists_pi Finset.univ (fun (ck : Dev nD × CellK) (κ : ℕ) => (cellInv ER (gRd (pfM m)) κ (kcell ck) : sProp 𝕄))) $$ HI
  icases HK with ⟨%K, #HI⟩
  ihave Htk := (toks_around (F := F)) $$ Htok
  iapply (deal_persistent (R := records (pfM m) K) fun c _ => ghost_intro m K c)
  isplitr
  · unfold records
    isplitr
    · iexact HI
    iexact HR
  unfold linear
  rw [bigSep_sep', bigSep_sep']
  isplitl [Hat]
  · iexact Hat
  isplitl [Htk]
  · iexact Htk
  iexact Hsp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe one another -/

/-- Every device owes one other device's semaphore `k` a number of units: so every device is owed them there. -/
theorem owed_one (e : Dev nD ≃ Dev nD) (k : CellK) (n : ℕ) (c : Dev nD) :
    (Pipeline.launchCred (fun d => tallyAt (kcell (e d, k)) () n) c : sProp 𝕄) ⊢ cred (tallyAt (kcell (c, k)) () n) := by
  have h : tallyOn (kcell (c, k)) (launchCredit (Pipeline.owing fun d => tallyAt (kcell (e d, k)) () n) 0 (kcell (c, k)))
      = (tallyAt (kcell (c, k)) () n : CellTallies nD τ sig Unit) := by
    unfold tallyAt
    refine congrArg _ (Finsupp.ext fun u => ?_)
    cases u
    rw [Pipeline.launchCredit_owing, Finsupp.single_eq_same]
    rw [Finset.sum_eq_single (e.symm c)]
    · rw [e.apply_symm_apply]
      exact (tallyAt_apply _ _ _ _ _).trans (if_pos ⟨rfl, rfl⟩)
    · intro d _ hd
      refine (tallyAt_apply _ _ _ _ _).trans (if_neg fun h => hd ?_)
      rw [show c = e d from congrArg Prod.fst (kcell_injective h.1), e.symm_apply_apply]
    · intro h; exact absurd (Finset.mem_univ _) h
  exact (Pipeline.launchCred_elim _ c (csem k)).trans (Entails.of_eq (congrArg cred h))

theorem owed_all {I : Type} [DecidableEq I] (S : Finset I) (e : I → Dev nD ≃ Dev nD) (k : I → CellK) (n : I → ℕ) (c : Dev nD) :
    (Pipeline.launchCred (fun d => ∑ i ∈ S, tallyAt (kcell (e i d, k i)) () (n i)) c : sProp 𝕄) ⊢ bigSep S fun i => cred (tallyAt (kcell (c, k i)) () (n i)) := by
  induction S using Finset.induction_on with
  | empty =>
    rw [bigSep_empty]
    iintro -
    iempintro
  | insert i S hi ih =>
    rw [peel hi, show (fun d => ∑ i ∈ insert i S, tallyAt (kcell (e i d, k i)) () (n i))
      = fun d => tallyAt (kcell (e i d, k i)) () (n i) + ∑ i ∈ S, tallyAt (kcell (e i d, k i)) () (n i) from funext fun d => Finset.sum_insert hi,
      Pipeline.launchCred_add]
    have h := owed_one (F := F) (e i) (k i) (n i) c
    iintro ⟨H, H'⟩
    isplitl [H]
    · iapply h; iexact H
    iapply ih; iexact H'

theorem units (g : GSem nD τ sig) {I : Type} [DecidableEq I] (S : Finset I) : (bigSep S fun _ => (cred (tallyAt g () 1) : sProp 𝕄)) ⊢ cred (tallyAt g () S.card) := by
  induction S using Finset.induction_on with
  | empty =>
    rw [Finset.card_empty, tallyAt_zero, cred_zero, bigSep_empty]
    exact .refl
  | insert i S hi ih =>
    rw [peel hi, Finset.card_insert_of_notMem hi, ← tallyAt_add]
    iintro ⟨H, H'⟩
    iapply (cred_add _ _).2
    isplitr [H]
    · iapply ih; iexact H'
    iexact H

theorem creds (c : Dev nD) : (Pipeline.launchCred O₀ c : sProp 𝕄) ⊢ credsOf c := by
  have e : (O₀ : Dev nD → CellTallies nD τ sig Unit) = fun d => (Ow 0 d + Ox 0 d) + Ob 0 d := rfl
  rw [e, Pipeline.launchCred_add, Pipeline.launchCred_add]
  have hw := owed_all (F := F) (Finset.univ.filter fun s : Slot => 0 ≤ tStart s) dstEquiv (fun s => .inr (.inr s)) amt c
  have hx := owed_all (F := F) (Finset.univ.filter fun d : D => 0 ≤ d.val) nbrEquiv (fun _ => .inl true) (fun _ => 1) c
  have hb := owed_all (F := F) (Finset.univ.filter fun d : D => 0 ≤ d.val) nbrEquiv (fun _ => .inl false) (fun _ => 1) c
  rw [Finset.filter_true_of_mem (fun _ _ => Nat.zero_le _)] at hw hx hb
  unfold Ow Ox Ob credsOf
  rw [Finset.filter_true_of_mem (fun _ _ => Nat.zero_le _), Finset.filter_true_of_mem (fun _ _ => Nat.zero_le _)]
  iintro ⟨⟨Hw, Hx⟩, Hb⟩
  isplitl [Hb]
  · iapply (units (F := F) (barC c) (Finset.univ : Finset D))
    iapply hb; iexact Hb
  isplitl [Hx]
  · iapply (units (F := F) (exitC c) (Finset.univ : Finset D))
    iapply hx; iexact Hx
  iapply hw; iexact Hw

/-! ## The pipeline's proof data: one point, no window -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 100000 in
theorem body_obligation (c : Dev nD) : BodyObligation (dats (F := F) m 0 c) (defs₀ (F := F)) 𝒱₀ () Set.univ := fun t => by
  rw [show t = (t0_0 : Fin cfg0.N) from fin_N0 t]
  have e (Φ Ψ : Fin 0 → sProp 𝕄) : iprop(Φ₀ m c ∗ (dats m 0 c).owesAt () (t0_0 : Fin cfg0.N).castSucc ∗ bigSep Finset.univ Φ)
      ⊢ WP c (bodyAt0 t0_0) fun _ => iprop(Φ₁ m c ∗ (dats m 0 c).owesAt () (t0_0 : Fin cfg0.N).succ ∗ bigSep Finset.univ Ψ) := by
    rw [Finset.univ_eq_empty, bigSep_empty, bigSep_empty]
    unfold Dat.owesAt Pipeline.owesWithin
    rw [show (dats m 0 c).owed (t0_0 : Fin cfg0.N).castSucc = O₀ c from rfl, show (dats m 0 c).owed (t0_0 : Fin cfg0.N).succ = 0 from rfl]
    iintro ⟨H, ⟨%W, -, HO⟩, -⟩
    iapply (body_from m _ W)
    isplitl [H]
    · iexact H
    isplitl [HO]
    · iexact HO
    iintro ⟨H, %W', HO⟩
    isplitl [H]
    · iexact H
    isplitl [HO]
    · iexists W'
      isplitr
      · ipureintro; exact fun _ _ => Or.inl trivial
      iexact HO
    iempintro
  exact e _ _

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hd, Hw, Ho⟩, Hlev, Hcr, -, HG⟩
  ihave Hc := (creds (F := F) c) $$ Hcr
  imodintro
  unfold start
  isplitl
  · isplitl [HG]
    · iexact HG
    isplitl [Hc]
    · iexact Hc
    isplitl [Hlev]
    · iexact Hlev
    isplitl [Hd]
    · iexact Hd
    isplitl [Hw]
    · iexact Hw
    iexact Ho
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]
  · iexact Hs
  iexact Hr

theorem phi1_exit (c : Dev nD) :
    (dats m 0 c).Φ (Fin.last cfg0.N) ⊢ iprop((arrays m c ∗ unscopedSems0 c) ∗ Pipeline.ownSems0 osem c ∗ Pipeline.scopedRest cfg0.spec c) := by
  rw [show (dats m 0 c).Φ (Fin.last cfg0.N) = Φ₁ m c from rfl, scratch_eq]
  unfold Φ₁
  iintro H
  iexact H

theorem read_one (ℓ : Loc nD τ sig) (q : PosShare TreeShare) (f : Buf (Elt F) ℓ) (s' : Phys nD τ sig (Elt F)) :
    iprop((ℓ ↦[Finset.univ]{q} f) ∗ SI s') ⊢ (iprop(⌜s'.mem.mem ℓ = f⌝ ∗ SI s') : sProp 𝕄) := by
  iintro ⟨Hi, HSI⟩
  icombine HSI Hi gives %h
  isplitr
  · ipureintro; exact Buf.eq_of_forall_mem_univ h
  iexact HSI

/-- What the end of the run is, on device `c`. -/
def QC (c : Dev nD) (s : MemSt nD τ sig (Elt F)) : Prop :=
  s.mem ((c : Thread nD τ).loc main_v1) = OUT (pfM m) c
    ∧ s.mem ((c : Thread nD τ).loc main_arg0) = m ((c : Thread nD τ).loc main_arg0)
    ∧ s.mem ((c : Thread nD τ).loc main_arg1) = m ((c : Thread nD τ).loc main_arg1)

theorem read_end (c : Dev nD) (s' : Phys nD τ sig (Elt F)) :
    iprop((arrays m c ∗ unscopedSems0 c) ∗ emp ∗ SI s')
      ⊢ |={Set.univ}=> (iprop(⌜QC m c s'.mem ∧ ∀ sm : SemLoc sig, sm.isScoped .tc = false → s'.mem.sem ((c.tc : Thread nD τ), sm) = 0⌝ ∗ SI s') : sProp 𝕄) := by
  unfold arrays
  iintro ⟨⟨⟨Hd, Hw, Ho⟩, Hu⟩, -, HSI⟩
  ihave H := (read_one (F := F) _ _ _ s') $$ [Hd HSI]
  · isplitl [Hd]
    · iexact Hd
    iexact HSI
  icases H with ⟨%h0, HSI⟩
  ihave H := (read_one (F := F) _ _ _ s') $$ [Hw HSI]
  · isplitl [Hw]
    · iexact Hw
    iexact HSI
  icases H with ⟨%h1, HSI⟩
  ihave H := (read_one (F := F) _ _ _ s') $$ [Ho HSI]
  · isplitl [Ho]
    · iexact Ho
    iexact HSI
  icases H with ⟨%h2, HSI⟩
  imod (Pipeline.unscopedSems0_read (X := unscopedSems0 c) (c := c) fupd_intro s') $$ [Hu HSI] with ⟨%h3, HSI⟩
  · isplitl [Hu]
    · iexact Hu
    iexact HSI
  imodintro
  isplitr
  · ipureintro; exact ⟨⟨h2, h0, h1⟩, h3⟩
  iexact HSI

set_option maxRecDepth 100000 in
/-- Every run of the program ends with the result in place on every device, the arguments unchanged and every counter at zero. -/
theorem run_main : θ_run defs (onTc (τ := τ) (main (F := F))) (s₀ m ρ) (fun r => (∀ c, QC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      have hE : BI.own (((Emb.inl : Emb UB (UB × Counters)).trans embR) (initOf allCells allToks)) ⊢ (|==> bigSep Finset.univ (G m) : sProp 𝕄) := fund_all m
      iintro Hu
      ihave H := (ownU_pair _ _) $$ Hu
      icases H with ⟨HP, HX⟩
      ihave H := (own_pair_emb embR _ _) $$ HX
      icases H with ⟨HX, -⟩
      imod hE $$ HX with HG
      imodintro
      isplitl [HP]
      · iexact HP
      iexact HG)
    (hglob := glob m)
    (hA := fun _ w => w.elim0) (hpf := fun _ k => k.elim0)
    (X := start m) (Y := fun c => iprop(arrays m c ∗ unscopedSems0 c)) (Z := fun _ => iprop(emp))
    (hX := start_intro m ρ) (hin := phi0_intro m) (hout := phi1_exit m)
    (QY := fun c s => QC m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Gather

end
-- ==== Proof.Value.lean ====
module

public import proofs.«01_k».proof.Proof.Ends
public import Idealize.ShloMosaic.Lib.MatmulPlain
public import Idealize.ShloMosaic.Lib.StackMember
public import Idealize.ShloMosaic.Lib.ValueLayout
public import Idealize.ShloMosaic.Lib.Pipeline.Value
public import Idealize.ShloMosaic.Lib.Layout

@[expose] public section

noncomputable section

namespace Cert.Gather

open Cert.KernelIdeal Cert.KernelIdeal.Gen
open Idealize.ShloMosaic
open Idealize.ShloMosaic.TcCoe
open Idealize.ShloMosaic.ValueIdx (ix2 eq_ix2)

/-! # The value of the result, over the extended reals -/

variable (dym wm : Dev nD → DyB Ideal)

/-- The place `(p, q)` of a device's arrays, and of the whole arrays. -/
def gA (p q : ℕ) : S4096x8192.Idx := ix2 (Fin.ofNat 4096 p) (Fin.ofNat 8192 q)
def gW (p q : ℕ) : (⟨2, ![4096, 16384]⟩ : Shape).Idx := ix2 (Fin.ofNat 4096 p) (Fin.ofNat 16384 q)

/-- One term of the product of row `p` of `dy` and row `q` of the weights, as device `c` holds them. -/
def tm (c : Dev nD) (p q k : ℕ) : EReal := (dym c (gA p k) : EReal) * (wm c (gA q k) : EReal)

/-- A tile of the weights read at a place. -/
theorem w_tile {off : Fin 2 → ℕ} {w q o : ℕ} (hoff : off = ![q, o]) (inb : ∀ a, off a + ![w, 2048] a ≤ S4096x8192.size a) (c : Dev nD)
    (h : (⟨3, ![1, w, 2048]⟩ : Shape).ShapeCasts ⟨2, ![w, 2048]⟩) (n : Fin w) (k : Fin 2048) :
    shapeCast ⟨2, ![w, 2048]⟩ (wT wm off w inb c) h (ix2 n k) = wm c (gA (q + n.val) (o + k.val)) := by
  subst hoff
  have h0 : q + w ≤ 4096 := inb 0
  have h1 : o + 2048 ≤ 8192 := inb 1
  have e : shapeCast ⟨2, ![w, 2048]⟩ (wT wm ![q, o] w inb c) h (ix2 n k) = wm c ((wV ![q, o] w inb).view.emb (ix2 n k)) := by
    show wm c ((wV ![q, o] w inb).view.emb ((Shape.reshapeEquiv (numel_tile w)).symm (Shape.reshapeEquiv (numel_tile w) (ix2 n k)))) = _
    rw [Equiv.symm_apply_apply]
  rw [e]
  refine congrArg (wm c) (funext fun a => Fin.ext ?_)
  match a with
  | ⟨0, _⟩ =>
    show q + 1 * n.val = (q + n.val) % 4096
    have := n.isLt
    rw [Nat.mod_eq_of_lt (by omega), Nat.one_mul]
  | ⟨1, _⟩ =>
    show o + 1 * k.val = (o + k.val) % 8192
    have := k.isLt
    rw [Nat.mod_eq_of_lt (by omega), Nat.one_mul]

/-- The first of the device's own rows. -/
def row0 (c : Dev nD) : ℕ := 1024 * dy c + 256 * dz c
theorem off1_eq (c : Dev nD) : k0_off1 c = ![row0 c, 0] := by revert c; decide +kernel
theorem row0_le (c : Dev nD) : row0 c + 256 ≤ 4096 := by unfold row0 dy dz; omega

/-- A tile of `dy` read at a place. -/
theorem dy_tile (o : ℕ) (inb : ∀ a, ![0, o] a + S256x2048.size a ≤ S256x8192.size a) (c : Dev nD) (r : Fin 256) (k : Fin 2048) :
    dyK dym o inb c (ix2 r k) = dym c (gA (row0 c + r.val) (o + k.val)) := by
  have h1 : o + 2048 ≤ 8192 := inb 1
  have e0 : k0_off1 c 0 = row0 c := congrFun (off1_eq c) 0
  have e1 : k0_off1 c 1 = 0 := congrFun (off1_eq c) 1
  refine congrArg (dym c) (funext fun a => Fin.ext ?_)
  match a with
  | ⟨0, _⟩ =>
    show k0_off1 c 0 + 1 * (0 + 1 * r.val) = (row0 c + r.val) % 4096
    have := r.isLt
    have := row0_le c
    rw [e0, Nat.mod_eq_of_lt (by omega)]; omega
  | ⟨1, _⟩ =>
    show k0_off1 c 1 + 1 * (o + 1 * k.val) = (o + k.val) % 8192
    have := k.isLt
    rw [e1, Nat.mod_eq_of_lt (by omega)]; omega

/-- The product of a tile of `dy` and a tile of the weights. -/
theorem tile_dot {off : Fin 2 → ℕ} {w q o : ℕ} (hoff : off = ![q, o]) (inb : ∀ a, off a + ![w, 2048] a ≤ S4096x8192.size a)
    (inbd : ∀ a, ![0, o] a + S256x2048.size a ≤ S256x8192.size a) (c : Dev nD)
    (h : (⟨3, ![1, w, 2048]⟩ : Shape).ShapeCasts ⟨2, ![w, 2048]⟩) (r : Fin 256) (n : Fin w) :
    FloatOps.matmul (F := Ideal) (φ₁ := .f32) (φ₂ := .f32) (DotDims.transposedRhs 256 2048 w) none (dyK dym o inbd c) (shapeCast ⟨2, ![w, 2048]⟩ (wT wm off w inb c) h)
        (constant ⟨2, ![256, w]⟩ .f32 0x00000000#32) (ix2 r n)
      = ∑ k : Fin 2048, tm dym wm c (row0 c + r.val) (q + n.val) (o + k.val) := by
  rw [Ideal.matmul_transposedRhs_apply]
  refine (congrArg₂ (· + ·) (show _ = (0 : EReal) from Ideal.ofBits_zero_f32) (Finset.sum_congr rfl fun k _ => ?_)).trans (zero_add _)
  rw [w_tile wm hoff inb c h n k, dy_tile dym o inbd c r k]
  rfl

/-- Four stretches of a sum. -/
theorem four_sums (f : ℕ → EReal) {v0 v1 v2 v3 : EReal} (h0 : v0 = ∑ k : Fin 2048, f (0 + k.val)) (h1 : v1 = ∑ k : Fin 2048, f (2048 + k.val))
    (h2 : v2 = ∑ k : Fin 2048, f (4096 + k.val)) (h3 : v3 = ∑ k : Fin 2048, f (6144 + k.val)) : v0 + v1 + v2 + v3 = ∑ k : Fin 8192, f k.val := by
  rw [h0, h1, h2, h3, Fin.sum_univ_eq_sum_range (fun k => f (0 + k)) 2048, Fin.sum_univ_eq_sum_range (fun k => f (2048 + k)) 2048,
    Fin.sum_univ_eq_sum_range (fun k => f (4096 + k)) 2048, Fin.sum_univ_eq_sum_range (fun k => f (6144 + k)) 2048,
    Fin.sum_univ_eq_sum_range f 8192, show (8192 : ℕ) = 2048 + 2048 + 2048 + 2048 from rfl, Finset.sum_range_add, Finset.sum_range_add, Finset.sum_range_add]
  simp only [Nat.zero_add, Nat.reduceAdd]

theorem offA (c : Dev nD) : k0_off2 c = ![pcol 0 c, 0] ∧ k0_off3 c = ![pcol 0 c, 2048] ∧ k0_off5 c = ![pcol 0 c, 4096] ∧ k0_off6 c = ![pcol 0 c, 6144] := by
  revert c; decide +kernel
theorem offB (c : Dev nD) : k0_off7 c = ![pcol 1 c, 0] ∧ k0_off9 c = ![pcol 1 c, 2048] ∧ k0_off11 c = ![pcol 1 c, 4096] ∧ k0_off12 c = ![pcol 1 c, 6144] := by
  revert c; decide +kernel
theorem offC (c : Dev nD) : k0_off13 c = ![pcol 2 c, 0] ∧ k0_off15 c = ![pcol 2 c, 2048] ∧ k0_off17 c = ![pcol 2 c, 4096] ∧ k0_off18 c = ![pcol 2 c, 6144] := by
  revert c; decide +kernel

theorem accA3_val (c : Dev nD) (r : Fin 256) (n : Fin 1408) :
    accA3 dym wm c (ix2 r n) = ∑ k : Fin 8192, tm dym wm c (row0 c + r.val) (pcol 0 c + n.val) k.val := by
  obtain ⟨o0, o1, o2, o3⟩ := offA c
  unfold accA3 accA2 accA1 accA0 proA2 k0_pay5 k0_pay4 k0_pay3 k0_pay2 k0_pay1
  rw [show dot_S256x2048_S1408x2048_S256x1408_1_1_0_0_n_n = DotDims.transposedRhs 256 2048 1408 from rfl]
  simp only [shapeCast_self]
  exact four_sums (fun k => tm dym wm c (row0 c + r.val) (pcol 0 c + n.val) k) (tile_dot dym wm o0 _ _ c _ r n) (tile_dot dym wm o1 _ _ c _ r n)
    (tile_dot dym wm o2 _ _ c _ r n) (tile_dot dym wm o3 _ _ c _ r n)

theorem accB3_val (c : Dev nD) (r : Fin 256) (n : Fin 1536) :
    accB3 dym wm c (ix2 r n) = ∑ k : Fin 8192, tm dym wm c (row0 c + r.val) (pcol 1 c + n.val) k.val := by
  obtain ⟨o0, o1, o2, o3⟩ := offB c
  unfold accB3 accB2 accB1 accB0 k0_pay9 k0_pay8 k0_pay7 k0_pay6
  rw [show dot_S256x2048_S1536x2048_S256x1536_1_1_0_0_n_n = DotDims.transposedRhs 256 2048 1536 from rfl]
  simp only [shapeCast_self]
  exact four_sums (fun k => tm dym wm c (row0 c + r.val) (pcol 1 c + n.val) k) (tile_dot dym wm o0 _ _ c _ r n) (tile_dot dym wm o1 _ _ c _ r n)
    (tile_dot dym wm o2 _ _ c _ r n) (tile_dot dym wm o3 _ _ c _ r n)

theorem accC3_val (c : Dev nD) (r : Fin 256) (n : Fin 1152) :
    accC3 dym wm c (ix2 r n) = ∑ k : Fin 8192, tm dym wm c (row0 c + r.val) (pcol 2 c + n.val) k.val := by
  obtain ⟨o0, o1, o2, o3⟩ := offC c
  unfold accC3 accC2 accC1 accC0 k0_pay13 k0_pay12 k0_pay11 k0_pay10
  rw [show dot_S256x2048_S1152x2048_S256x1152_1_1_0_0_n_n = DotDims.transposedRhs 256 2048 1152 from rfl]
  simp only [shapeCast_self]
  exact four_sums (fun k => tm dym wm c (row0 c + r.val) (pcol 2 c + n.val) k) (tile_dot dym wm o0 _ _ c _ r n) (tile_dot dym wm o1 _ _ c _ r n)
    (tile_dot dym wm o2 _ _ c _ r n) (tile_dot dym wm o3 _ _ c _ r n)

theorem inBlk_eq (w o : ℕ) [NeZero w] (i : S256x4096.Idx) : inBlk w o i = ix2 (Fin.ofNat 256 (i 0).val) (Fin.ofNat w ((i 1).val - o)) := by
  funext a
  match a with
  | ⟨0, _⟩ => rfl
  | ⟨1, _⟩ => rfl

/-- The local product of device `c`: its rows of `dy` times all rows of the weights, over the contracted half it holds. -/
theorem pfOf_val (c : Dev nD) (i : S256x4096.Idx) : pfOf dym wm c i = ∑ k : Fin 8192, tm dym wm c (row0 c + (i 0).val) (i 1).val k.val := by
  have hx := dx_lt c
  have e0 : pcol 0 c = 1152 * (1 - dx c) := rfl
  have e1 : pcol 1 c = 1152 * (1 - dx c) + 1408 := rfl
  have e2 : pcol 2 c = 2944 * dx c := rfl
  have l0 : (i 0).val < 256 := (i 0).isLt
  have l1 : (i 1).val < 4096 := (i 1).isLt
  have r0 : (i 0).val % 256 = (i 0).val := Nat.mod_eq_of_lt l0
  unfold pfOf
  split_ifs with hA hB
  · rw [inBlk_eq, accA3_val]
    show ∑ k : Fin 8192, tm dym wm c (row0 c + (i 0).val % 256) (pcol 0 c + ((i 1).val - pcol 0 c) % 1408) k.val = _
    rw [r0, Nat.mod_eq_of_lt (by omega), Nat.add_sub_cancel' (by omega)]
  · rw [inBlk_eq, accB3_val]
    show ∑ k : Fin 8192, tm dym wm c (row0 c + (i 0).val % 256) (pcol 1 c + ((i 1).val - pcol 1 c) % 1536) k.val = _
    rw [r0, Nat.mod_eq_of_lt (by omega), Nat.add_sub_cancel' (by omega)]
  · rw [inBlk_eq, accC3_val]
    show ∑ k : Fin 8192, tm dym wm c (row0 c + (i 0).val % 256) (pcol 2 c + ((i 1).val - pcol 2 c) % 1152) k.val = _
    rw [r0, Nat.mod_eq_of_lt (by omega), Nat.add_sub_cancel' (by omega)]

/-! ## The whole arrays -/

abbrev Whole : Type := (⟨2, ![4096, 16384]⟩ : Shape).Idx → Elt Ideal .f32
variable (Dy Wt : Whole)

/-- One term of the product of row `p` of the whole `dy` and row `q` of the whole weights. -/
def tW (p q k : ℕ) : EReal := (Dy (gW p k) : EReal) * (Wt (gW q k) : EReal)

/-- A device's block of a whole array, read at a place. -/
theorem block_at (V : Whole) (c : Dev nD) (p : ℕ) {k : ℕ} (hk : k < 8192) :
    Layout.blockN ⟨2, ![4096, 8192]⟩ ⟨2, ![4096, 16384]⟩ (Layout.meshBlock [2, 4, 4] ![[], [0]] c) V (by decide) (gA p k) = V (gW p (8192 * dx c + k)) := by
  have hx := dx_lt c
  refine congrArg V (funext fun a => Fin.ext ?_)
  match a with
  | ⟨0, _⟩ =>
    show 0 * 4096 + p % 4096 = p % 4096
    omega
  | ⟨1, _⟩ =>
    show (c.val / 16 % 2 * 1 + 0) * 8192 + k % 8192 = (8192 * dx c + k) % 16384
    unfold dx at hx ⊢
    omega

variable {dym wm Dy Wt}

theorem tm_eq {c : Dev nD} (hd : dym c = Layout.blockN ⟨2, ![4096, 8192]⟩ ⟨2, ![4096, 16384]⟩ (Layout.meshBlock [2, 4, 4] ![[], [0]] c) Dy (by decide))
    (hw : wm c = Layout.blockN ⟨2, ![4096, 8192]⟩ ⟨2, ![4096, 16384]⟩ (Layout.meshBlock [2, 4, 4] ![[], [0]] c) Wt (by decide)) (p q : ℕ) {k : ℕ} (hk : k < 8192) :
    tm dym wm c p q k = tW Dy Wt p q (8192 * dx c + k) := by
  unfold tm tW
  rw [hd, hw, block_at Dy c p hk, block_at Wt c q hk]

theorem two_sums (f : ℕ → EReal) : (∑ k : Fin 8192, f (8192 * 0 + k.val)) + ∑ k : Fin 8192, f (8192 * 1 + k.val) = ∑ k : Fin 16384, f k.val := by
  rw [Fin.sum_univ_eq_sum_range (fun k => f (8192 * 0 + k)) 8192, Fin.sum_univ_eq_sum_range (fun k => f (8192 * 1 + k)) 8192,
    Fin.sum_univ_eq_sum_range f 16384, show (16384 : ℕ) = 8192 + 8192 from rfl, Finset.sum_range_add]
  simp only [Nat.mul_zero, Nat.zero_add, Nat.mul_one]

/-- The result on every device: the product of the whole arrays. -/
theorem OUT_val (hd : ∀ c, dym c = Layout.blockN ⟨2, ![4096, 8192]⟩ ⟨2, ![4096, 16384]⟩ (Layout.meshBlock [2, 4, 4] ![[], [0]] c) Dy (by decide))
    (hw : ∀ c, wm c = Layout.blockN ⟨2, ![4096, 8192]⟩ ⟨2, ![4096, 16384]⟩ (Layout.meshBlock [2, 4, 4] ![[], [0]] c) Wt (by decide)) (c : Dev nD) (i : S4096x4096.Idx) :
    OUT (pfOf dym wm) c i = ∑ k : Fin 16384, tW Dy Wt (i 0).val (i 1).val k.val := by
  have l0 : (i 0).val < 4096 := (i 0).isLt
  have l1 : (i 1).val < 4096 := (i 1).isLt
  have hx := dx_lt c
  have at3_x {x y z : ℕ} (h1 : x < 2) (h2 : y < 4) (h3 : z < 4) : dx (at3 x y z) = x := by
    show (16 * x + 4 * y + z) % 32 / 16 = x; omega
  have at3_y {x y z : ℕ} (h1 : x < 2) (h2 : y < 4) (h3 : z < 4) : dy (at3 x y z) = y := by
    show (16 * x + 4 * y + z) % 32 / 4 % 4 = y; omega
  have at3_z {x y z : ℕ} (h1 : x < 2) (h2 : y < 4) (h3 : z < 4) : dz (at3 x y z) = z := by
    show (16 * x + 4 * y + z) % 32 % 4 = z; omega
  have hy : (i 0).val / 1024 < 4 := by omega
  have hz : (i 0).val / 256 % 4 < 4 := by omega
  have key (x : ℕ) (h1 : x < 2) : pfOf dym wm (at3 x ((i 0).val / 1024) ((i 0).val / 256 % 4)) (ix (i 0).val (i 1).val)
      = ∑ k : Fin 8192, tW Dy Wt (i 0).val (i 1).val (8192 * x + k.val) := by
    rw [pfOf_val]
    refine Finset.sum_congr rfl fun k _ => ?_
    rw [tm_eq (hd _) (hw _) _ _ k.isLt, at3_x h1 hy hz]
    have e0 : row0 (at3 x ((i 0).val / 1024) ((i 0).val / 256 % 4)) + (ix (i 0).val (i 1).val 0).val = (i 0).val := by
      unfold row0
      rw [at3_y h1 hy hz, at3_z h1 hy hz]
      show 1024 * ((i 0).val / 1024) + 256 * ((i 0).val / 256 % 4) + (i 0).val % 256 = _
      omega
    have e1 : (ix (i 0).val (i 1).val 1).val = (i 1).val := Nat.mod_eq_of_lt l1
    rw [e0, e1]
  unfold OUT SUM
  generalize hX : (if own c (i 1).val then dx c else 1 - dx c) = x
  have hx2 : x < 2 := by rw [← hX]; split_ifs <;> omega
  unfold partner
  rw [at3_x hx2 hy hz, at3_y hx2 hy hz, at3_z hx2 hy hz, key x hx2, key (1 - x) (by omega)]
  have hc : x = 0 ∨ x = 1 := by omega
  rcases hc with rfl | rfl
  · exact two_sums _
  · exact (add_comm _ _).trans (two_sums _)

/-- The reference's product of the whole arrays, read at a place. -/
theorem ref_val (h : (⟨2, ![4096, 16384]⟩ : Shape).Transposes [1, 0] ⟨2, ![16384, 4096]⟩) (i : (⟨2, ![4096, 4096]⟩ : Shape).Idx) :
    Host.dotGeneral (F := Ideal) (φ₁ := .f32) (φ₂ := .f32) (DotDims.plain 4096 16384 4096) none Dy (transpose ⟨2, ![16384, 4096]⟩ [1, 0] Wt h) i
      = ∑ k : Fin 16384, tW Dy Wt (i 0).val (i 1).val k.val := by
  have l0 : (i 0).val < 4096 := (i 0).isLt
  have l1 : (i 1).val < 4096 := (i 1).isLt
  have e (p : Fin 4096) (k : Fin 16384) : gW p.val k.val = ix2 p k := by
    funext a
    match a with
    | ⟨0, _⟩ => exact Fin.ext (Nat.mod_eq_of_lt p.isLt)
    | ⟨1, _⟩ => exact Fin.ext (Nat.mod_eq_of_lt k.isLt)
  have hk (p q : Fin 4096) (k : Fin 16384) : (Dy (ix2 p k) : EReal) * (transpose ⟨2, ![16384, 4096]⟩ [1, 0] Wt h (ix2 k q) : EReal) = tW Dy Wt p.val q.val k.val := by
    rw [ValueIdx.transpose_ix2_apply]
    unfold tW
    rw [e, e]
  have h1 := StackMember.dotGeneral_plain_apply (φ₁ := .f32) (φ₂ := .f32) none Dy (transpose ⟨2, ![16384, 4096]⟩ [1, 0] Wt h) (i 0) (i 1)
  refine (congrArg (Host.dotGeneral (F := Ideal) (φ₁ := .f32) (φ₂ := .f32) (DotDims.plain 4096 16384 4096) none Dy (transpose ⟨2, ![16384, 4096]⟩ [1, 0] Wt h)) (eq_ix2 i)).trans (h1.trans (Finset.sum_congr rfl fun k _ => ?_))
  exact hk (i 0) (i 1) k

/-- The product of the whole `dy` and the whole weights, transposed. -/
def PROD (Dy Wt : Whole) : (⟨2, ![4096, 4096]⟩ : Shape).Idx → Elt Ideal .f32 := fun i => ∑ k : Fin 16384, tW Dy Wt (i 0).val (i 1).val k.val

theorem OUT_eq (hd : ∀ c, dym c = Layout.blockN ⟨2, ![4096, 8192]⟩ ⟨2, ![4096, 16384]⟩ (Layout.meshBlock [2, 4, 4] ![[], [0]] c) Dy (by decide))
    (hw : ∀ c, wm c = Layout.blockN ⟨2, ![4096, 8192]⟩ ⟨2, ![4096, 16384]⟩ (Layout.meshBlock [2, 4, 4] ![[], [0]] c) Wt (by decide)) (c : Dev nD) :
    OUT (pfOf dym wm) c = PROD Dy Wt := funext fun i => OUT_val hd hw c i

theorem ref_eq (h : (⟨2, ![4096, 16384]⟩ : Shape).Transposes [1, 0] ⟨2, ![16384, 4096]⟩) :
    Host.dotGeneral (F := Ideal) (φ₁ := .f32) (φ₂ := .f32) (DotDims.plain 4096 16384 4096) none Dy (transpose ⟨2, ![16384, 4096]⟩ [1, 0] Wt h) = PROD Dy Wt :=
  funext fun i => ref_val h i

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The kernel as it is runs as its reading over the extended reals does: the run is proved for any float values. -/
theorem frame_kernel : Cert.quiescent_Kernel := fun m ρ _ =>
  (θ_run Cert.KernelIdeal.defs _ _).mono (fun _ h => ⟨fun c => (h.1 c).2, h.2⟩) (Cert.Gather.run_main (F := Bits) m ρ)

theorem frame_ideal : Cert.quiescent_KernelIdeal := fun m ρ _ =>
  (θ_run Cert.KernelIdeal.defs _ _).mono (fun _ h => ⟨fun c => (h.1 c).2, h.2⟩) (Cert.Gather.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the whole product of the reference's arrays. -/
theorem algebraic : Cert.algebraic_KernelIdeal_ReferenceIdeal := fun m ρ m' ρ' _ hag =>
  ⟨Cert.Gather.PROD (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.Gather.OUT_eq (fun c => (hag c).1) (fun c => (hag c).2) c), (h.1 c).2⟩)
      (Cert.Gather.run_main (F := Ideal) m ρ),
    (θ_run Cert.ReferenceIdeal.defs _ _).mono (fun _ h => ⟨(h 0).1.trans (Cert.Gather.ref_eq _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
